-- ==== Defs.lean ====
def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnRefIdeal (m : (ℓ : Loc Cert.OutFfnRefIdeal.nD Cert.OutFfnRefIdeal.τ Cert.OutFfnRefIdeal.sig) → Buf (Elt Ideal) ℓ) : Prop :=
  True

def Pre_OutFfnLast (m : (ℓ : Loc Cert.OutFfnLast.nD Cert.OutFfnLast.τ Cert.OutFfnLast.sig) → Buf (Elt Bits) ℓ) : Prop :=
  True

def Pre_OutFfnLastIdeal (m : (ℓ : Loc Cert.OutFfnLastIdeal.nD Cert.OutFfnLastIdeal.τ Cert.OutFfnLastIdeal.sig) → Buf (Elt Ideal) ℓ) : Prop :=
  True

def Pre_OutFfnLastRefIdeal (m : (ℓ : Loc Cert.OutFfnLastRefIdeal.nD Cert.OutFfnLastRefIdeal.τ Cert.OutFfnLastRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_OutFfnFirst (m : (ℓ : Loc Cert.OutFfnFirst.nD Cert.OutFfnFirst.τ Cert.OutFfnFirst.sig) → Buf (Elt Bits) ℓ) : Prop :=
  True

def Pre_OutFfnFirstIdeal (m : (ℓ : Loc Cert.OutFfnFirstIdeal.nD Cert.OutFfnFirstIdeal.τ Cert.OutFfnFirstIdeal.sig) → Buf (Elt Ideal) ℓ) : Prop :=
  True

def Pre_OutFfnFirstRefIdeal (m : (ℓ : Loc Cert.OutFfnFirstRefIdeal.nD Cert.OutFfnFirstRefIdeal.τ Cert.OutFfnFirstRefIdeal.sig) → Buf (Elt Ideal) ℓ) : Prop :=
  True

def Pre_InProjFirst (m : (ℓ : Loc Cert.InProjFirst.nD Cert.InProjFirst.τ Cert.InProjFirst.sig) → Buf (Elt Bits) ℓ) : Prop :=
  True

def Pre_InProjFirstIdeal (m : (ℓ : Loc Cert.InProjFirstIdeal.nD Cert.InProjFirstIdeal.τ Cert.InProjFirstIdeal.sig) → Buf (Elt Ideal) ℓ) : Prop :=
  True

def Pre_InProjFirstRefIdeal (m : (ℓ : Loc Cert.InProjFirstRefIdeal.nD Cert.InProjFirstRefIdeal.τ Cert.InProjFirstRefIdeal.sig) → Buf (Elt Ideal) ℓ) : Prop :=
  True

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6)
      ∧ r.2.mem ((c.tc : Thread Cert.Mlstm.nD Cert.Mlstm.τ).loc Cert.Mlstm.main_arg7) = m ((c.tc : Thread Cert.Mlstm.nD Cert.Mlstm.τ).loc Cert.Mlstm.main_arg7))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8)
      ∧ r.2.mem ((c.tc : Thread Cert.OutFfn.nD Cert.OutFfn.τ).loc Cert.OutFfn.main_arg9) = m ((c.tc : Thread Cert.OutFfn.nD Cert.OutFfn.τ).loc Cert.OutFfn.main_arg9))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
      ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9))
      ∧ r.2.sem = fun _ => 0)

def quiescent_OutFfnRefIdeal [hOutFfnRefIdeal : Cert.OutFfnRefIdeal.Facts] : Prop :=
  ∀ (m : (ℓ : Loc Cert.OutFfnRefIdeal.nD Cert.OutFfnRefIdeal.τ Cert.OutFfnRefIdeal.sig) → Buf (Elt Ideal) ℓ) (g : Dev Cert.OutFfnRefIdeal.nD → PrngReg), Pre_OutFfnRefIdeal m →
    θ_run (Cert.OutFfnRefIdeal.defs (F := Ideal)) (onTc (τ := Cert.OutFfnRefIdeal.τ) (Cert.OutFfnRefIdeal.main (F := Ideal))) ⟨m, fun _ => 0, g⟩ (fun r => (∀ c : Dev Cert.OutFfnRefIdeal.nD,
      r.2.mem ((c.tc : Thread Cert.OutFfnRefIdeal.nD Cert.OutFfnRefIdeal.τ).loc Cert.OutFfnRefIdeal.main_arg0) = m ((c.tc : Thread Cert.OutFfnRefIdeal.nD Cert.OutFfnRefIdeal.τ).loc Cert.OutFfnRefIdeal.main_arg0)
      ∧ r.2.mem ((c.tc : Thread Cert.OutFfnRefIdeal.nD Cert.OutFfnRefIdeal.τ).loc Cert.OutFfnRefIdeal.main_arg1) = m ((c.tc : Thread Cert.OutFfnRefIdeal.nD Cert.OutFfnRefIdeal.τ).loc Cert.OutFfnRefIdeal.main_arg1)
      ∧ r.2.mem ((c.tc : Thread Cert.OutFfnRefIdeal.nD Cert.OutFfnRefIdeal.τ).loc Cert.OutFfnRefIdeal.main_arg2) = m ((c.tc : Thread Cert.OutFfnRefIdeal.nD Cert.OutFfnRefIdeal.τ).loc Cert.OutFfnRefIdeal.main_arg2)
      ∧ r.2.mem ((c.tc : Thread Cert.OutFfnRefIdeal.nD Cert.OutFfnRefIdeal.τ).loc Cert.OutFfnRefIdeal.main_arg3) = m ((c.tc : Thread Cert.OutFfnRefIdeal.nD Cert.OutFfnRefIdeal.τ).loc Cert.OutFfnRefIdeal.main_arg3)
      ∧ r.2.mem ((c.tc : Thread Cert.OutFfnRefIdeal.nD Cert.OutFfnRefIdeal.τ).loc Cert.OutFfnRefIdeal.main_arg4) = m ((c.tc : Thread Cert.OutFfnRefIdeal.nD Cert.OutFfnRefIdeal.τ).loc Cert.OutFfnRefIdeal.main_arg4)
      ∧ r.2.mem ((c.tc : Thread Cert.OutFfnRefIdeal.nD Cert.OutFfnRefIdeal.τ).loc Cert.OutFfnRefIdeal.main_arg5) = m ((c.tc : Thread Cert.OutFfnRefIdeal.nD Cert.OutFfnRefIdeal.τ).loc Cert.OutFfnRefIdeal.main_arg5)
      ∧ r.2.mem ((c.tc : Thread Cert.OutFfnRefIdeal.nD Cert.OutFfnRefIdeal.τ).loc Cert.OutFfnRefIdeal.main_arg6) = m ((c.tc : Thread Cert.OutFfnRefIdeal.nD Cert.OutFfnRefIdeal.τ).loc Cert.OutFfnRefIdeal.main_arg6)
      ∧ r.2.mem ((c.tc : Thread Cert.OutFfnRefIdeal.nD Cert.OutFfnRefIdeal.τ).loc Cert.OutFfnRefIdeal.main_arg7) = m ((c.tc : Thread Cert.OutFfnRefIdeal.nD Cert.OutFfnRefIdeal.τ).loc Cert.OutFfnRefIdeal.main_arg7)
      ∧ r.2.mem ((c.tc : Thread Cert.OutFfnRefIdeal.nD Cert.OutFfnRefIdeal.τ).loc Cert.OutFfnRefIdeal.main_arg8) = m ((c.tc : Thread Cert.OutFfnRefIdeal.nD Cert.OutFfnRefIdeal.τ).loc Cert.OutFfnRefIdeal.main_arg8)
      ∧ r.2.mem ((c.tc : Thread Cert.OutFfnRefIdeal.nD Cert.OutFfnRefIdeal.τ).loc Cert.OutFfnRefIdeal.main_arg9) = m ((c.tc : Thread Cert.OutFfnRefIdeal.nD Cert.OutFfnRefIdeal.τ).loc Cert.OutFfnRefIdeal.main_arg9))
      ∧ r.2.sem = fun _ => 0)

def quiescent_OutFfnLast [hOutFfnLast : Cert.OutFfnLast.Facts] : Prop :=
  ∀ (m : (ℓ : Loc Cert.OutFfnLast.nD Cert.OutFfnLast.τ Cert.OutFfnLast.sig) → Buf (Elt Bits) ℓ) (g : Dev Cert.OutFfnLast.nD → PrngReg), Pre_OutFfnLast m →
    θ_run (Cert.OutFfnLast.defs (F := Bits)) (onTc (τ := Cert.OutFfnLast.τ) (Cert.OutFfnLast.main (F := Bits))) ⟨m, fun _ => 0, g⟩ (fun r => (∀ c : Dev Cert.OutFfnLast.nD,
      r.2.mem ((c.tc : Thread Cert.OutFfnLast.nD Cert.OutFfnLast.τ).loc Cert.OutFfnLast.main_arg0) = m ((c.tc : Thread Cert.OutFfnLast.nD Cert.OutFfnLast.τ).loc Cert.OutFfnLast.main_arg0)
      ∧ r.2.mem ((c.tc : Thread Cert.OutFfnLast.nD Cert.OutFfnLast.τ).loc Cert.OutFfnLast.main_arg1) = m ((c.tc : Thread Cert.OutFfnLast.nD Cert.OutFfnLast.τ).loc Cert.OutFfnLast.main_arg1)
      ∧ r.2.mem ((c.tc : Thread Cert.OutFfnLast.nD Cert.OutFfnLast.τ).loc Cert.OutFfnLast.main_arg2) = m ((c.tc : Thread Cert.OutFfnLast.nD Cert.OutFfnLast.τ).loc Cert.OutFfnLast.main_arg2)
      ∧ r.2.mem ((c.tc : Thread Cert.OutFfnLast.nD Cert.OutFfnLast.τ).loc Cert.OutFfnLast.main_arg3) = m ((c.tc : Thread Cert.OutFfnLast.nD Cert.OutFfnLast.τ).loc Cert.OutFfnLast.main_arg3)
      ∧ r.2.mem ((c.tc : Thread Cert.OutFfnLast.nD Cert.OutFfnLast.τ).loc Cert.OutFfnLast.main_arg4) = m ((c.tc : Thread Cert.OutFfnLast.nD Cert.OutFfnLast.τ).loc Cert.OutFfnLast.main_arg4)
      ∧ r.2.mem ((c.tc : Thread Cert.OutFfnLast.nD Cert.OutFfnLast.τ).loc Cert.OutFfnLast.main_arg5) = m ((c.tc : Thread Cert.OutFfnLast.nD Cert.OutFfnLast.τ).loc Cert.OutFfnLast.main_arg5)
      ∧ r.2.mem ((c.tc : Thread Cert.OutFfnLast.nD Cert.OutFfnLast.τ).loc Cert.OutFfnLast.main_arg6) = m ((c.tc : Thread Cert.OutFfnLast.nD Cert.OutFfnLast.τ).loc Cert.OutFfnLast.main_arg6)
      ∧ r.2.mem ((c.tc : Thread Cert.OutFfnLast.nD Cert.OutFfnLast.τ).loc Cert.OutFfnLast.main_arg7) = m ((c.tc : Thread Cert.OutFfnLast.nD Cert.OutFfnLast.τ).loc Cert.OutFfnLast.main_arg7)
      ∧ r.2.mem ((c.tc : Thread Cert.OutFfnLast.nD Cert.OutFfnLast.τ).loc Cert.OutFfnLast.main_arg8) = m ((c.tc : Thread Cert.OutFfnLast.nD Cert.OutFfnLast.τ).loc Cert.OutFfnLast.main_arg8)
      ∧ r.2.mem ((c.tc : Thread Cert.OutFfnLast.nD Cert.OutFfnLast.τ).loc Cert.OutFfnLast.main_arg9) = m ((c.tc : Thread Cert.OutFfnLast.nD Cert.OutFfnLast.τ).loc Cert.OutFfnLast.main_arg9))
      ∧ r.2.sem = fun _ => 0)

def quiescent_OutFfnLastIdeal [hOutFfnLastIdeal : Cert.OutFfnLastIdeal.Facts] : Prop :=
  ∀ (m : (ℓ : Loc Cert.OutFfnLastIdeal.nD Cert.OutFfnLastIdeal.τ Cert.OutFfnLastIdeal.sig) → Buf (Elt Ideal) ℓ) (g : Dev Cert.OutFfnLastIdeal.nD → PrngReg), Pre_OutFfnLastIdeal m →
    θ_run (Cert.OutFfnLastIdeal.defs (F := Ideal)) (onTc (τ := Cert.OutFfnLastIdeal.τ) (Cert.OutFfnLastIdeal.main (F := Ideal))) ⟨m, fun _ => 0, g⟩ (fun r => (∀ c : Dev Cert.OutFfnLastIdeal.nD,
      r.2.mem ((c.tc : Thread Cert.OutFfnLastIdeal.nD Cert.OutFfnLastIdeal.τ).loc Cert.OutFfnLastIdeal.main_arg0) = m ((c.tc : Thread Cert.OutFfnLastIdeal.nD Cert.OutFfnLastIdeal.τ).loc Cert.OutFfnLastIdeal.main_arg0)
      ∧ r.2.mem ((c.tc : Thread Cert.OutFfnLastIdeal.nD Cert.OutFfnLastIdeal.τ).loc Cert.OutFfnLastIdeal.main_arg1) = m ((c.tc : Thread Cert.OutFfnLastIdeal.nD Cert.OutFfnLastIdeal.τ).loc Cert.OutFfnLastIdeal.main_arg1)
      ∧ r.2.mem ((c.tc : Thread Cert.OutFfnLastIdeal.nD Cert.OutFfnLastIdeal.τ).loc Cert.OutFfnLastIdeal.main_arg2) = m ((c.tc : Thread Cert.OutFfnLastIdeal.nD Cert.OutFfnLastIdeal.τ).loc Cert.OutFfnLastIdeal.main_arg2)
      ∧ r.2.mem ((c.tc : Thread Cert.OutFfnLastIdeal.nD Cert.OutFfnLastIdeal.τ).loc Cert.OutFfnLastIdeal.main_arg3) = m ((c.tc : Thread Cert.OutFfnLastIdeal.nD Cert.OutFfnLastIdeal.τ).loc Cert.OutFfnLastIdeal.main_arg3)
      ∧ r.2.mem ((c.tc : Thread Cert.OutFfnLastIdeal.nD Cert.OutFfnLastIdeal.τ).loc Cert.OutFfnLastIdeal.main_arg4) = m ((c.tc : Thread Cert.OutFfnLastIdeal.nD Cert.OutFfnLastIdeal.τ).loc Cert.OutFfnLastIdeal.main_arg4)
      ∧ r.2.mem ((c.tc : Thread Cert.OutFfnLastIdeal.nD Cert.OutFfnLastIdeal.τ).loc Cert.OutFfnLastIdeal.main_arg5) = m ((c.tc : Thread Cert.OutFfnLastIdeal.nD Cert.OutFfnLastIdeal.τ).loc Cert.OutFfnLastIdeal.main_arg5)
      ∧ r.2.mem ((c.tc : Thread Cert.OutFfnLastIdeal.nD Cert.OutFfnLastIdeal.τ).loc Cert.OutFfnLastIdeal.main_arg6) = m ((c.tc : Thread Cert.OutFfnLastIdeal.nD Cert.OutFfnLastIdeal.τ).loc Cert.OutFfnLastIdeal.main_arg6)
      ∧ r.2.mem ((c.tc : Thread Cert.OutFfnLastIdeal.nD Cert.OutFfnLastIdeal.τ).loc Cert.OutFfnLastIdeal.main_arg7) = m ((c.tc : Thread Cert.OutFfnLastIdeal.nD Cert.OutFfnLastIdeal.τ).loc Cert.OutFfnLastIdeal.main_arg7)
      ∧ r.2.mem ((c.tc : Thread Cert.OutFfnLastIdeal.nD Cert.OutFfnLastIdeal.τ).loc Cert.OutFfnLastIdeal.main_arg8) = m ((c.tc : Thread Cert.OutFfnLastIdeal.nD Cert.OutFfnLastIdeal.τ).loc Cert.OutFfnLastIdeal.main_arg8)
      ∧ r.2.mem ((c.tc : Thread Cert.OutFfnLastIdeal.nD Cert.OutFfnLastIdeal.τ).loc Cert.OutFfnLastIdeal.main_arg9) = m ((c.tc : Thread Cert.OutFfnLastIdeal.nD Cert.OutFfnLastIdeal.τ).loc Cert.OutFfnLastIdeal.main_arg9))
      ∧ r.2.sem = fun _ => 0)

def quiescent_OutFfnLastRefIdeal [hOutFfnLastRefIdeal : Cert.OutFfnLastRefIdeal.Facts] : Prop :=
  ∀ (m : (ℓ : Loc Cert.OutFfnLastRefIdeal.nD Cert.OutFfnLastRefIdeal.τ Cert.OutFfnLastRefIdeal.sig) → Buf (Elt Ideal) ℓ) (g : Dev Cert.OutFfnLastRefIdeal.nD → PrngReg), Pre_OutFfnLastRefIdeal m →
    θ_run (Cert.OutFfnLastRefIdeal.defs (F := Ideal)) (onTc (τ := Cert.OutFfnLastRefIdeal.τ) (Cert.OutFfnLastRefIdeal.main (F := Ideal))) ⟨m, fun _ => 0, g⟩ (fun r => (∀ c : Dev Cert.OutFfnLastRefIdeal.nD,
      r.2.mem ((c.tc : Thread Cert.OutFfnLastRefIdeal.nD Cert.OutFfnLastRefIdeal.τ).loc Cert.OutFfnLastRefIdeal.main_arg0) = m ((c.tc : Thread Cert.OutFfnLastRefIdeal.nD Cert.OutFfnLastRefIdeal.τ).loc Cert.OutFfnLastRefIdeal.main_arg0)
      ∧ r.2.mem ((c.tc : Thread Cert.OutFfnLastRefIdeal.nD Cert.OutFfnLastRefIdeal.τ).loc Cert.OutFfnLastRefIdeal.main_arg1) = m ((c.tc : Thread Cert.OutFfnLastRefIdeal.nD Cert.OutFfnLastRefIdeal.τ).loc Cert.OutFfnLastRefIdeal.main_arg1)
      ∧ r.2.mem ((c.tc : Thread Cert.OutFfnLastRefIdeal.nD Cert.OutFfnLastRefIdeal.τ).loc Cert.OutFfnLastRefIdeal.main_arg2) = m ((c.tc : Thread Cert.OutFfnLastRefIdeal.nD Cert.OutFfnLastRefIdeal.τ).loc Cert.OutFfnLastRefIdeal.main_arg2)
      ∧ r.2.mem ((c.tc : Thread Cert.OutFfnLastRefIdeal.nD Cert.OutFfnLastRefIdeal.τ).loc Cert.OutFfnLastRefIdeal.main_arg3) = m ((c.tc : Thread Cert.OutFfnLastRefIdeal.nD Cert.OutFfnLastRefIdeal.τ).loc Cert.OutFfnLastRefIdeal.main_arg3)
      ∧ r.2.mem ((c.tc : Thread Cert.OutFfnLastRefIdeal.nD Cert.OutFfnLastRefIdeal.τ).loc Cert.OutFfnLastRefIdeal.main_arg4) = m ((c.tc : Thread Cert.OutFfnLastRefIdeal.nD Cert.OutFfnLastRefIdeal.τ).loc Cert.OutFfnLastRefIdeal.main_arg4)
      ∧ r.2.mem ((c.tc : Thread Cert.OutFfnLastRefIdeal.nD Cert.OutFfnLastRefIdeal.τ).loc Cert.OutFfnLastRefIdeal.main_arg5) = m ((c.tc : Thread Cert.OutFfnLastRefIdeal.nD Cert.OutFfnLastRefIdeal.τ).loc Cert.OutFfnLastRefIdeal.main_arg5)
      ∧ r.2.mem ((c.tc : Thread Cert.OutFfnLastRefIdeal.nD Cert.OutFfnLastRefIdeal.τ).loc Cert.OutFfnLastRefIdeal.main_arg6) = m ((c.tc : Thread Cert.OutFfnLastRefIdeal.nD Cert.OutFfnLastRefIdeal.τ).loc Cert.OutFfnLastRefIdeal.main_arg6)
      ∧ r.2.mem ((c.tc : Thread Cert.OutFfnLastRefIdeal.nD Cert.OutFfnLastRefIdeal.τ).loc Cert.OutFfnLastRefIdeal.main_arg7) = m ((c.tc : Thread Cert.OutFfnLastRefIdeal.nD Cert.OutFfnLastRefIdeal.τ).loc Cert.OutFfnLastRefIdeal.main_arg7)
      ∧ r.2.mem ((c.tc : Thread Cert.OutFfnLastRefIdeal.nD Cert.OutFfnLastRefIdeal.τ).loc Cert.OutFfnLastRefIdeal.main_arg8) = m ((c.tc : Thread Cert.OutFfnLastRefIdeal.nD Cert.OutFfnLastRefIdeal.τ).loc Cert.OutFfnLastRefIdeal.main_arg8)
      ∧ r.2.mem ((c.tc : Thread Cert.OutFfnLastRefIdeal.nD Cert.OutFfnLastRefIdeal.τ).loc Cert.OutFfnLastRefIdeal.main_arg9) = m ((c.tc : Thread Cert.OutFfnLastRefIdeal.nD Cert.OutFfnLastRefIdeal.τ).loc Cert.OutFfnLastRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_OutFfnFirst [hOutFfnFirst : Cert.OutFfnFirst.Facts] : Prop :=
  ∀ (m : (ℓ : Loc Cert.OutFfnFirst.nD Cert.OutFfnFirst.τ Cert.OutFfnFirst.sig) → Buf (Elt Bits) ℓ) (g : Dev Cert.OutFfnFirst.nD → PrngReg), Pre_OutFfnFirst m →
    θ_run (Cert.OutFfnFirst.defs (F := Bits)) (onTc (τ := Cert.OutFfnFirst.τ) (Cert.OutFfnFirst.main (F := Bits))) ⟨m, fun _ => 0, g⟩ (fun r => (∀ c : Dev Cert.OutFfnFirst.nD,
      r.2.mem ((c.tc : Thread Cert.OutFfnFirst.nD Cert.OutFfnFirst.τ).loc Cert.OutFfnFirst.main_arg0) = m ((c.tc : Thread Cert.OutFfnFirst.nD Cert.OutFfnFirst.τ).loc Cert.OutFfnFirst.main_arg0)
      ∧ r.2.mem ((c.tc : Thread Cert.OutFfnFirst.nD Cert.OutFfnFirst.τ).loc Cert.OutFfnFirst.main_arg1) = m ((c.tc : Thread Cert.OutFfnFirst.nD Cert.OutFfnFirst.τ).loc Cert.OutFfnFirst.main_arg1)
      ∧ r.2.mem ((c.tc : Thread Cert.OutFfnFirst.nD Cert.OutFfnFirst.τ).loc Cert.OutFfnFirst.main_arg2) = m ((c.tc : Thread Cert.OutFfnFirst.nD Cert.OutFfnFirst.τ).loc Cert.OutFfnFirst.main_arg2)
      ∧ r.2.mem ((c.tc : Thread Cert.OutFfnFirst.nD Cert.OutFfnFirst.τ).loc Cert.OutFfnFirst.main_arg3) = m ((c.tc : Thread Cert.OutFfnFirst.nD Cert.OutFfnFirst.τ).loc Cert.OutFfnFirst.main_arg3)
      ∧ r.2.mem ((c.tc : Thread Cert.OutFfnFirst.nD Cert.OutFfnFirst.τ).loc Cert.OutFfnFirst.main_arg4) = m ((c.tc : Thread Cert.OutFfnFirst.nD Cert.OutFfnFirst.τ).loc Cert.OutFfnFirst.main_arg4)
      ∧ r.2.mem ((c.tc : Thread Cert.OutFfnFirst.nD Cert.OutFfnFirst.τ).loc Cert.OutFfnFirst.main_arg5) = m ((c.tc : Thread Cert.OutFfnFirst.nD Cert.OutFfnFirst.τ).loc Cert.OutFfnFirst.main_arg5)
      ∧ r.2.mem ((c.tc : Thread Cert.OutFfnFirst.nD Cert.OutFfnFirst.τ).loc Cert.OutFfnFirst.main_arg6) = m ((c.tc : Thread Cert.OutFfnFirst.nD Cert.OutFfnFirst.τ).loc Cert.OutFfnFirst.main_arg6)
      ∧ r.2.mem ((c.tc : Thread Cert.OutFfnFirst.nD Cert.OutFfnFirst.τ).loc Cert.OutFfnFirst.main_arg7) = m ((c.tc : Thread Cert.OutFfnFirst.nD Cert.OutFfnFirst.τ).loc Cert.OutFfnFirst.main_arg7)
      ∧ r.2.mem ((c.tc : Thread Cert.OutFfnFirst.nD Cert.OutFfnFirst.τ).loc Cert.OutFfnFirst.main_arg8) = m ((c.tc : Thread Cert.OutFfnFirst.nD Cert.OutFfnFirst.τ).loc Cert.OutFfnFirst.main_arg8)
      ∧ r.2.mem ((c.tc : Thread Cert.OutFfnFirst.nD Cert.OutFfnFirst.τ).loc Cert.OutFfnFirst.main_arg9) = m ((c.tc : Thread Cert.OutFfnFirst.nD Cert.OutFfnFirst.τ).loc Cert.OutFfnFirst.main_arg9)
      ∧ r.2.mem ((c.tc : Thread Cert.OutFfnFirst.nD Cert.OutFfnFirst.τ).loc Cert.OutFfnFirst.main_arg10) = m ((c.tc : Thread Cert.OutFfnFirst.nD Cert.OutFfnFirst.τ).loc Cert.OutFfnFirst.main_arg10))
      ∧ r.2.sem = fun _ => 0)

def quiescent_OutFfnFirstIdeal [hOutFfnFirstIdeal : Cert.OutFfnFirstIdeal.Facts] : Prop :=
  ∀ (m : (ℓ : Loc Cert.OutFfnFirstIdeal.nD Cert.OutFfnFirstIdeal.τ Cert.OutFfnFirstIdeal.sig) → Buf (Elt Ideal) ℓ) (g : Dev Cert.OutFfnFirstIdeal.nD → PrngReg), Pre_OutFfnFirstIdeal m →
    θ_run (Cert.OutFfnFirstIdeal.defs (F := Ideal)) (onTc (τ := Cert.OutFfnFirstIdeal.τ) (Cert.OutFfnFirstIdeal.main (F := Ideal))) ⟨m, fun _ => 0, g⟩ (fun r => (∀ c : Dev Cert.OutFfnFirstIdeal.nD,
      r.2.mem ((c.tc : Thread Cert.OutFfnFirstIdeal.nD Cert.OutFfnFirstIdeal.τ).loc Cert.OutFfnFirstIdeal.main_arg0) = m ((c.tc : Thread Cert.OutFfnFirstIdeal.nD Cert.OutFfnFirstIdeal.τ).loc Cert.OutFfnFirstIdeal.main_arg0)
      ∧ r.2.mem ((c.tc : Thread Cert.OutFfnFirstIdeal.nD Cert.OutFfnFirstIdeal.τ).loc Cert.OutFfnFirstIdeal.main_arg1) = m ((c.tc : Thread Cert.OutFfnFirstIdeal.nD Cert.OutFfnFirstIdeal.τ).loc Cert.OutFfnFirstIdeal.main_arg1)
      ∧ r.2.mem ((c.tc : Thread Cert.OutFfnFirstIdeal.nD Cert.OutFfnFirstIdeal.τ).loc Cert.OutFfnFirstIdeal.main_arg2) = m ((c.tc : Thread Cert.OutFfnFirstIdeal.nD Cert.OutFfnFirstIdeal.τ).loc Cert.OutFfnFirstIdeal.main_arg2)
      ∧ r.2.mem ((c.tc : Thread Cert.OutFfnFirstIdeal.nD Cert.OutFfnFirstIdeal.τ).loc Cert.OutFfnFirstIdeal.main_arg3) = m ((c.tc : Thread Cert.OutFfnFirstIdeal.nD Cert.OutFfnFirstIdeal.τ).loc Cert.OutFfnFirstIdeal.main_arg3)
      ∧ r.2.mem ((c.tc : Thread Cert.OutFfnFirstIdeal.nD Cert.OutFfnFirstIdeal.τ).loc Cert.OutFfnFirstIdeal.main_arg4) = m ((c.tc : Thread Cert.OutFfnFirstIdeal.nD Cert.OutFfnFirstIdeal.τ).loc Cert.OutFfnFirstIdeal.main_arg4)
      ∧ r.2.mem ((c.tc : Thread Cert.OutFfnFirstIdeal.nD Cert.OutFfnFirstIdeal.τ).loc Cert.OutFfnFirstIdeal.main_arg5) = m ((c.tc : Thread Cert.OutFfnFirstIdeal.nD Cert.OutFfnFirstIdeal.τ).loc Cert.OutFfnFirstIdeal.main_arg5)
      ∧ r.2.mem ((c.tc : Thread Cert.OutFfnFirstIdeal.nD Cert.OutFfnFirstIdeal.τ).loc Cert.OutFfnFirstIdeal.main_arg6) = m ((c.tc : Thread Cert.OutFfnFirstIdeal.nD Cert.OutFfnFirstIdeal.τ).loc Cert.OutFfnFirstIdeal.main_arg6)
      ∧ r.2.mem ((c.tc : Thread Cert.OutFfnFirstIdeal.nD Cert.OutFfnFirstIdeal.τ).loc Cert.OutFfnFirstIdeal.main_arg7) = m ((c.tc : Thread Cert.OutFfnFirstIdeal.nD Cert.OutFfnFirstIdeal.τ).loc Cert.OutFfnFirstIdeal.main_arg7)
      ∧ r.2.mem ((c.tc : Thread Cert.OutFfnFirstIdeal.nD Cert.OutFfnFirstIdeal.τ).loc Cert.OutFfnFirstIdeal.main_arg8) = m ((c.tc : Thread Cert.OutFfnFirstIdeal.nD Cert.OutFfnFirstIdeal.τ).loc Cert.OutFfnFirstIdeal.main_arg8)
      ∧ r.2.mem ((c.tc : Thread Cert.OutFfnFirstIdeal.nD Cert.OutFfnFirstIdeal.τ).loc Cert.OutFfnFirstIdeal.main_arg9) = m ((c.tc : Thread Cert.OutFfnFirstIdeal.nD Cert.OutFfnFirstIdeal.τ).loc Cert.OutFfnFirstIdeal.main_arg9)
      ∧ r.2.mem ((c.tc : Thread Cert.OutFfnFirstIdeal.nD Cert.OutFfnFirstIdeal.τ).loc Cert.OutFfnFirstIdeal.main_arg10) = m ((c.tc : Thread Cert.OutFfnFirstIdeal.nD Cert.OutFfnFirstIdeal.τ).loc Cert.OutFfnFirstIdeal.main_arg10))
      ∧ r.2.sem = fun _ => 0)

def quiescent_OutFfnFirstRefIdeal [hOutFfnFirstRefIdeal : Cert.OutFfnFirstRefIdeal.Facts] : Prop :=
  ∀ (m : (ℓ : Loc Cert.OutFfnFirstRefIdeal.nD Cert.OutFfnFirstRefIdeal.τ Cert.OutFfnFirstRefIdeal.sig) → Buf (Elt Ideal) ℓ) (g : Dev Cert.OutFfnFirstRefIdeal.nD → PrngReg), Pre_OutFfnFirstRefIdeal m →
    θ_run (Cert.OutFfnFirstRefIdeal.defs (F := Ideal)) (onTc (τ := Cert.OutFfnFirstRefIdeal.τ) (Cert.OutFfnFirstRefIdeal.main (F := Ideal))) ⟨m, fun _ => 0, g⟩ (fun r => (∀ c : Dev Cert.OutFfnFirstRefIdeal.nD,
      r.2.mem ((c.tc : Thread Cert.OutFfnFirstRefIdeal.nD Cert.OutFfnFirstRefIdeal.τ).loc Cert.OutFfnFirstRefIdeal.main_arg0) = m ((c.tc : Thread Cert.OutFfnFirstRefIdeal.nD Cert.OutFfnFirstRefIdeal.τ).loc Cert.OutFfnFirstRefIdeal.main_arg0)
      ∧ r.2.mem ((c.tc : Thread Cert.OutFfnFirstRefIdeal.nD Cert.OutFfnFirstRefIdeal.τ).loc Cert.OutFfnFirstRefIdeal.main_arg1) = m ((c.tc : Thread Cert.OutFfnFirstRefIdeal.nD Cert.OutFfnFirstRefIdeal.τ).loc Cert.OutFfnFirstRefIdeal.main_arg1)
      ∧ r.2.mem ((c.tc : Thread Cert.OutFfnFirstRefIdeal.nD Cert.OutFfnFirstRefIdeal.τ).loc Cert.OutFfnFirstRefIdeal.main_arg2) = m ((c.tc : Thread Cert.OutFfnFirstRefIdeal.nD Cert.OutFfnFirstRefIdeal.τ).loc Cert.OutFfnFirstRefIdeal.main_arg2)
      ∧ r.2.mem ((c.tc : Thread Cert.OutFfnFirstRefIdeal.nD Cert.OutFfnFirstRefIdeal.τ).loc Cert.OutFfnFirstRefIdeal.main_arg3) = m ((c.tc : Thread Cert.OutFfnFirstRefIdeal.nD Cert.OutFfnFirstRefIdeal.τ).loc Cert.OutFfnFirstRefIdeal.main_arg3)
      ∧ r.2.mem ((c.tc : Thread Cert.OutFfnFirstRefIdeal.nD Cert.OutFfnFirstRefIdeal.τ).loc Cert.OutFfnFirstRefIdeal.main_arg4) = m ((c.tc : Thread Cert.OutFfnFirstRefIdeal.nD Cert.OutFfnFirstRefIdeal.τ).loc Cert.OutFfnFirstRefIdeal.main_arg4)
      ∧ r.2.mem ((c.tc : Thread Cert.OutFfnFirstRefIdeal.nD Cert.OutFfnFirstRefIdeal.τ).loc Cert.OutFfnFirstRefIdeal.main_arg5) = m ((c.tc : Thread Cert.OutFfnFirstRefIdeal.nD Cert.OutFfnFirstRefIdeal.τ).loc Cert.OutFfnFirstRefIdeal.main_arg5)
      ∧ r.2.mem ((c.tc : Thread Cert.OutFfnFirstRefIdeal.nD Cert.OutFfnFirstRefIdeal.τ).loc Cert.OutFfnFirstRefIdeal.main_arg6) = m ((c.tc : Thread Cert.OutFfnFirstRefIdeal.nD Cert.OutFfnFirstRefIdeal.τ).loc Cert.OutFfnFirstRefIdeal.main_arg6)
      ∧ r.2.mem ((c.tc : Thread Cert.OutFfnFirstRefIdeal.nD Cert.OutFfnFirstRefIdeal.τ).loc Cert.OutFfnFirstRefIdeal.main_arg7) = m ((c.tc : Thread Cert.OutFfnFirstRefIdeal.nD Cert.OutFfnFirstRefIdeal.τ).loc Cert.OutFfnFirstRefIdeal.main_arg7)
      ∧ r.2.mem ((c.tc : Thread Cert.OutFfnFirstRefIdeal.nD Cert.OutFfnFirstRefIdeal.τ).loc Cert.OutFfnFirstRefIdeal.main_arg8) = m ((c.tc : Thread Cert.OutFfnFirstRefIdeal.nD Cert.OutFfnFirstRefIdeal.τ).loc Cert.OutFfnFirstRefIdeal.main_arg8)
      ∧ r.2.mem ((c.tc : Thread Cert.OutFfnFirstRefIdeal.nD Cert.OutFfnFirstRefIdeal.τ).loc Cert.OutFfnFirstRefIdeal.main_arg9) = m ((c.tc : Thread Cert.OutFfnFirstRefIdeal.nD Cert.OutFfnFirstRefIdeal.τ).loc Cert.OutFfnFirstRefIdeal.main_arg9)
      ∧ r.2.mem ((c.tc : Thread Cert.OutFfnFirstRefIdeal.nD Cert.OutFfnFirstRefIdeal.τ).loc Cert.OutFfnFirstRefIdeal.main_arg10) = m ((c.tc : Thread Cert.OutFfnFirstRefIdeal.nD Cert.OutFfnFirstRefIdeal.τ).loc Cert.OutFfnFirstRefIdeal.main_arg10))
      ∧ r.2.sem = fun _ => 0)

def quiescent_InProjFirst [hInProjFirst : Cert.InProjFirst.Facts] : Prop :=
  ∀ (m : (ℓ : Loc Cert.InProjFirst.nD Cert.InProjFirst.τ Cert.InProjFirst.sig) → Buf (Elt Bits) ℓ) (g : Dev Cert.InProjFirst.nD → PrngReg), Pre_InProjFirst m →
    θ_run (Cert.InProjFirst.defs (F := Bits)) (onTc (τ := Cert.InProjFirst.τ) (Cert.InProjFirst.main (F := Bits))) ⟨m, fun _ => 0, g⟩ (fun r => (∀ c : Dev Cert.InProjFirst.nD,
      r.2.mem ((c.tc : Thread Cert.InProjFirst.nD Cert.InProjFirst.τ).loc Cert.InProjFirst.main_arg0) = m ((c.tc : Thread Cert.InProjFirst.nD Cert.InProjFirst.τ).loc Cert.InProjFirst.main_arg0)
      ∧ r.2.mem ((c.tc : Thread Cert.InProjFirst.nD Cert.InProjFirst.τ).loc Cert.InProjFirst.main_arg1) = m ((c.tc : Thread Cert.InProjFirst.nD Cert.InProjFirst.τ).loc Cert.InProjFirst.main_arg1)
      ∧ r.2.mem ((c.tc : Thread Cert.InProjFirst.nD Cert.InProjFirst.τ).loc Cert.InProjFirst.main_arg2) = m ((c.tc : Thread Cert.InProjFirst.nD Cert.InProjFirst.τ).loc Cert.InProjFirst.main_arg2)
      ∧ r.2.mem ((c.tc : Thread Cert.InProjFirst.nD Cert.InProjFirst.τ).loc Cert.InProjFirst.main_arg3) = m ((c.tc : Thread Cert.InProjFirst.nD Cert.InProjFirst.τ).loc Cert.InProjFirst.main_arg3)
      ∧ r.2.mem ((c.tc : Thread Cert.InProjFirst.nD Cert.InProjFirst.τ).loc Cert.InProjFirst.main_arg4) = m ((c.tc : Thread Cert.InProjFirst.nD Cert.InProjFirst.τ).loc Cert.InProjFirst.main_arg4)
      ∧ r.2.mem ((c.tc : Thread Cert.InProjFirst.nD Cert.InProjFirst.τ).loc Cert.InProjFirst.main_arg5) = m ((c.tc : Thread Cert.InProjFirst.nD Cert.InProjFirst.τ).loc Cert.InProjFirst.main_arg5)
      ∧ r.2.mem ((c.tc : Thread Cert.InProjFirst.nD Cert.InProjFirst.τ).loc Cert.InProjFirst.main_arg6) = m ((c.tc : Thread Cert.InProjFirst.nD Cert.InProjFirst.τ).loc Cert.InProjFirst.main_arg6)
      ∧ r.2.mem ((c.tc : Thread Cert.InProjFirst.nD Cert.InProjFirst.τ).loc Cert.InProjFirst.main_arg7) = m ((c.tc : Thread Cert.InProjFirst.nD Cert.InProjFirst.τ).loc Cert.InProjFirst.main_arg7)
      ∧ r.2.mem ((c.tc : Thread Cert.InProjFirst.nD Cert.InProjFirst.τ).loc Cert.InProjFirst.main_arg8) = m ((c.tc : Thread Cert.InProjFirst.nD Cert.InProjFirst.τ).loc Cert.InProjFirst.main_arg8)
      ∧ r.2.mem ((c.tc : Thread Cert.InProjFirst.nD Cert.InProjFirst.τ).loc Cert.InProjFirst.main_arg9) = m ((c.tc : Thread Cert.InProjFirst.nD Cert.InProjFirst.τ).loc Cert.InProjFirst.main_arg9))
      ∧ r.2.sem = fun _ => 0)

def quiescent_InProjFirstIdeal [hInProjFirstIdeal : Cert.InProjFirstIdeal.Facts] : Prop :=
  ∀ (m : (ℓ : Loc Cert.InProjFirstIdeal.nD Cert.InProjFirstIdeal.τ Cert.InProjFirstIdeal.sig) → Buf (Elt Ideal) ℓ) (g : Dev Cert.InProjFirstIdeal.nD → PrngReg), Pre_InProjFirstIdeal m →
    θ_run (Cert.InProjFirstIdeal.defs (F := Ideal)) (onTc (τ := Cert.InProjFirstIdeal.τ) (Cert.InProjFirstIdeal.main (F := Ideal))) ⟨m, fun _ => 0, g⟩ (fun r => (∀ c : Dev Cert.InProjFirstIdeal.nD,
      r.2.mem ((c.tc : Thread Cert.InProjFirstIdeal.nD Cert.InProjFirstIdeal.τ).loc Cert.InProjFirstIdeal.main_arg0) = m ((c.tc : Thread Cert.InProjFirstIdeal.nD Cert.InProjFirstIdeal.τ).loc Cert.InProjFirstIdeal.main_arg0)
      ∧ r.2.mem ((c.tc : Thread Cert.InProjFirstIdeal.nD Cert.InProjFirstIdeal.τ).loc Cert.InProjFirstIdeal.main_arg1) = m ((c.tc : Thread Cert.InProjFirstIdeal.nD Cert.InProjFirstIdeal.τ).loc Cert.InProjFirstIdeal.main_arg1)
      ∧ r.2.mem ((c.tc : Thread Cert.InProjFirstIdeal.nD Cert.InProjFirstIdeal.τ).loc Cert.InProjFirstIdeal.main_arg2) = m ((c.tc : Thread Cert.InProjFirstIdeal.nD Cert.InProjFirstIdeal.τ).loc Cert.InProjFirstIdeal.main_arg2)
      ∧ r.2.mem ((c.tc : Thread Cert.InProjFirstIdeal.nD Cert.InProjFirstIdeal.τ).loc Cert.InProjFirstIdeal.main_arg3) = m ((c.tc : Thread Cert.InProjFirstIdeal.nD Cert.InProjFirstIdeal.τ).loc Cert.InProjFirstIdeal.main_arg3)
      ∧ r.2.mem ((c.tc : Thread Cert.InProjFirstIdeal.nD Cert.InProjFirstIdeal.τ).loc Cert.InProjFirstIdeal.main_arg4) = m ((c.tc : Thread Cert.InProjFirstIdeal.nD Cert.InProjFirstIdeal.τ).loc Cert.InProjFirstIdeal.main_arg4)
      ∧ r.2.mem ((c.tc : Thread Cert.InProjFirstIdeal.nD Cert.InProjFirstIdeal.τ).loc Cert.InProjFirstIdeal.main_arg5) = m ((c.tc : Thread Cert.InProjFirstIdeal.nD Cert.InProjFirstIdeal.τ).loc Cert.InProjFirstIdeal.main_arg5)
      ∧ r.2.mem ((c.tc : Thread Cert.InProjFirstIdeal.nD Cert.InProjFirstIdeal.τ).loc Cert.InProjFirstIdeal.main_arg6) = m ((c.tc : Thread Cert.InProjFirstIdeal.nD Cert.InProjFirstIdeal.τ).loc Cert.InProjFirstIdeal.main_arg6)
      ∧ r.2.mem ((c.tc : Thread Cert.InProjFirstIdeal.nD Cert.InProjFirstIdeal.τ).loc Cert.InProjFirstIdeal.main_arg7) = m ((c.tc : Thread Cert.InProjFirstIdeal.nD Cert.InProjFirstIdeal.τ).loc Cert.InProjFirstIdeal.main_arg7)
      ∧ r.2.mem ((c.tc : Thread Cert.InProjFirstIdeal.nD Cert.InProjFirstIdeal.τ).loc Cert.InProjFirstIdeal.main_arg8) = m ((c.tc : Thread Cert.InProjFirstIdeal.nD Cert.InProjFirstIdeal.τ).loc Cert.InProjFirstIdeal.main_arg8)
      ∧ r.2.mem ((c.tc : Thread Cert.InProjFirstIdeal.nD Cert.InProjFirstIdeal.τ).loc Cert.InProjFirstIdeal.main_arg9) = m ((c.tc : Thread Cert.InProjFirstIdeal.nD Cert.InProjFirstIdeal.τ).loc Cert.InProjFirstIdeal.main_arg9))
      ∧ r.2.sem = fun _ => 0)

def quiescent_InProjFirstRefIdeal [hInProjFirstRefIdeal : Cert.InProjFirstRefIdeal.Facts] : Prop :=
  ∀ (m : (ℓ : Loc Cert.InProjFirstRefIdeal.nD Cert.InProjFirstRefIdeal.τ Cert.InProjFirstRefIdeal.sig) → Buf (Elt Ideal) ℓ) (g : Dev Cert.InProjFirstRefIdeal.nD → PrngReg), Pre_InProjFirstRefIdeal m →
    θ_run (Cert.InProjFirstRefIdeal.defs (F := Ideal)) (onTc (τ := Cert.InProjFirstRefIdeal.τ) (Cert.InProjFirstRefIdeal.main (F := Ideal))) ⟨m, fun _ => 0, g⟩ (fun r => (∀ c : Dev Cert.InProjFirstRefIdeal.nD,
      r.2.mem ((c.tc : Thread Cert.InProjFirstRefIdeal.nD Cert.InProjFirstRefIdeal.τ).loc Cert.InProjFirstRefIdeal.main_arg0) = m ((c.tc : Thread Cert.InProjFirstRefIdeal.nD Cert.InProjFirstRefIdeal.τ).loc Cert.InProjFirstRefIdeal.main_arg0)
      ∧ r.2.mem ((c.tc : Thread Cert.InProjFirstRefIdeal.nD Cert.InProjFirstRefIdeal.τ).loc Cert.InProjFirstRefIdeal.main_arg1) = m ((c.tc : Thread Cert.InProjFirstRefIdeal.nD Cert.InProjFirstRefIdeal.τ).loc Cert.InProjFirstRefIdeal.main_arg1)
      ∧ r.2.mem ((c.tc : Thread Cert.InProjFirstRefIdeal.nD Cert.InProjFirstRefIdeal.τ).loc Cert.InProjFirstRefIdeal.main_arg2) = m ((c.tc : Thread Cert.InProjFirstRefIdeal.nD Cert.InProjFirstRefIdeal.τ).loc Cert.InProjFirstRefIdeal.main_arg2)
      ∧ r.2.mem ((c.tc : Thread Cert.InProjFirstRefIdeal.nD Cert.InProjFirstRefIdeal.τ).loc Cert.InProjFirstRefIdeal.main_arg3) = m ((c.tc : Thread Cert.InProjFirstRefIdeal.nD Cert.InProjFirstRefIdeal.τ).loc Cert.InProjFirstRefIdeal.main_arg3)
      ∧ r.2.mem ((c.tc : Thread Cert.InProjFirstRefIdeal.nD Cert.InProjFirstRefIdeal.τ).loc Cert.InProjFirstRefIdeal.main_arg4) = m ((c.tc : Thread Cert.InProjFirstRefIdeal.nD Cert.InProjFirstRefIdeal.τ).loc Cert.InProjFirstRefIdeal.main_arg4)
      ∧ r.2.mem ((c.tc : Thread Cert.InProjFirstRefIdeal.nD Cert.InProjFirstRefIdeal.τ).loc Cert.InProjFirstRefIdeal.main_arg5) = m ((c.tc : Thread Cert.InProjFirstRefIdeal.nD Cert.InProjFirstRefIdeal.τ).loc Cert.InProjFirstRefIdeal.main_arg5)
      ∧ r.2.mem ((c.tc : Thread Cert.InProjFirstRefIdeal.nD Cert.InProjFirstRefIdeal.τ).loc Cert.InProjFirstRefIdeal.main_arg6) = m ((c.tc : Thread Cert.InProjFirstRefIdeal.nD Cert.InProjFirstRefIdeal.τ).loc Cert.InProjFirstRefIdeal.main_arg6)
      ∧ r.2.mem ((c.tc : Thread Cert.InProjFirstRefIdeal.nD Cert.InProjFirstRefIdeal.τ).loc Cert.InProjFirstRefIdeal.main_arg7) = m ((c.tc : Thread Cert.InProjFirstRefIdeal.nD Cert.InProjFirstRefIdeal.τ).loc Cert.InProjFirstRefIdeal.main_arg7)
      ∧ r.2.mem ((c.tc : Thread Cert.InProjFirstRefIdeal.nD Cert.InProjFirstRefIdeal.τ).loc Cert.InProjFirstRefIdeal.main_arg8) = m ((c.tc : Thread Cert.InProjFirstRefIdeal.nD Cert.InProjFirstRefIdeal.τ).loc Cert.InProjFirstRefIdeal.main_arg8)
      ∧ r.2.mem ((c.tc : Thread Cert.InProjFirstRefIdeal.nD Cert.InProjFirstRefIdeal.τ).loc Cert.InProjFirstRefIdeal.main_arg9) = m ((c.tc : Thread Cert.InProjFirstRefIdeal.nD Cert.InProjFirstRefIdeal.τ).loc Cert.InProjFirstRefIdeal.main_arg9))
      ∧ r.2.sem = fun _ => 0)

def preserves_Mlstm_MlstmIdeal : Prop :=
  True

def preserves_OutFfn_OutFfnIdeal : Prop :=
  True

def algebraic_OutFfnIdeal_OutFfnRefIdeal [hOutFfnIdeal : Cert.OutFfnIdeal.Facts] [hOutFfnRefIdeal : Cert.OutFfnRefIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnRefIdeal.nD Cert.OutFfnRefIdeal.τ Cert.OutFfnRefIdeal.sig) → Buf (Elt Ideal) ℓ) (g' : Dev Cert.OutFfnRefIdeal.nD → PrngReg), Pre_OutFfnIdeal m →
    (∀ c : Dev Cert.OutFfnIdeal.nD,
      m' ((c.tc : Thread Cert.OutFfnRefIdeal.nD Cert.OutFfnRefIdeal.τ).loc Cert.OutFfnRefIdeal.main_arg0) = m ((c.tc : Thread Cert.OutFfnIdeal.nD Cert.OutFfnIdeal.τ).loc Cert.OutFfnIdeal.main_arg0)
      ∧ m' ((c.tc : Thread Cert.OutFfnRefIdeal.nD Cert.OutFfnRefIdeal.τ).loc Cert.OutFfnRefIdeal.main_arg1) = m ((c.tc : Thread Cert.OutFfnIdeal.nD Cert.OutFfnIdeal.τ).loc Cert.OutFfnIdeal.main_arg1)
      ∧ m' ((c.tc : Thread Cert.OutFfnRefIdeal.nD Cert.OutFfnRefIdeal.τ).loc Cert.OutFfnRefIdeal.main_arg2) = m ((c.tc : Thread Cert.OutFfnIdeal.nD Cert.OutFfnIdeal.τ).loc Cert.OutFfnIdeal.main_arg2)
      ∧ m' ((c.tc : Thread Cert.OutFfnRefIdeal.nD Cert.OutFfnRefIdeal.τ).loc Cert.OutFfnRefIdeal.main_arg3) = m ((c.tc : Thread Cert.OutFfnIdeal.nD Cert.OutFfnIdeal.τ).loc Cert.OutFfnIdeal.main_arg3)
      ∧ m' ((c.tc : Thread Cert.OutFfnRefIdeal.nD Cert.OutFfnRefIdeal.τ).loc Cert.OutFfnRefIdeal.main_arg4) = m ((c.tc : Thread Cert.OutFfnIdeal.nD Cert.OutFfnIdeal.τ).loc Cert.OutFfnIdeal.main_arg4)
      ∧ m' ((c.tc : Thread Cert.OutFfnRefIdeal.nD Cert.OutFfnRefIdeal.τ).loc Cert.OutFfnRefIdeal.main_arg5) = m ((c.tc : Thread Cert.OutFfnIdeal.nD Cert.OutFfnIdeal.τ).loc Cert.OutFfnIdeal.main_arg5)
      ∧ m' ((c.tc : Thread Cert.OutFfnRefIdeal.nD Cert.OutFfnRefIdeal.τ).loc Cert.OutFfnRefIdeal.main_arg6) = m ((c.tc : Thread Cert.OutFfnIdeal.nD Cert.OutFfnIdeal.τ).loc Cert.OutFfnIdeal.main_arg6)
      ∧ m' ((c.tc : Thread Cert.OutFfnRefIdeal.nD Cert.OutFfnRefIdeal.τ).loc Cert.OutFfnRefIdeal.main_arg7) = m ((c.tc : Thread Cert.OutFfnIdeal.nD Cert.OutFfnIdeal.τ).loc Cert.OutFfnIdeal.main_arg7)
      ∧ m' ((c.tc : Thread Cert.OutFfnRefIdeal.nD Cert.OutFfnRefIdeal.τ).loc Cert.OutFfnRefIdeal.main_arg8) = m ((c.tc : Thread Cert.OutFfnIdeal.nD Cert.OutFfnIdeal.τ).loc Cert.OutFfnIdeal.main_arg8)
      ∧ m' ((c.tc : Thread Cert.OutFfnRefIdeal.nD Cert.OutFfnRefIdeal.τ).loc Cert.OutFfnRefIdeal.main_arg9) = m ((c.tc : Thread Cert.OutFfnIdeal.nD Cert.OutFfnIdeal.τ).loc Cert.OutFfnIdeal.main_arg9)) →
    ∃ (v0 : (c : Dev Cert.OutFfnIdeal.nD) → Buf (Elt Ideal) ((c.tc : Thread Cert.OutFfnIdeal.nD Cert.OutFfnIdeal.τ).loc Cert.OutFfnIdeal.main_v0)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v0) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
          ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9))
      ∧ θ_run (Cert.OutFfnRefIdeal.defs (F := Ideal)) (onTc (τ := Cert.OutFfnRefIdeal.τ) (Cert.OutFfnRefIdeal.main (F := Ideal))) ⟨m', fun _ => 0, g'⟩ (fun r => ∀ c : Dev Cert.OutFfnRefIdeal.nD,
          r.2.mem ((c.tc : Thread Cert.OutFfnRefIdeal.nD Cert.OutFfnRefIdeal.τ).loc Cert.OutFfnRefIdeal.main_v57) = v0 c
          ∧ r.2.mem ((c.tc : Thread Cert.OutFfnRefIdeal.nD Cert.OutFfnRefIdeal.τ).loc Cert.OutFfnRefIdeal.main_arg0) = m' ((c.tc : Thread Cert.OutFfnRefIdeal.nD Cert.OutFfnRefIdeal.τ).loc Cert.OutFfnRefIdeal.main_arg0)
          ∧ r.2.mem ((c.tc : Thread Cert.OutFfnRefIdeal.nD Cert.OutFfnRefIdeal.τ).loc Cert.OutFfnRefIdeal.main_arg1) = m' ((c.tc : Thread Cert.OutFfnRefIdeal.nD Cert.OutFfnRefIdeal.τ).loc Cert.OutFfnRefIdeal.main_arg1)
          ∧ r.2.mem ((c.tc : Thread Cert.OutFfnRefIdeal.nD Cert.OutFfnRefIdeal.τ).loc Cert.OutFfnRefIdeal.main_arg2) = m' ((c.tc : Thread Cert.OutFfnRefIdeal.nD Cert.OutFfnRefIdeal.τ).loc Cert.OutFfnRefIdeal.main_arg2)
          ∧ r.2.mem ((c.tc : Thread Cert.OutFfnRefIdeal.nD Cert.OutFfnRefIdeal.τ).loc Cert.OutFfnRefIdeal.main_arg3) = m' ((c.tc : Thread Cert.OutFfnRefIdeal.nD Cert.OutFfnRefIdeal.τ).loc Cert.OutFfnRefIdeal.main_arg3)
          ∧ r.2.mem ((c.tc : Thread Cert.OutFfnRefIdeal.nD Cert.OutFfnRefIdeal.τ).loc Cert.OutFfnRefIdeal.main_arg4) = m' ((c.tc : Thread Cert.OutFfnRefIdeal.nD Cert.OutFfnRefIdeal.τ).loc Cert.OutFfnRefIdeal.main_arg4)
          ∧ r.2.mem ((c.tc : Thread Cert.OutFfnRefIdeal.nD Cert.OutFfnRefIdeal.τ).loc Cert.OutFfnRefIdeal.main_arg5) = m' ((c.tc : Thread Cert.OutFfnRefIdeal.nD Cert.OutFfnRefIdeal.τ).loc Cert.OutFfnRefIdeal.main_arg5)
          ∧ r.2.mem ((c.tc : Thread Cert.OutFfnRefIdeal.nD Cert.OutFfnRefIdeal.τ).loc Cert.OutFfnRefIdeal.main_arg6) = m' ((c.tc : Thread Cert.OutFfnRefIdeal.nD Cert.OutFfnRefIdeal.τ).loc Cert.OutFfnRefIdeal.main_arg6)
          ∧ r.2.mem ((c.tc : Thread Cert.OutFfnRefIdeal.nD Cert.OutFfnRefIdeal.τ).loc Cert.OutFfnRefIdeal.main_arg7) = m' ((c.tc : Thread Cert.OutFfnRefIdeal.nD Cert.OutFfnRefIdeal.τ).loc Cert.OutFfnRefIdeal.main_arg7)
          ∧ r.2.mem ((c.tc : Thread Cert.OutFfnRefIdeal.nD Cert.OutFfnRefIdeal.τ).loc Cert.OutFfnRefIdeal.main_arg8) = m' ((c.tc : Thread Cert.OutFfnRefIdeal.nD Cert.OutFfnRefIdeal.τ).loc Cert.OutFfnRefIdeal.main_arg8)
          ∧ r.2.mem ((c.tc : Thread Cert.OutFfnRefIdeal.nD Cert.OutFfnRefIdeal.τ).loc Cert.OutFfnRefIdeal.main_arg9) = m' ((c.tc : Thread Cert.OutFfnRefIdeal.nD Cert.OutFfnRefIdeal.τ).loc Cert.OutFfnRefIdeal.main_arg9))

def preserves_OutFfnLast_OutFfnLastIdeal : Prop :=
  True

def algebraic_OutFfnLastIdeal_OutFfnLastRefIdeal [hOutFfnLastIdeal : Cert.OutFfnLastIdeal.Facts] [hOutFfnLastRefIdeal : Cert.OutFfnLastRefIdeal.Facts] : Prop :=
  ∀ (m : (ℓ : Loc Cert.OutFfnLastIdeal.nD Cert.OutFfnLastIdeal.τ Cert.OutFfnLastIdeal.sig) → Buf (Elt Ideal) ℓ) (g : Dev Cert.OutFfnLastIdeal.nD → PrngReg)
    (m' : (ℓ : Loc Cert.OutFfnLastRefIdeal.nD Cert.OutFfnLastRefIdeal.τ Cert.OutFfnLastRefIdeal.sig) → Buf (Elt Ideal) ℓ) (g' : Dev Cert.OutFfnLastRefIdeal.nD → PrngReg), Pre_OutFfnLastIdeal m →
    (∀ c : Dev Cert.OutFfnLastIdeal.nD,
      m' ((c.tc : Thread Cert.OutFfnLastRefIdeal.nD Cert.OutFfnLastRefIdeal.τ).loc Cert.OutFfnLastRefIdeal.main_arg0) = m ((c.tc : Thread Cert.OutFfnLastIdeal.nD Cert.OutFfnLastIdeal.τ).loc Cert.OutFfnLastIdeal.main_arg0)
      ∧ m' ((c.tc : Thread Cert.OutFfnLastRefIdeal.nD Cert.OutFfnLastRefIdeal.τ).loc Cert.OutFfnLastRefIdeal.main_arg1) = m ((c.tc : Thread Cert.OutFfnLastIdeal.nD Cert.OutFfnLastIdeal.τ).loc Cert.OutFfnLastIdeal.main_arg1)
      ∧ m' ((c.tc : Thread Cert.OutFfnLastRefIdeal.nD Cert.OutFfnLastRefIdeal.τ).loc Cert.OutFfnLastRefIdeal.main_arg2) = m ((c.tc : Thread Cert.OutFfnLastIdeal.nD Cert.OutFfnLastIdeal.τ).loc Cert.OutFfnLastIdeal.main_arg2)
      ∧ m' ((c.tc : Thread Cert.OutFfnLastRefIdeal.nD Cert.OutFfnLastRefIdeal.τ).loc Cert.OutFfnLastRefIdeal.main_arg3) = m ((c.tc : Thread Cert.OutFfnLastIdeal.nD Cert.OutFfnLastIdeal.τ).loc Cert.OutFfnLastIdeal.main_arg3)
      ∧ m' ((c.tc : Thread Cert.OutFfnLastRefIdeal.nD Cert.OutFfnLastRefIdeal.τ).loc Cert.OutFfnLastRefIdeal.main_arg4) = m ((c.tc : Thread Cert.OutFfnLastIdeal.nD Cert.OutFfnLastIdeal.τ).loc Cert.OutFfnLastIdeal.main_arg4)
      ∧ m' ((c.tc : Thread Cert.OutFfnLastRefIdeal.nD Cert.OutFfnLastRefIdeal.τ).loc Cert.OutFfnLastRefIdeal.main_arg5) = m ((c.tc : Thread Cert.OutFfnLastIdeal.nD Cert.OutFfnLastIdeal.τ).loc Cert.OutFfnLastIdeal.main_arg5)
      ∧ m' ((c.tc : Thread Cert.OutFfnLastRefIdeal.nD Cert.OutFfnLastRefIdeal.τ).loc Cert.OutFfnLastRefIdeal.main_arg6) = m ((c.tc : Thread Cert.OutFfnLastIdeal.nD Cert.OutFfnLastIdeal.τ).loc Cert.OutFfnLastIdeal.main_arg6)
      ∧ m' ((c.tc : Thread Cert.OutFfnLastRefIdeal.nD Cert.OutFfnLastRefIdeal.τ).loc Cert.OutFfnLastRefIdeal.main_arg7) = m ((c.tc : Thread Cert.OutFfnLastIdeal.nD Cert.OutFfnLastIdeal.τ).loc Cert.OutFfnLastIdeal.main_arg7)
      ∧ m' ((c.tc : Thread Cert.OutFfnLastRefIdeal.nD Cert.OutFfnLastRefIdeal.τ).loc Cert.OutFfnLastRefIdeal.main_arg8) = m ((c.tc : Thread Cert.OutFfnLastIdeal.nD Cert.OutFfnLastIdeal.τ).loc Cert.OutFfnLastIdeal.main_arg8)
      ∧ m' ((c.tc : Thread Cert.OutFfnLastRefIdeal.nD Cert.OutFfnLastRefIdeal.τ).loc Cert.OutFfnLastRefIdeal.main_arg9) = m ((c.tc : Thread Cert.OutFfnLastIdeal.nD Cert.OutFfnLastIdeal.τ).loc Cert.OutFfnLastIdeal.main_arg9)) →
    ∃ (v0 : (c : Dev Cert.OutFfnLastIdeal.nD) → Buf (Elt Ideal) ((c.tc : Thread Cert.OutFfnLastIdeal.nD Cert.OutFfnLastIdeal.τ).loc Cert.OutFfnLastIdeal.main_v0)),
      θ_run (Cert.OutFfnLastIdeal.defs (F := Ideal)) (onTc (τ := Cert.OutFfnLastIdeal.τ) (Cert.OutFfnLastIdeal.main (F := Ideal))) ⟨m, fun _ => 0, g⟩ (fun r => ∀ c : Dev Cert.OutFfnLastIdeal.nD,
          r.2.mem ((c.tc : Thread Cert.OutFfnLastIdeal.nD Cert.OutFfnLastIdeal.τ).loc Cert.OutFfnLastIdeal.main_v0) = v0 c
          ∧ r.2.mem ((c.tc : Thread Cert.OutFfnLastIdeal.nD Cert.OutFfnLastIdeal.τ).loc Cert.OutFfnLastIdeal.main_arg0) = m ((c.tc : Thread Cert.OutFfnLastIdeal.nD Cert.OutFfnLastIdeal.τ).loc Cert.OutFfnLastIdeal.main_arg0)
          ∧ r.2.mem ((c.tc : Thread Cert.OutFfnLastIdeal.nD Cert.OutFfnLastIdeal.τ).loc Cert.OutFfnLastIdeal.main_arg1) = m ((c.tc : Thread Cert.OutFfnLastIdeal.nD Cert.OutFfnLastIdeal.τ).loc Cert.OutFfnLastIdeal.main_arg1)
          ∧ r.2.mem ((c.tc : Thread Cert.OutFfnLastIdeal.nD Cert.OutFfnLastIdeal.τ).loc Cert.OutFfnLastIdeal.main_arg2) = m ((c.tc : Thread Cert.OutFfnLastIdeal.nD Cert.OutFfnLastIdeal.τ).loc Cert.OutFfnLastIdeal.main_arg2)
          ∧ r.2.mem ((c.tc : Thread Cert.OutFfnLastIdeal.nD Cert.OutFfnLastIdeal.τ).loc Cert.OutFfnLastIdeal.main_arg3) = m ((c.tc : Thread Cert.OutFfnLastIdeal.nD Cert.OutFfnLastIdeal.τ).loc Cert.OutFfnLastIdeal.main_arg3)
          ∧ r.2.mem ((c.tc : Thread Cert.OutFfnLastIdeal.nD Cert.OutFfnLastIdeal.τ).loc Cert.OutFfnLastIdeal.main_arg4) = m ((c.tc : Thread Cert.OutFfnLastIdeal.nD Cert.OutFfnLastIdeal.τ).loc Cert.OutFfnLastIdeal.main_arg4)
          ∧ r.2.mem ((c.tc : Thread Cert.OutFfnLastIdeal.nD Cert.OutFfnLastIdeal.τ).loc Cert.OutFfnLastIdeal.main_arg5) = m ((c.tc : Thread Cert.OutFfnLastIdeal.nD Cert.OutFfnLastIdeal.τ).loc Cert.OutFfnLastIdeal.main_arg5)
          ∧ r.2.mem ((c.tc : Thread Cert.OutFfnLastIdeal.nD Cert.OutFfnLastIdeal.τ).loc Cert.OutFfnLastIdeal.main_arg6) = m ((c.tc : Thread Cert.OutFfnLastIdeal.nD Cert.OutFfnLastIdeal.τ).loc Cert.OutFfnLastIdeal.main_arg6)
          ∧ r.2.mem ((c.tc : Thread Cert.OutFfnLastIdeal.nD Cert.OutFfnLastIdeal.τ).loc Cert.OutFfnLastIdeal.main_arg7) = m ((c.tc : Thread Cert.OutFfnLastIdeal.nD Cert.OutFfnLastIdeal.τ).loc Cert.OutFfnLastIdeal.main_arg7)
          ∧ r.2.mem ((c.tc : Thread Cert.OutFfnLastIdeal.nD Cert.OutFfnLastIdeal.τ).loc Cert.OutFfnLastIdeal.main_arg8) = m ((c.tc : Thread Cert.OutFfnLastIdeal.nD Cert.OutFfnLastIdeal.τ).loc Cert.OutFfnLastIdeal.main_arg8)
          ∧ r.2.mem ((c.tc : Thread Cert.OutFfnLastIdeal.nD Cert.OutFfnLastIdeal.τ).loc Cert.OutFfnLastIdeal.main_arg9) = m ((c.tc : Thread Cert.OutFfnLastIdeal.nD Cert.OutFfnLastIdeal.τ).loc Cert.OutFfnLastIdeal.main_arg9))
      ∧ θ_run (Cert.OutFfnLastRefIdeal.defs (F := Ideal)) (onTc (τ := Cert.OutFfnLastRefIdeal.τ) (Cert.OutFfnLastRefIdeal.main (F := Ideal))) ⟨m', fun _ => 0, g'⟩ (fun r => ∀ c : Dev Cert.OutFfnLastRefIdeal.nD,
          r.2.mem ((c.tc : Thread Cert.OutFfnLastRefIdeal.nD Cert.OutFfnLastRefIdeal.τ).loc Cert.OutFfnLastRefIdeal.main_v78) = v0 c
          ∧ r.2.mem ((c.tc : Thread Cert.OutFfnLastRefIdeal.nD Cert.OutFfnLastRefIdeal.τ).loc Cert.OutFfnLastRefIdeal.main_arg0) = m' ((c.tc : Thread Cert.OutFfnLastRefIdeal.nD Cert.OutFfnLastRefIdeal.τ).loc Cert.OutFfnLastRefIdeal.main_arg0)
          ∧ r.2.mem ((c.tc : Thread Cert.OutFfnLastRefIdeal.nD Cert.OutFfnLastRefIdeal.τ).loc Cert.OutFfnLastRefIdeal.main_arg1) = m' ((c.tc : Thread Cert.OutFfnLastRefIdeal.nD Cert.OutFfnLastRefIdeal.τ).loc Cert.OutFfnLastRefIdeal.main_arg1)
          ∧ r.2.mem ((c.tc : Thread Cert.OutFfnLastRefIdeal.nD Cert.OutFfnLastRefIdeal.τ).loc Cert.OutFfnLastRefIdeal.main_arg2) = m' ((c.tc : Thread Cert.OutFfnLastRefIdeal.nD Cert.OutFfnLastRefIdeal.τ).loc Cert.OutFfnLastRefIdeal.main_arg2)
          ∧ r.2.mem ((c.tc : Thread Cert.OutFfnLastRefIdeal.nD Cert.OutFfnLastRefIdeal.τ).loc Cert.OutFfnLastRefIdeal.main_arg3) = m' ((c.tc : Thread Cert.OutFfnLastRefIdeal.nD Cert.OutFfnLastRefIdeal.τ).loc Cert.OutFfnLastRefIdeal.main_arg3)
          ∧ r.2.mem ((c.tc : Thread Cert.OutFfnLastRefIdeal.nD Cert.OutFfnLastRefIdeal.τ).loc Cert.OutFfnLastRefIdeal.main_arg4) = m' ((c.tc : Thread Cert.OutFfnLastRefIdeal.nD Cert.OutFfnLastRefIdeal.τ).loc Cert.OutFfnLastRefIdeal.main_arg4)
          ∧ r.2.mem ((c.tc : Thread Cert.OutFfnLastRefIdeal.nD Cert.OutFfnLastRefIdeal.τ).loc Cert.OutFfnLastRefIdeal.main_arg5) = m' ((c.tc : Thread Cert.OutFfnLastRefIdeal.nD Cert.OutFfnLastRefIdeal.τ).loc Cert.OutFfnLastRefIdeal.main_arg5)
          ∧ r.2.mem ((c.tc : Thread Cert.OutFfnLastRefIdeal.nD Cert.OutFfnLastRefIdeal.τ).loc Cert.OutFfnLastRefIdeal.main_arg6) = m' ((c.tc : Thread Cert.OutFfnLastRefIdeal.nD Cert.OutFfnLastRefIdeal.τ).loc Cert.OutFfnLastRefIdeal.main_arg6)
          ∧ r.2.mem ((c.tc : Thread Cert.OutFfnLastRefIdeal.nD Cert.OutFfnLastRefIdeal.τ).loc Cert.OutFfnLastRefIdeal.main_arg7) = m' ((c.tc : Thread Cert.OutFfnLastRefIdeal.nD Cert.OutFfnLastRefIdeal.τ).loc Cert.OutFfnLastRefIdeal.main_arg7)
          ∧ r.2.mem ((c.tc : Thread Cert.OutFfnLastRefIdeal.nD Cert.OutFfnLastRefIdeal.τ).loc Cert.OutFfnLastRefIdeal.main_arg8) = m' ((c.tc : Thread Cert.OutFfnLastRefIdeal.nD Cert.OutFfnLastRefIdeal.τ).loc Cert.OutFfnLastRefIdeal.main_arg8)
          ∧ r.2.mem ((c.tc : Thread Cert.OutFfnLastRefIdeal.nD Cert.OutFfnLastRefIdeal.τ).loc Cert.OutFfnLastRefIdeal.main_arg9) = m' ((c.tc : Thread Cert.OutFfnLastRefIdeal.nD Cert.OutFfnLastRefIdeal.τ).loc Cert.OutFfnLastRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v105) = v0 c
          ∧ r.2.mem ((c.tc : Thread Cert.InProjRefIdeal.nD Cert.InProjRefIdeal.τ).loc Cert.InProjRefIdeal.main_v106) = v1 c
          ∧ r.2.mem ((c.tc : Thread Cert.InProjRefIdeal.nD Cert.InProjRefIdeal.τ).loc Cert.InProjRefIdeal.main_v107) = v2 c
          ∧ r.2.mem ((c.tc : Thread Cert.InProjRefIdeal.nD Cert.InProjRefIdeal.τ).loc Cert.InProjRefIdeal.main_v47) = v3 c
          ∧ r.2.mem ((c.tc : Thread Cert.InProjRefIdeal.nD Cert.InProjRefIdeal.τ).loc Cert.InProjRefIdeal.main_v49) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_OutFfnFirst_OutFfnFirstIdeal : Prop :=
  True

def algebraic_OutFfnFirstIdeal_OutFfnFirstRefIdeal [hOutFfnFirstIdeal : Cert.OutFfnFirstIdeal.Facts] [hOutFfnFirstRefIdeal : Cert.OutFfnFirstRefIdeal.Facts] : Prop :=
  ∀ (m : (ℓ : Loc Cert.OutFfnFirstIdeal.nD Cert.OutFfnFirstIdeal.τ Cert.OutFfnFirstIdeal.sig) → Buf (Elt Ideal) ℓ) (g : Dev Cert.OutFfnFirstIdeal.nD → PrngReg)
    (m' : (ℓ : Loc Cert.OutFfnFirstRefIdeal.nD Cert.OutFfnFirstRefIdeal.τ Cert.OutFfnFirstRefIdeal.sig) → Buf (Elt Ideal) ℓ) (g' : Dev Cert.OutFfnFirstRefIdeal.nD → PrngReg), Pre_OutFfnFirstIdeal m →
    (∀ c : Dev Cert.OutFfnFirstIdeal.nD,
      m' ((c.tc : Thread Cert.OutFfnFirstRefIdeal.nD Cert.OutFfnFirstRefIdeal.τ).loc Cert.OutFfnFirstRefIdeal.main_arg0) = m ((c.tc : Thread Cert.OutFfnFirstIdeal.nD Cert.OutFfnFirstIdeal.τ).loc Cert.OutFfnFirstIdeal.main_arg0)
      ∧ m' ((c.tc : Thread Cert.OutFfnFirstRefIdeal.nD Cert.OutFfnFirstRefIdeal.τ).loc Cert.OutFfnFirstRefIdeal.main_arg1) = m ((c.tc : Thread Cert.OutFfnFirstIdeal.nD Cert.OutFfnFirstIdeal.τ).loc Cert.OutFfnFirstIdeal.main_arg1)
      ∧ m' ((c.tc : Thread Cert.OutFfnFirstRefIdeal.nD Cert.OutFfnFirstRefIdeal.τ).loc Cert.OutFfnFirstRefIdeal.main_arg2) = m ((c.tc : Thread Cert.OutFfnFirstIdeal.nD Cert.OutFfnFirstIdeal.τ).loc Cert.OutFfnFirstIdeal.main_arg2)
      ∧ m' ((c.tc : Thread Cert.OutFfnFirstRefIdeal.nD Cert.OutFfnFirstRefIdeal.τ).loc Cert.OutFfnFirstRefIdeal.main_arg3) = m ((c.tc : Thread Cert.OutFfnFirstIdeal.nD Cert.OutFfnFirstIdeal.τ).loc Cert.OutFfnFirstIdeal.main_arg3)
      ∧ m' ((c.tc : Thread Cert.OutFfnFirstRefIdeal.nD Cert.OutFfnFirstRefIdeal.τ).loc Cert.OutFfnFirstRefIdeal.main_arg4) = m ((c.tc : Thread Cert.OutFfnFirstIdeal.nD Cert.OutFfnFirstIdeal.τ).loc Cert.OutFfnFirstIdeal.main_arg4)
      ∧ m' ((c.tc : Thread Cert.OutFfnFirstRefIdeal.nD Cert.OutFfnFirstRefIdeal.τ).loc Cert.OutFfnFirstRefIdeal.main_arg5) = m ((c.tc : Thread Cert.OutFfnFirstIdeal.nD Cert.OutFfnFirstIdeal.τ).loc Cert.OutFfnFirstIdeal.main_arg5)
      ∧ m' ((c.tc : Thread Cert.OutFfnFirstRefIdeal.nD Cert.OutFfnFirstRefIdeal.τ).loc Cert.OutFfnFirstRefIdeal.main_arg6) = m ((c.tc : Thread Cert.OutFfnFirstIdeal.nD Cert.OutFfnFirstIdeal.τ).loc Cert.OutFfnFirstIdeal.main_arg6)
      ∧ m' ((c.tc : Thread Cert.OutFfnFirstRefIdeal.nD Cert.OutFfnFirstRefIdeal.τ).loc Cert.OutFfnFirstRefIdeal.main_arg7) = m ((c.tc : Thread Cert.OutFfnFirstIdeal.nD Cert.OutFfnFirstIdeal.τ).loc Cert.OutFfnFirstIdeal.main_arg7)
      ∧ m' ((c.tc : Thread Cert.OutFfnFirstRefIdeal.nD Cert.OutFfnFirstRefIdeal.τ).loc Cert.OutFfnFirstRefIdeal.main_arg8) = m ((c.tc : Thread Cert.OutFfnFirstIdeal.nD Cert.OutFfnFirstIdeal.τ).loc Cert.OutFfnFirstIdeal.main_arg8)
      ∧ m' ((c.tc : Thread Cert.OutFfnFirstRefIdeal.nD Cert.OutFfnFirstRefIdeal.τ).loc Cert.OutFfnFirstRefIdeal.main_arg9) = m ((c.tc : Thread Cert.OutFfnFirstIdeal.nD Cert.OutFfnFirstIdeal.τ).loc Cert.OutFfnFirstIdeal.main_arg9)
      ∧ m' ((c.tc : Thread Cert.OutFfnFirstRefIdeal.nD Cert.OutFfnFirstRefIdeal.τ).loc Cert.OutFfnFirstRefIdeal.main_arg10) = m ((c.tc : Thread Cert.OutFfnFirstIdeal.nD Cert.OutFfnFirstIdeal.τ).loc Cert.OutFfnFirstIdeal.main_arg10)) →
    ∃ (v0 : (c : Dev Cert.OutFfnFirstIdeal.nD) → Buf (Elt Ideal) ((c.tc : Thread Cert.OutFfnFirstIdeal.nD Cert.OutFfnFirstIdeal.τ).loc Cert.OutFfnFirstIdeal.main_v0)),
      θ_run (Cert.OutFfnFirstIdeal.defs (F := Ideal)) (onTc (τ := Cert.OutFfnFirstIdeal.τ) (Cert.OutFfnFirstIdeal.main (F := Ideal))) ⟨m, fun _ => 0, g⟩ (fun r => ∀ c : Dev Cert.OutFfnFirstIdeal.nD,
          r.2.mem ((c.tc : Thread Cert.OutFfnFirstIdeal.nD Cert.OutFfnFirstIdeal.τ).loc Cert.OutFfnFirstIdeal.main_v0) = v0 c
          ∧ r.2.mem ((c.tc : Thread Cert.OutFfnFirstIdeal.nD Cert.OutFfnFirstIdeal.τ).loc Cert.OutFfnFirstIdeal.main_arg0) = m ((c.tc : Thread Cert.OutFfnFirstIdeal.nD Cert.OutFfnFirstIdeal.τ).loc Cert.OutFfnFirstIdeal.main_arg0)
          ∧ r.2.mem ((c.tc : Thread Cert.OutFfnFirstIdeal.nD Cert.OutFfnFirstIdeal.τ).loc Cert.OutFfnFirstIdeal.main_arg1) = m ((c.tc : Thread Cert.OutFfnFirstIdeal.nD Cert.OutFfnFirstIdeal.τ).loc Cert.OutFfnFirstIdeal.main_arg1)
          ∧ r.2.mem ((c.tc : Thread Cert.OutFfnFirstIdeal.nD Cert.OutFfnFirstIdeal.τ).loc Cert.OutFfnFirstIdeal.main_arg2) = m ((c.tc : Thread Cert.OutFfnFirstIdeal.nD Cert.OutFfnFirstIdeal.τ).loc Cert.OutFfnFirstIdeal.main_arg2)
          ∧ r.2.mem ((c.tc : Thread Cert.OutFfnFirstIdeal.nD Cert.OutFfnFirstIdeal.τ).loc Cert.OutFfnFirstIdeal.main_arg3) = m ((c.tc : Thread Cert.OutFfnFirstIdeal.nD Cert.OutFfnFirstIdeal.τ).loc Cert.OutFfnFirstIdeal.main_arg3)
          ∧ r.2.mem ((c.tc : Thread Cert.OutFfnFirstIdeal.nD Cert.OutFfnFirstIdeal.τ).loc Cert.OutFfnFirstIdeal.main_arg4) = m ((c.tc : Thread Cert.OutFfnFirstIdeal.nD Cert.OutFfnFirstIdeal.τ).loc Cert.OutFfnFirstIdeal.main_arg4)
          ∧ r.2.mem ((c.tc : Thread Cert.OutFfnFirstIdeal.nD Cert.OutFfnFirstIdeal.τ).loc Cert.OutFfnFirstIdeal.main_arg5) = m ((c.tc : Thread Cert.OutFfnFirstIdeal.nD Cert.OutFfnFirstIdeal.τ).loc Cert.OutFfnFirstIdeal.main_arg5)
          ∧ r.2.mem ((c.tc : Thread Cert.OutFfnFirstIdeal.nD Cert.OutFfnFirstIdeal.τ).loc Cert.OutFfnFirstIdeal.main_arg6) = m ((c.tc : Thread Cert.OutFfnFirstIdeal.nD Cert.OutFfnFirstIdeal.τ).loc Cert.OutFfnFirstIdeal.main_arg6)
          ∧ r.2.mem ((c.tc : Thread Cert.OutFfnFirstIdeal.nD Cert.OutFfnFirstIdeal.τ).loc Cert.OutFfnFirstIdeal.main_arg7) = m ((c.tc : Thread Cert.OutFfnFirstIdeal.nD Cert.OutFfnFirstIdeal.τ).loc Cert.OutFfnFirstIdeal.main_arg7)
          ∧ r.2.mem ((c.tc : Thread Cert.OutFfnFirstIdeal.nD Cert.OutFfnFirstIdeal.τ).loc Cert.OutFfnFirstIdeal.main_arg8) = m ((c.tc : Thread Cert.OutFfnFirstIdeal.nD Cert.OutFfnFirstIdeal.τ).loc Cert.OutFfnFirstIdeal.main_arg8)
          ∧ r.2.mem ((c.tc : Thread Cert.OutFfnFirstIdeal.nD Cert.OutFfnFirstIdeal.τ).loc Cert.OutFfnFirstIdeal.main_arg9) = m ((c.tc : Thread Cert.OutFfnFirstIdeal.nD Cert.OutFfnFirstIdeal.τ).loc Cert.OutFfnFirstIdeal.main_arg9)
          ∧ r.2.mem ((c.tc : Thread Cert.OutFfnFirstIdeal.nD Cert.OutFfnFirstIdeal.τ).loc Cert.OutFfnFirstIdeal.main_arg10) = m ((c.tc : Thread Cert.OutFfnFirstIdeal.nD Cert.OutFfnFirstIdeal.τ).loc Cert.OutFfnFirstIdeal.main_arg10))
      ∧ θ_run (Cert.OutFfnFirstRefIdeal.defs (F := Ideal)) (onTc (τ := Cert.OutFfnFirstRefIdeal.τ) (Cert.OutFfnFirstRefIdeal.main (F := Ideal))) ⟨m', fun _ => 0, g'⟩ (fun r => ∀ c : Dev Cert.OutFfnFirstRefIdeal.nD,
          r.2.mem ((c.tc : Thread Cert.OutFfnFirstRefIdeal.nD Cert.OutFfnFirstRefIdeal.τ).loc Cert.OutFfnFirstRefIdeal.main_v58) = v0 c
          ∧ r.2.mem ((c.tc : Thread Cert.OutFfnFirstRefIdeal.nD Cert.OutFfnFirstRefIdeal.τ).loc Cert.OutFfnFirstRefIdeal.main_arg0) = m' ((c.tc : Thread Cert.OutFfnFirstRefIdeal.nD Cert.OutFfnFirstRefIdeal.τ).loc Cert.OutFfnFirstRefIdeal.main_arg0)
          ∧ r.2.mem ((c.tc : Thread Cert.OutFfnFirstRefIdeal.nD Cert.OutFfnFirstRefIdeal.τ).loc Cert.OutFfnFirstRefIdeal.main_arg1) = m' ((c.tc : Thread Cert.OutFfnFirstRefIdeal.nD Cert.OutFfnFirstRefIdeal.τ).loc Cert.OutFfnFirstRefIdeal.main_arg1)
          ∧ r.2.mem ((c.tc : Thread Cert.OutFfnFirstRefIdeal.nD Cert.OutFfnFirstRefIdeal.τ).loc Cert.OutFfnFirstRefIdeal.main_arg2) = m' ((c.tc : Thread Cert.OutFfnFirstRefIdeal.nD Cert.OutFfnFirstRefIdeal.τ).loc Cert.OutFfnFirstRefIdeal.main_arg2)
          ∧ r.2.mem ((c.tc : Thread Cert.OutFfnFirstRefIdeal.nD Cert.OutFfnFirstRefIdeal.τ).loc Cert.OutFfnFirstRefIdeal.main_arg3) = m' ((c.tc : Thread Cert.OutFfnFirstRefIdeal.nD Cert.OutFfnFirstRefIdeal.τ).loc Cert.OutFfnFirstRefIdeal.main_arg3)
          ∧ r.2.mem ((c.tc : Thread Cert.OutFfnFirstRefIdeal.nD Cert.OutFfnFirstRefIdeal.τ).loc Cert.OutFfnFirstRefIdeal.main_arg4) = m' ((c.tc : Thread Cert.OutFfnFirstRefIdeal.nD Cert.OutFfnFirstRefIdeal.τ).loc Cert.OutFfnFirstRefIdeal.main_arg4)
          ∧ r.2.mem ((c.tc : Thread Cert.OutFfnFirstRefIdeal.nD Cert.OutFfnFirstRefIdeal.τ).loc Cert.OutFfnFirstRefIdeal.main_arg5) = m' ((c.tc : Thread Cert.OutFfnFirstRefIdeal.nD Cert.OutFfnFirstRefIdeal.τ).loc Cert.OutFfnFirstRefIdeal.main_arg5)
          ∧ r.2.mem ((c.tc : Thread Cert.OutFfnFirstRefIdeal.nD Cert.OutFfnFirstRefIdeal.τ).loc Cert.OutFfnFirstRefIdeal.main_arg6) = m' ((c.tc : Thread Cert.OutFfnFirstRefIdeal.nD Cert.OutFfnFirstRefIdeal.τ).loc Cert.OutFfnFirstRefIdeal.main_arg6)
          ∧ r.2.mem ((c.tc : Thread Cert.OutFfnFirstRefIdeal.nD Cert.OutFfnFirstRefIdeal.τ).loc Cert.OutFfnFirstRefIdeal.main_arg7) = m' ((c.tc : Thread Cert.OutFfnFirstRefIdeal.nD Cert.OutFfnFirstRefIdeal.τ).loc Cert.OutFfnFirstRefIdeal.main_arg7)
          ∧ r.2.mem ((c.tc : Thread Cert.OutFfnFirstRefIdeal.nD Cert.OutFfnFirstRefIdeal.τ).loc Cert.OutFfnFirstRefIdeal.main_arg8) = m' ((c.tc : Thread Cert.OutFfnFirstRefIdeal.nD Cert.OutFfnFirstRefIdeal.τ).loc Cert.OutFfnFirstRefIdeal.main_arg8)
          ∧ r.2.mem ((c.tc : Thread Cert.OutFfnFirstRefIdeal.nD Cert.OutFfnFirstRefIdeal.τ).loc Cert.OutFfnFirstRefIdeal.main_arg9) = m' ((c.tc : Thread Cert.OutFfnFirstRefIdeal.nD Cert.OutFfnFirstRefIdeal.τ).loc Cert.OutFfnFirstRefIdeal.main_arg9)
          ∧ r.2.mem ((c.tc : Thread Cert.OutFfnFirstRefIdeal.nD Cert.OutFfnFirstRefIdeal.τ).loc Cert.OutFfnFirstRefIdeal.main_arg10) = m' ((c.tc : Thread Cert.OutFfnFirstRefIdeal.nD Cert.OutFfnFirstRefIdeal.τ).loc Cert.OutFfnFirstRefIdeal.main_arg10))

def preserves_InProjFirst_InProjFirstIdeal : Prop :=
  True

def algebraic_InProjFirstIdeal_InProjFirstRefIdeal [hInProjFirstIdeal : Cert.InProjFirstIdeal.Facts] [hInProjFirstRefIdeal : Cert.InProjFirstRefIdeal.Facts] : Prop :=
  ∀ (m : (ℓ : Loc Cert.InProjFirstIdeal.nD Cert.InProjFirstIdeal.τ Cert.InProjFirstIdeal.sig) → Buf (Elt Ideal) ℓ) (g : Dev Cert.InProjFirstIdeal.nD → PrngReg)
    (m' : (ℓ : Loc Cert.InProjFirstRefIdeal.nD Cert.InProjFirstRefIdeal.τ Cert.InProjFirstRefIdeal.sig) → Buf (Elt Ideal) ℓ) (g' : Dev Cert.InProjFirstRefIdeal.nD → PrngReg), Pre_InProjFirstIdeal m →
    (∀ c : Dev Cert.InProjFirstIdeal.nD,
      m' ((c.tc : Thread Cert.InProjFirstRefIdeal.nD Cert.InProjFirstRefIdeal.τ).loc Cert.InProjFirstRefIdeal.main_arg0) = m ((c.tc : Thread Cert.InProjFirstIdeal.nD Cert.InProjFirstIdeal.τ).loc Cert.InProjFirstIdeal.main_arg0)
      ∧ m' ((c.tc : Thread Cert.InProjFirstRefIdeal.nD Cert.InProjFirstRefIdeal.τ).loc Cert.InProjFirstRefIdeal.main_arg1) = m ((c.tc : Thread Cert.InProjFirstIdeal.nD Cert.InProjFirstIdeal.τ).loc Cert.InProjFirstIdeal.main_arg1)
      ∧ m' ((c.tc : Thread Cert.InProjFirstRefIdeal.nD Cert.InProjFirstRefIdeal.τ).loc Cert.InProjFirstRefIdeal.main_arg2) = m ((c.tc : Thread Cert.InProjFirstIdeal.nD Cert.InProjFirstIdeal.τ).loc Cert.InProjFirstIdeal.main_arg2)
      ∧ m' ((c.tc : Thread Cert.InProjFirstRefIdeal.nD Cert.InProjFirstRefIdeal.τ).loc Cert.InProjFirstRefIdeal.main_arg3) = m ((c.tc : Thread Cert.InProjFirstIdeal.nD Cert.InProjFirstIdeal.τ).loc Cert.InProjFirstIdeal.main_arg3)
      ∧ m' ((c.tc : Thread Cert.InProjFirstRefIdeal.nD Cert.InProjFirstRefIdeal.τ).loc Cert.InProjFirstRefIdeal.main_arg4) = m ((c.tc : Thread Cert.InProjFirstIdeal.nD Cert.InProjFirstIdeal.τ).loc Cert.InProjFirstIdeal.main_arg4)
      ∧ m' ((c.tc : Thread Cert.InProjFirstRefIdeal.nD Cert.InProjFirstRefIdeal.τ).loc Cert.InProjFirstRefIdeal.main_arg5) = m ((c.tc : Thread Cert.InProjFirstIdeal.nD Cert.InProjFirstIdeal.τ).loc Cert.InProjFirstIdeal.main_arg5)
      ∧ m' ((c.tc : Thread Cert.InProjFirstRefIdeal.nD Cert.InProjFirstRefIdeal.τ).loc Cert.InProjFirstRefIdeal.main_arg6) = m ((c.tc : Thread Cert.InProjFirstIdeal.nD Cert.InProjFirstIdeal.τ).loc Cert.InProjFirstIdeal.main_arg6)
      ∧ m' ((c.tc : Thread Cert.InProjFirstRefIdeal.nD Cert.InProjFirstRefIdeal.τ).loc Cert.InProjFirstRefIdeal.main_arg7) = m ((c.tc : Thread Cert.InProjFirstIdeal.nD Cert.InProjFirstIdeal.τ).loc Cert.InProjFirstIdeal.main_arg7)
      ∧ m' ((c.tc : Thread Cert.InProjFirstRefIdeal.nD Cert.InProjFirstRefIdeal.τ).loc Cert.InProjFirstRefIdeal.main_arg8) = m ((c.tc : Thread Cert.InProjFirstIdeal.nD Cert.InProjFirstIdeal.τ).loc Cert.InProjFirstIdeal.main_arg8)
      ∧ m' ((c.tc : Thread Cert.InProjFirstRefIdeal.nD Cert.InProjFirstRefIdeal.τ).loc Cert.InProjFirstRefIdeal.main_arg9) = m ((c.tc : Thread Cert.InProjFirstIdeal.nD Cert.InProjFirstIdeal.τ).loc Cert.InProjFirstIdeal.main_arg9)) →
    ∃ (v0 : (c : Dev Cert.InProjFirstIdeal.nD) → Buf (Elt Ideal) ((c.tc : Thread Cert.InProjFirstIdeal.nD Cert.InProjFirstIdeal.τ).loc Cert.InProjFirstIdeal.main_v0_0)) (v1 : (c : Dev Cert.InProjFirstIdeal.nD) → Buf (Elt Ideal) ((c.tc : Thread Cert.InProjFirstIdeal.nD Cert.InProjFirstIdeal.τ).loc Cert.InProjFirstIdeal.main_v0_1)) (v2 : (c : Dev Cert.InProjFirstIdeal.nD) → Buf (Elt Ideal) ((c.tc : Thread Cert.InProjFirstIdeal.nD Cert.InProjFirstIdeal.τ).loc Cert.InProjFirstIdeal.main_v0_2)) (v3 : (c : Dev Cert.InProjFirstIdeal.nD) → Buf (Elt Ideal) ((c.tc : Thread Cert.InProjFirstIdeal.nD Cert.InProjFirstIdeal.τ).loc Cert.InProjFirstIdeal.main_v0_3)) (v4 : (c : Dev Cert.InProjFirstIdeal.nD) → Buf (Elt Ideal) ((c.tc : Thread Cert.InProjFirstIdeal.nD Cert.InProjFirstIdeal.τ).loc Cert.InProjFirstIdeal.main_v0_4)),
      θ_run (Cert.InProjFirstIdeal.defs (F := Ideal)) (onTc (τ := Cert.InProjFirstIdeal.τ) (Cert.InProjFirstIdeal.main (F := Ideal))) ⟨m, fun _ => 0, g⟩ (fun r => ∀ c : Dev Cert.InProjFirstIdeal.nD,
          r.2.mem ((c.tc : Thread Cert.InProjFirstIdeal.nD Cert.InProjFirstIdeal.τ).loc Cert.InProjFirstIdeal.main_v0_0) = v0 c
          ∧ r.2.mem ((c.tc : Thread Cert.InProjFirstIdeal.nD Cert.InProjFirstIdeal.τ).loc Cert.InProjFirstIdeal.main_v0_1) = v1 c
          ∧ r.2.mem ((c.tc : Thread Cert.InProjFirstIdeal.nD Cert.InProjFirstIdeal.τ).loc Cert.InProjFirstIdeal.main_v0_2) = v2 c
          ∧ r.2.mem ((c.tc : Thread Cert.InProjFirstIdeal.nD Cert.InProjFirstIdeal.τ).loc Cert.InProjFirstIdeal.main_v0_3) = v3 c
          ∧ r.2.mem ((c.tc : Thread Cert.InProjFirstIdeal.nD Cert.InProjFirstIdeal.τ).loc Cert.InProjFirstIdeal.main_v0_4) = v4 c
          ∧ r.2.mem ((c.tc : Thread Cert.InProjFirstIdeal.nD Cert.InProjFirstIdeal.τ).loc Cert.InProjFirstIdeal.main_arg0) = m ((c.tc : Thread Cert.InProjFirstIdeal.nD Cert.InProjFirstIdeal.τ).loc Cert.InProjFirstIdeal.main_arg0)
          ∧ r.2.mem ((c.tc : Thread Cert.InProjFirstIdeal.nD Cert.InProjFirstIdeal.τ).loc Cert.InProjFirstIdeal.main_arg1) = m ((c.tc : Thread Cert.InProjFirstIdeal.nD Cert.InProjFirstIdeal.τ).loc Cert.InProjFirstIdeal.main_arg1)
          ∧ r.2.mem ((c.tc : Thread Cert.InProjFirstIdeal.nD Cert.InProjFirstIdeal.τ).loc Cert.InProjFirstIdeal.main_arg2) = m ((c.tc : Thread Cert.InProjFirstIdeal.nD Cert.InProjFirstIdeal.τ).loc Cert.InProjFirstIdeal.main_arg2)
          ∧ r.2.mem ((c.tc : Thread Cert.InProjFirstIdeal.nD Cert.InProjFirstIdeal.τ).loc Cert.InProjFirstIdeal.main_arg3) = m ((c.tc : Thread Cert.InProjFirstIdeal.nD Cert.InProjFirstIdeal.τ).loc Cert.InProjFirstIdeal.main_arg3)
          ∧ r.2.mem ((c.tc : Thread Cert.InProjFirstIdeal.nD Cert.InProjFirstIdeal.τ).loc Cert.InProjFirstIdeal.main_arg4) = m ((c.tc : Thread Cert.InProjFirstIdeal.nD Cert.InProjFirstIdeal.τ).loc Cert.InProjFirstIdeal.main_arg4)
          ∧ r.2.mem ((c.tc : Thread Cert.InProjFirstIdeal.nD Cert.InProjFirstIdeal.τ).loc Cert.InProjFirstIdeal.main_arg5) = m ((c.tc : Thread Cert.InProjFirstIdeal.nD Cert.InProjFirstIdeal.τ).loc Cert.InProjFirstIdeal.main_arg5)
          ∧ r.2.mem ((c.tc : Thread Cert.InProjFirstIdeal.nD Cert.InProjFirstIdeal.τ).loc Cert.InProjFirstIdeal.main_arg6) = m ((c.tc : Thread Cert.InProjFirstIdeal.nD Cert.InProjFirstIdeal.τ).loc Cert.InProjFirstIdeal.main_arg6)
          ∧ r.2.mem ((c.tc : Thread Cert.InProjFirstIdeal.nD Cert.InProjFirstIdeal.τ).loc Cert.InProjFirstIdeal.main_arg7) = m ((c.tc : Thread Cert.InProjFirstIdeal.nD Cert.InProjFirstIdeal.τ).loc Cert.InProjFirstIdeal.main_arg7)
          ∧ r.2.mem ((c.tc : Thread Cert.InProjFirstIdeal.nD Cert.InProjFirstIdeal.τ).loc Cert.InProjFirstIdeal.main_arg8) = m ((c.tc : Thread Cert.InProjFirstIdeal.nD Cert.InProjFirstIdeal.τ).loc Cert.InProjFirstIdeal.main_arg8)
          ∧ r.2.mem ((c.tc : Thread Cert.InProjFirstIdeal.nD Cert.InProjFirstIdeal.τ).loc Cert.InProjFirstIdeal.main_arg9) = m ((c.tc : Thread Cert.InProjFirstIdeal.nD Cert.InProjFirstIdeal.τ).loc Cert.InProjFirstIdeal.main_arg9))
      ∧ θ_run (Cert.InProjFirstRefIdeal.defs (F := Ideal)) (onTc (τ := Cert.InProjFirstRefIdeal.τ) (Cert.InProjFirstRefIdeal.main (F := Ideal))) ⟨m', fun _ => 0, g'⟩ (fun r => ∀ c : Dev Cert.InProjFirstRefIdeal.nD,
          r.2.mem ((c.tc : Thread Cert.InProjFirstRefIdeal.nD Cert.InProjFirstRefIdeal.τ).loc Cert.InProjFirstRefIdeal.main_v106) = v0 c
          ∧ r.2.mem ((c.tc : Thread Cert.InProjFirstRefIdeal.nD Cert.InProjFirstRefIdeal.τ).loc Cert.InProjFirstRefIdeal.main_v107) = v1 c
          ∧ r.2.mem ((c.tc : Thread Cert.InProjFirstRefIdeal.nD Cert.InProjFirstRefIdeal.τ).loc Cert.InProjFirstRefIdeal.main_v108) = v2 c
          ∧ r.2.mem ((c.tc : Thread Cert.InProjFirstRefIdeal.nD Cert.InProjFirstRefIdeal.τ).loc Cert.InProjFirstRefIdeal.main_v48) = v3 c
          ∧ r.2.mem ((c.tc : Thread Cert.InProjFirstRefIdeal.nD Cert.InProjFirstRefIdeal.τ).loc Cert.InProjFirstRefIdeal.main_v50) = v4 c
          ∧ r.2.mem ((c.tc : Thread Cert.InProjFirstRefIdeal.nD Cert.InProjFirstRefIdeal.τ).loc Cert.InProjFirstRefIdeal.main_arg0) = m' ((c.tc : Thread Cert.InProjFirstRefIdeal.nD Cert.InProjFirstRefIdeal.τ).loc Cert.InProjFirstRefIdeal.main_arg0)
          ∧ r.2.mem ((c.tc : Thread Cert.InProjFirstRefIdeal.nD Cert.InProjFirstRefIdeal.τ).loc Cert.InProjFirstRefIdeal.main_arg1) = m' ((c.tc : Thread Cert.InProjFirstRefIdeal.nD Cert.InProjFirstRefIdeal.τ).loc Cert.InProjFirstRefIdeal.main_arg1)
          ∧ r.2.mem ((c.tc : Thread Cert.InProjFirstRefIdeal.nD Cert.InProjFirstRefIdeal.τ).loc Cert.InProjFirstRefIdeal.main_arg2) = m' ((c.tc : Thread Cert.InProjFirstRefIdeal.nD Cert.InProjFirstRefIdeal.τ).loc Cert.InProjFirstRefIdeal.main_arg2)
          ∧ r.2.mem ((c.tc : Thread Cert.InProjFirstRefIdeal.nD Cert.InProjFirstRefIdeal.τ).loc Cert.InProjFirstRefIdeal.main_arg3) = m' ((c.tc : Thread Cert.InProjFirstRefIdeal.nD Cert.InProjFirstRefIdeal.τ).loc Cert.InProjFirstRefIdeal.main_arg3)
          ∧ r.2.mem ((c.tc : Thread Cert.InProjFirstRefIdeal.nD Cert.InProjFirstRefIdeal.τ).loc Cert.InProjFirstRefIdeal.main_arg4) = m' ((c.tc : Thread Cert.InProjFirstRefIdeal.nD Cert.InProjFirstRefIdeal.τ).loc Cert.InProjFirstRefIdeal.main_arg4)
          ∧ r.2.mem ((c.tc : Thread Cert.InProjFirstRefIdeal.nD Cert.InProjFirstRefIdeal.τ).loc Cert.InProjFirstRefIdeal.main_arg5) = m' ((c.tc : Thread Cert.InProjFirstRefIdeal.nD Cert.InProjFirstRefIdeal.τ).loc Cert.InProjFirstRefIdeal.main_arg5)
          ∧ r.2.mem ((c.tc : Thread Cert.InProjFirstRefIdeal.nD Cert.InProjFirstRefIdeal.τ).loc Cert.InProjFirstRefIdeal.main_arg6) = m' ((c.tc : Thread Cert.InProjFirstRefIdeal.nD Cert.InProjFirstRefIdeal.τ).loc Cert.InProjFirstRefIdeal.main_arg6)
          ∧ r.2.mem ((c.tc : Thread Cert.InProjFirstRefIdeal.nD Cert.InProjFirstRefIdeal.τ).loc Cert.InProjFirstRefIdeal.main_arg7) = m' ((c.tc : Thread Cert.InProjFirstRefIdeal.nD Cert.InProjFirstRefIdeal.τ).loc Cert.InProjFirstRefIdeal.main_arg7)
          ∧ r.2.mem ((c.tc : Thread Cert.InProjFirstRefIdeal.nD Cert.InProjFirstRefIdeal.τ).loc Cert.InProjFirstRefIdeal.main_arg8) = m' ((c.tc : Thread Cert.InProjFirstRefIdeal.nD Cert.InProjFirstRefIdeal.τ).loc Cert.InProjFirstRefIdeal.main_arg8)
          ∧ r.2.mem ((c.tc : Thread Cert.InProjFirstRefIdeal.nD Cert.InProjFirstRefIdeal.τ).loc Cert.InProjFirstRefIdeal.main_arg9) = m' ((c.tc : Thread Cert.InProjFirstRefIdeal.nD Cert.InProjFirstRefIdeal.τ).loc Cert.InProjFirstRefIdeal.main_arg9))

def Claim : Prop :=
  ∃ (hMlstm : Cert.Mlstm.Facts) (hMlstmIdeal : Cert.MlstmIdeal.Facts) (hOutFfn : Cert.OutFfn.Facts) (hOutFfnIdeal : Cert.OutFfnIdeal.Facts) (hOutFfnRefIdeal : Cert.OutFfnRefIdeal.Facts) (hOutFfnLast : Cert.OutFfnLast.Facts) (hOutFfnLastIdeal : Cert.OutFfnLastIdeal.Facts) (hOutFfnLastRefIdeal : Cert.OutFfnLastRefIdeal.Facts) (hInProj : Cert.InProj.Facts) (hInProjIdeal : Cert.InProjIdeal.Facts) (hInProjRefIdeal : Cert.InProjRefIdeal.Facts) (hAda : Cert.Ada.Facts) (hAdaIdeal : Cert.AdaIdeal.Facts) (hAdaRefIdeal : Cert.AdaRefIdeal.Facts) (hOutFfnFirst : Cert.OutFfnFirst.Facts) (hOutFfnFirstIdeal : Cert.OutFfnFirstIdeal.Facts) (hOutFfnFirstRefIdeal : Cert.OutFfnFirstRefIdeal.Facts) (hInProjFirst : Cert.InProjFirst.Facts) (hInProjFirstIdeal : Cert.InProjFirstIdeal.Facts) (hInProjFirstRefIdeal : Cert.InProjFirstRefIdeal.Facts),
    quiescent_Mlstm (hMlstm := hMlstm)
    ∧ quiescent_MlstmIdeal (hMlstmIdeal := hMlstmIdeal)
    ∧ quiescent_OutFfn (hOutFfn := hOutFfn)
    ∧ quiescent_OutFfnIdeal (hOutFfnIdeal := hOutFfnIdeal)
    ∧ quiescent_OutFfnRefIdeal (hOutFfnRefIdeal := hOutFfnRefIdeal)
    ∧ quiescent_OutFfnLast (hOutFfnLast := hOutFfnLast)
    ∧ quiescent_OutFfnLastIdeal (hOutFfnLastIdeal := hOutFfnLastIdeal)
    ∧ quiescent_OutFfnLastRefIdeal (hOutFfnLastRefIdeal := hOutFfnLastRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ada (hAda := hAda)
    ∧ quiescent_AdaIdeal (hAdaIdeal := hAdaIdeal)
    ∧ quiescent_AdaRefIdeal (hAdaRefIdeal := hAdaRefIdeal)
    ∧ quiescent_OutFfnFirst (hOutFfnFirst := hOutFfnFirst)
    ∧ quiescent_OutFfnFirstIdeal (hOutFfnFirstIdeal := hOutFfnFirstIdeal)
    ∧ quiescent_OutFfnFirstRefIdeal (hOutFfnFirstRefIdeal := hOutFfnFirstRefIdeal)
    ∧ quiescent_InProjFirst (hInProjFirst := hInProjFirst)
    ∧ quiescent_InProjFirstIdeal (hInProjFirstIdeal := hInProjFirstIdeal)
    ∧ quiescent_InProjFirstRefIdeal (hInProjFirstRefIdeal := hInProjFirstRefIdeal)
    ∧ preserves_Mlstm_MlstmIdeal
    ∧ preserves_OutFfn_OutFfnIdeal
    ∧ algebraic_OutFfnIdeal_OutFfnRefIdeal (hOutFfnIdeal := hOutFfnIdeal) (hOutFfnRefIdeal := hOutFfnRefIdeal)
    ∧ preserves_OutFfnLast_OutFfnLastIdeal
    ∧ algebraic_OutFfnLastIdeal_OutFfnLastRefIdeal (hOutFfnLastIdeal := hOutFfnLastIdeal) (hOutFfnLastRefIdeal := hOutFfnLastRefIdeal)
    ∧ preserves_InProj_InProjIdeal
    ∧ algebraic_InProjIdeal_InProjRefIdeal (hInProjIdeal := hInProjIdeal) (hInProjRefIdeal := hInProjRefIdeal)
    ∧ preserves_Ada_AdaIdeal
    ∧ algebraic_AdaIdeal_AdaRefIdeal (hAdaIdeal := hAdaIdeal) (hAdaRefIdeal := hAdaRefIdeal)
    ∧ preserves_OutFfnFirst_OutFfnFirstIdeal
    ∧ algebraic_OutFfnFirstIdeal_OutFfnFirstRefIdeal (hOutFfnFirstIdeal := hOutFfnFirstIdeal) (hOutFfnFirstRefIdeal := hOutFfnFirstRefIdeal)
    ∧ preserves_InProjFirst_InProjFirstIdeal
    ∧ algebraic_InProjFirstIdeal_InProjFirstRefIdeal (hInProjFirstIdeal := hInProjFirstIdeal) (hInProjFirstRefIdeal := hInProjFirstRefIdeal)
-- ==== Mlstm.lean ====
abbrev S16x2304x1536 : Shape := ⟨3, ![16, 2304, 1536]⟩
abbrev S16x18x512x128 : Shape := ⟨4, ![16, 18, 512, 128]⟩
abbrev S16x144x128 : Shape := ⟨3, ![16, 144, 128]⟩
abbrev S8x128 : Shape := ⟨2, ![8, 128]⟩
abbrev S1x512 : Shape := ⟨2, ![1, 512]⟩
abbrev S512x1024 : Shape := ⟨2, ![512, 1024]⟩
abbrev S16x2304x1024 : Shape := ⟨3, ![16, 2304, 1024]⟩
abbrev S1x2304x1536 : Shape := ⟨3, ![1, 2304, 1536]⟩
abbrev S1x18x512x128 : Shape := ⟨4, ![1, 18, 512, 128]⟩
abbrev S1x144x128 : Shape := ⟨3, ![1, 144, 128]⟩
abbrev S1x2304x1024 : Shape := ⟨3, ![1, 2304, 1024]⟩
abbrev S144x128 : Shape := ⟨2, ![144, 128]⟩
abbrev S8x128x256 : Shape := ⟨3, ![8, 128, 256]⟩
abbrev S8x256x256 : Shape := ⟨3, ![8, 256, 256]⟩
abbrev S2304x512 : Shape := ⟨2, ![2304, 512]⟩
abbrev S144 : Shape := ⟨1, ![144]⟩
abbrev S144x1 : Shape := ⟨2, ![144, 1]⟩
abbrev S128x128 : Shape := ⟨2, ![128, 128]⟩
abbrev S1x128x128 : Shape := ⟨3, ![1, 128, 128]⟩
abbrev S128x256 : Shape := ⟨2, ![128, 256]⟩
abbrev S1x128x256 : Shape := ⟨3, ![1, 128, 256]⟩
abbrev S112x128 : Shape := ⟨2, ![112, 128]⟩
abbrev S1x1x128x128 : Shape := ⟨4, ![1, 1, 128, 128]⟩
abbrev S128x1 : Shape := ⟨2, ![128, 1]⟩
abbrev S1x128 : Shape := ⟨2, ![1, 128]⟩
abbrev S1x256x256 : Shape := ⟨3, ![1, 256, 256]⟩
abbrev S256x256 : Shape := ⟨2, ![256, 256]⟩
abbrev S1x1 : Shape := ⟨2, ![1, 1]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x512 : Shape := ⟨2, ![256, 512]⟩
abbrev S256x1024 : Shape := ⟨2, ![256, 1024]⟩
abbrev S1x256x1024 : Shape := ⟨3, ![1, 256, 1024]⟩

abbrev nBuf : Space → Nat
  | .hbm => 9
  | .vmem => 24
  | .smem => 0
  | _ => 0

abbrev bufTy : (tb : Table) → Fin (tcTables nBuf tb) → BufTy
  | .hbm, ⟨0, _⟩ => ⟨S16x2304x1536, .bf16⟩
  | .hbm, ⟨1, _⟩ => ⟨S16x18x512x128, .bf16⟩
  | .hbm, ⟨2, _⟩ => ⟨S16x144x128, .f32⟩
  | .hbm, ⟨3, _⟩ => ⟨S16x144x128, .f32⟩
  | .hbm, ⟨4, _⟩ => ⟨S8x128, .f32⟩
  | .hbm, ⟨5, _⟩ => ⟨S8x128, .f32⟩
  | .hbm, ⟨6, _⟩ => ⟨S1x512, .f32⟩
  | .hbm, ⟨7, _⟩ => ⟨S512x1024, .bf16⟩
  | .hbm, ⟨8, _⟩ => ⟨S16x2304x1024, .bf16⟩
  | .local _ .vmem, ⟨0, _⟩ => ⟨S1x2304x1536, .bf16⟩
  | .local _ .vmem, ⟨1, _⟩ => ⟨S1x2304x1536, .bf16⟩
  | .local _ .vmem, ⟨2, _⟩ => ⟨S1x18x512x128, .bf16⟩
  | .local _ .vmem, ⟨3, _⟩ => ⟨S1x18x512x128, .bf16⟩
  | .local _ .vmem, ⟨4, _⟩ => ⟨S1x144x128, .f32⟩
  | .local _ .vmem, ⟨5, _⟩ => ⟨S1x144x128, .f32⟩
  | .local _ .vmem, ⟨6, _⟩ => ⟨S1x144x128, .f32⟩
  | .local _ .vmem, ⟨7, _⟩ => ⟨S1x144x128, .f32⟩
  | .local _ .vmem, ⟨8, _⟩ => ⟨S8x128, .f32⟩
  | .local _ .vmem, ⟨9, _⟩ => ⟨S8x128, .f32⟩
  | .local _ .vmem, ⟨10, _⟩ => ⟨S1x512, .f32⟩
  | .local _ .vmem, ⟨11, _⟩ => ⟨S512x1024, .bf16⟩
  | .local _ .vmem, ⟨12, _⟩ => ⟨S1x2304x1024, .bf16⟩
  | .local _ .vmem, ⟨13, _⟩ => ⟨S1x2304x1024, .bf16⟩
  | .local _ .vmem, ⟨14, _⟩ => ⟨S144x128, .f32⟩
  | .local _ .vmem, ⟨15, _⟩ => ⟨S144x128, .f32⟩
  | .local _ .vmem, ⟨16, _⟩ => ⟨S144x128, .f32⟩
  | .local _ .vmem, ⟨17, _⟩ => ⟨S144x128, .f32⟩
  | .local _ .vmem, ⟨18, _⟩ => ⟨S144x128, .f32⟩
  | .local _ .vmem, ⟨19, _⟩ => ⟨S8x128x256, .f32⟩
  | .local _ .vmem, ⟨20, _⟩ => ⟨S8x256x256, .bf16⟩
  | .local _ .vmem, ⟨21, _⟩ => ⟨S8x128x256, .bf16⟩
  | .local _ .vmem, ⟨22, _⟩ => ⟨S2304x512, .f32⟩
  | .local _ .vmem, ⟨23, _⟩ => ⟨S2304x512, .f32⟩
  | _, _ => ⟨S16x2304x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32_183 : BitVec 32 := 2#32
  let v331 : BitVec 32 := Scalar.addi c0_i32 c2_i32_183
  let c1_i32_184 : BitVec 32 := 1#32
  ⟨c0_i32, v331, c1_i32_184⟩
def k0_mult1 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c8_i32_777 : BitVec 32 := 8#32
  let v1414 : BitVec 32 := Scalar.muli v1409 c8_i32_777
  v1414
def k0_mult2 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c8_i32_778 : BitVec 32 := 8#32
  let v1416 : BitVec 32 := Scalar.muli v1410 c8_i32_778
  v1416
def k0_off1 (k0_t1 : Fin k0_t1_loop.trips) : Fin 2 → Nat :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c8_i32_777 : BitVec 32 := 8#32
  let v1414 : BitVec 32 := Scalar.muli v1409 c8_i32_777
  let v1415 : BitVec 32 := v1414
  let v1418 : Index := Scalar.indexCast v1415
  let c0_779 : Index := 0#32
  ![v1418.toNat, 0]
def k0_off2 (k0_t1 : Fin k0_t1_loop.trips) : Fin 2 → Nat :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c8_i32_778 : BitVec 32 := 8#32
  let v1416 : BitVec 32 := Scalar.muli v1410 c8_i32_778
  let v1417 : BitVec 32 := v1416
  let v1420 : Index := Scalar.indexCast v1417
  let c0_780 : Index := 0#32
  ![v1420.toNat, 0]
def k0_off3 (k0_t1 : Fin k0_t1_loop.trips) : Fin 4 → Nat :=
  let c0_794 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let v1470 : Index := Scalar.indexCast v1409
  let c0_795 : Index := 0#32
  let c0_796 : Index := 0#32
  ![0, v1470.toNat, 0, 0]
def k0_mult3 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32 : BitVec 32 := 128#32
  let v1473 : BitVec 32 := Scalar.muli v1409 c128_i32
  v1473
def k0_off4 (k0_t1 : Fin k0_t1_loop.trips) : Fin 3 → Nat :=
  let c0_797 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32 : BitVec 32 := 128#32
  let v1473 : BitVec 32 := Scalar.muli v1409 c128_i32
  let v1474 : BitVec 32 := v1473
  let v1475 : Index := Scalar.indexCast v1474
  let c0_798 : Index := 0#32
  ![0, v1475.toNat, 0]
def k0_mult4 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_805 : BitVec 32 := 128#32
  let v1484 : BitVec 32 := Scalar.muli v1409 c128_i32_805
  v1484
def k0_off5 (k0_t1 : Fin k0_t1_loop.trips) : Fin 3 → Nat :=
  let c0_806 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_805 : BitVec 32 := 128#32
  let v1484 : BitVec 32 := Scalar.muli v1409 c128_i32_805
  let v1485 : BitVec 32 := v1484
  let v1486 : Index := Scalar.indexCast v1485
  let c512_807 : Index := 512#32
  ![0, v1486.toNat, 512]
def k0_off6 (k0_t1 : Fin k0_t1_loop.trips) : Fin 4 → Nat :=
  let c0_812 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let v1492 : Index := Scalar.indexCast v1409
  let c128_813 : Index := 128#32
  let c0_814 : Index := 0#32
  ![0, v1492.toNat, 128, 0]
def k0_mult5 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_815 : BitVec 32 := 128#32
  let v1495 : BitVec 32 := Scalar.muli v1409 c128_i32_815
  v1495
def k0_off7 (k0_t1 : Fin k0_t1_loop.trips) : Fin 3 → Nat :=
  let c0_816 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_815 : BitVec 32 := 128#32
  let v1495 : BitVec 32 := Scalar.muli v1409 c128_i32_815
  let v1496 : BitVec 32 := v1495
  let v1497 : Index := Scalar.indexCast v1496
  let c128_817 : Index := 128#32
  ![0, v1497.toNat, 128]
def k0_mult6 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_824 : BitVec 32 := 128#32
  let v1506 : BitVec 32 := Scalar.muli v1409 c128_i32_824
  v1506
def k0_off8 (k0_t1 : Fin k0_t1_loop.trips) : Fin 3 → Nat :=
  let c0_825 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_824 : BitVec 32 := 128#32
  let v1506 : BitVec 32 := Scalar.muli v1409 c128_i32_824
  let v1507 : BitVec 32 := v1506
  let v1508 : Index := Scalar.indexCast v1507
  let c640 : Index := 640#32
  ![0, v1508.toNat, 640]
def k0_off9 (k0_t1 : Fin k0_t1_loop.trips) : Fin 4 → Nat :=
  let c0_830 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let v1514 : Index := Scalar.indexCast v1409
  let c256_831 : Index := 256#32
  let c0_832 : Index := 0#32
  ![0, v1514.toNat, 256, 0]
def k0_mult7 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_833 : BitVec 32 := 128#32
  let v1517 : BitVec 32 := Scalar.muli v1409 c128_i32_833
  v1517
def k0_off10 (k0_t1 : Fin k0_t1_loop.trips) : Fin 3 → Nat :=
  let c0_834 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_833 : BitVec 32 := 128#32
  let v1517 : BitVec 32 := Scalar.muli v1409 c128_i32_833
  let v1518 : BitVec 32 := v1517
  let v1519 : Index := Scalar.indexCast v1518
  let c256_835 : Index := 256#32
  ![0, v1519.toNat, 256]
def k0_mult8 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_842 : BitVec 32 := 128#32
  let v1528 : BitVec 32 := Scalar.muli v1409 c128_i32_842
  v1528
def k0_off11 (k0_t1 : Fin k0_t1_loop.trips) : Fin 3 → Nat :=
  let c0_843 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_842 : BitVec 32 := 128#32
  let v1528 : BitVec 32 := Scalar.muli v1409 c128_i32_842
  let v1529 : BitVec 32 := v1528
  let v1530 : Index := Scalar.indexCast v1529
  let c768_844 : Index := 768#32
  ![0, v1530.toNat, 768]
def k0_off12 (k0_t1 : Fin k0_t1_loop.trips) : Fin 4 → Nat :=
  let c0_849 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let v1536 : Index := Scalar.indexCast v1409
  let c384_850 : Index := 384#32
  let c0_851 : Index := 0#32
  ![0, v1536.toNat, 384, 0]
def k0_mult9 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_852 : BitVec 32 := 128#32
  let v1539 : BitVec 32 := Scalar.muli v1409 c128_i32_852
  v1539
def k0_off13 (k0_t1 : Fin k0_t1_loop.trips) : Fin 3 → Nat :=
  let c0_853 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_852 : BitVec 32 := 128#32
  let v1539 : BitVec 32 := Scalar.muli v1409 c128_i32_852
  let v1540 : BitVec 32 := v1539
  let v1541 : Index := Scalar.indexCast v1540
  let c384_854 : Index := 384#32
  ![0, v1541.toNat, 384]
def k0_mult10 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_861 : BitVec 32 := 128#32
  let v1550 : BitVec 32 := Scalar.muli v1409 c128_i32_861
  v1550
def k0_off14 (k0_t1 : Fin k0_t1_loop.trips) : Fin 3 → Nat :=
  let c0_862 : Index := 0#32
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_861 : BitVec 32 := 128#32
  let v1550 : BitVec 32 := Scalar.muli v1409 c128_i32_861
  let v1551 : BitVec 32 := v1550
  let v1552 : Index := Scalar.indexCast v1551
  let c896 : Index := 896#32
  ![0, v1552.toNat, 896]
def k0_off15 (k0_t1 : Fin k0_t1_loop.trips) : Fin 4 → Nat :=
  let c0_867 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let v1558 : Index := Scalar.indexCast v1410
  let c0_868 : Index := 0#32
  let c0_869 : Index := 0#32
  ![0, v1558.toNat, 0, 0]
def k0_mult11 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_870 : BitVec 32 := 128#32
  let v1561 : BitVec 32 := Scalar.muli v1410 c128_i32_870
  v1561
def k0_off16 (k0_t1 : Fin k0_t1_loop.trips) : Fin 3 → Nat :=
  let c0_871 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_870 : BitVec 32 := 128#32
  let v1561 : BitVec 32 := Scalar.muli v1410 c128_i32_870
  let v1562 : BitVec 32 := v1561
  let v1563 : Index := Scalar.indexCast v1562
  let c0_872 : Index := 0#32
  ![0, v1563.toNat, 0]
def k0_mult12 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_879 : BitVec 32 := 128#32
  let v1572 : BitVec 32 := Scalar.muli v1410 c128_i32_879
  v1572
def k0_off17 (k0_t1 : Fin k0_t1_loop.trips) : Fin 3 → Nat :=
  let c0_880 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_879 : BitVec 32 := 128#32
  let v1572 : BitVec 32 := Scalar.muli v1410 c128_i32_879
  let v1573 : BitVec 32 := v1572
  let v1574 : Index := Scalar.indexCast v1573
  let c512_881 : Index := 512#32
  ![0, v1574.toNat, 512]
def k0_off18 (k0_t1 : Fin k0_t1_loop.trips) : Fin 4 → Nat :=
  let c0_886 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let v1580 : Index := Scalar.indexCast v1410
  let c128_887 : Index := 128#32
  let c0_888 : Index := 0#32
  ![0, v1580.toNat, 128, 0]
def k0_mult13 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_889 : BitVec 32 := 128#32
  let v1583 : BitVec 32 := Scalar.muli v1410 c128_i32_889
  v1583
def k0_off19 (k0_t1 : Fin k0_t1_loop.trips) : Fin 3 → Nat :=
  let c0_890 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_889 : BitVec 32 := 128#32
  let v1583 : BitVec 32 := Scalar.muli v1410 c128_i32_889
  let v1584 : BitVec 32 := v1583
  let v1585 : Index := Scalar.indexCast v1584
  let c128_891 : Index := 128#32
  ![0, v1585.toNat, 128]
def k0_mult14 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_898 : BitVec 32 := 128#32
  let v1594 : BitVec 32 := Scalar.muli v1410 c128_i32_898
  v1594
def k0_off20 (k0_t1 : Fin k0_t1_loop.trips) : Fin 3 → Nat :=
  let c0_899 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_898 : BitVec 32 := 128#32
  let v1594 : BitVec 32 := Scalar.muli v1410 c128_i32_898
  let v1595 : BitVec 32 := v1594
  let v1596 : Index := Scalar.indexCast v1595
  let c640_900 : Index := 640#32
  ![0, v1596.toNat, 640]
def k0_off21 (k0_t1 : Fin k0_t1_loop.trips) : Fin 4 → Nat :=
  let c0_905 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let v1602 : Index := Scalar.indexCast v1410
  let c256_906 : Index := 256#32
  let c0_907 : Index := 0#32
  ![0, v1602.toNat, 256, 0]
def k0_mult15 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_908 : BitVec 32 := 128#32
  let v1605 : BitVec 32 := Scalar.muli v1410 c128_i32_908
  v1605
def k0_off22 (k0_t1 : Fin k0_t1_loop.trips) : Fin 3 → Nat :=
  let c0_909 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_908 : BitVec 32 := 128#32
  let v1605 : BitVec 32 := Scalar.muli v1410 c128_i32_908
  let v1606 : BitVec 32 := v1605
  let v1607 : Index := Scalar.indexCast v1606
  let c256_910 : Index := 256#32
  ![0, v1607.toNat, 256]
def k0_mult16 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_917 : BitVec 32 := 128#32
  let v1616 : BitVec 32 := Scalar.muli v1410 c128_i32_917
  v1616
def k0_off23 (k0_t1 : Fin k0_t1_loop.trips) : Fin 3 → Nat :=
  let c0_918 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_917 : BitVec 32 := 128#32
  let v1616 : BitVec 32 := Scalar.muli v1410 c128_i32_917
  let v1617 : BitVec 32 := v1616
  let v1618 : Index := Scalar.indexCast v1617
  let c768_919 : Index := 768#32
  ![0, v1618.toNat, 768]
def k0_off24 (k0_t1 : Fin k0_t1_loop.trips) : Fin 4 → Nat :=
  let c0_924 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let v1624 : Index := Scalar.indexCast v1410
  let c384_925 : Index := 384#32
  let c0_926 : Index := 0#32
  ![0, v1624.toNat, 384, 0]
def k0_mult17 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_927 : BitVec 32 := 128#32
  let v1627 : BitVec 32 := Scalar.muli v1410 c128_i32_927
  v1627
def k0_off25 (k0_t1 : Fin k0_t1_loop.trips) : Fin 3 → Nat :=
  let c0_928 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_927 : BitVec 32 := 128#32
  let v1627 : BitVec 32 := Scalar.muli v1410 c128_i32_927
  let v1628 : BitVec 32 := v1627
  let v1629 : Index := Scalar.indexCast v1628
  let c384_929 : Index := 384#32
  ![0, v1629.toNat, 384]
def k0_mult18 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_936 : BitVec 32 := 128#32
  let v1638 : BitVec 32 := Scalar.muli v1410 c128_i32_936
  v1638
def k0_off26 (k0_t1 : Fin k0_t1_loop.trips) : Fin 3 → Nat :=
  let c0_937 : Index := 0#32
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_936 : BitVec 32 := 128#32
  let v1638 : BitVec 32 := Scalar.muli v1410 c128_i32_936
  let v1639 : BitVec 32 := v1638
  let v1640 : Index := Scalar.indexCast v1639
  let c896_938 : Index := 896#32
  ![0, v1640.toNat, 896]
def k0_mult19 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1015 : BitVec 32 := 128#32
  let v1862 : BitVec 32 := Scalar.muli v1409 c128_i32_1015
  v1862
def k0_off27 (k0_t1 : Fin k0_t1_loop.trips) : Fin 2 → Nat :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1015 : BitVec 32 := 128#32
  let v1862 : BitVec 32 := Scalar.muli v1409 c128_i32_1015
  let v1863 : BitVec 32 := v1862
  let v1864 : Index := Scalar.indexCast v1863
  let c0_1016 : Index := 0#32
  ![v1864.toNat, 0]
def k0_mult20 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1017 : BitVec 32 := 128#32
  let v1876 : BitVec 32 := Scalar.muli v1409 c128_i32_1017
  v1876
def k0_off28 (k0_t1 : Fin k0_t1_loop.trips) : Fin 2 → Nat :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1017 : BitVec 32 := 128#32
  let v1876 : BitVec 32 := Scalar.muli v1409 c128_i32_1017
  let v1877 : BitVec 32 := v1876
  let v1878 : Index := Scalar.indexCast v1877
  let c128_1018 : Index := 128#32
  ![v1878.toNat, 128]
def k0_mult21 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1019 : BitVec 32 := 128#32
  let v1890 : BitVec 32 := Scalar.muli v1409 c128_i32_1019
  v1890
def k0_off29 (k0_t1 : Fin k0_t1_loop.trips) : Fin 2 → Nat :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1019 : BitVec 32 := 128#32
  let v1890 : BitVec 32 := Scalar.muli v1409 c128_i32_1019
  let v1891 : BitVec 32 := v1890
  let v1892 : Index := Scalar.indexCast v1891
  let c256_1020 : Index := 256#32
  ![v1892.toNat, 256]
def k0_mult22 (k0_t1 : Fin k0_t1_loop.trips) : BitVec 32 :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1021 : BitVec 32 := 128#32
  let v1904 : BitVec 32 := Scalar.muli v1409 c128_i32_1021
  v1904
def k0_off30 (k0_t1 : Fin k0_t1_loop.trips) : Fin 2 → Nat :=
  let c0_i32 : BitVec 32 := 0#32
  let c1_i32_184 : BitVec 32 := 1#32
  let arg20 : BitVec 32 := Scf.iv c0_i32 c1_i32_184 k0_t1
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1021 : BitVec 32 := 128#32
  let v1904 : BitVec 32 := Scalar.muli v1409 c128_i32_1021
  let v1905 : BitVec 32 := v1904
  let v1906 : Index := Scalar.indexCast v1905
  let c384_1022 : Index := 384#32
  ![v1906.toNat, 384]
def k0_mult23 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_1023 : BitVec 32 := 128#32
  let v1918 : BitVec 32 := Scalar.muli v1410 c128_i32_1023
  v1918
def k0_off31 (k0_t1 : Fin k0_t1_loop.trips) : Fin 2 → Nat :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_1023 : BitVec 32 := 128#32
  let v1918 : BitVec 32 := Scalar.muli v1410 c128_i32_1023
  let v1919 : BitVec 32 := v1918
  let v1920 : Index := Scalar.indexCast v1919
  let c0_1024 : Index := 0#32
  ![v1920.toNat, 0]
def k0_mult24 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_1025 : BitVec 32 := 128#32
  let v1932 : BitVec 32 := Scalar.muli v1410 c128_i32_1025
  v1932
def k0_off32 (k0_t1 : Fin k0_t1_loop.trips) : Fin 2 → Nat :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_1025 : BitVec 32 := 128#32
  let v1932 : BitVec 32 := Scalar.muli v1410 c128_i32_1025
  let v1933 : BitVec 32 := v1932
  let v1934 : Index := Scalar.indexCast v1933
  let c128_1026 : Index := 128#32
  ![v1934.toNat, 128]
def k0_mult25 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_1027 : BitVec 32 := 128#32
  let v1946 : BitVec 32 := Scalar.muli v1410 c128_i32_1027
  v1946
def k0_off33 (k0_t1 : Fin k0_t1_loop.trips) : Fin 2 → Nat :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_1027 : BitVec 32 := 128#32
  let v1946 : BitVec 32 := Scalar.muli v1410 c128_i32_1027
  let v1947 : BitVec 32 := v1946
  let v1948 : Index := Scalar.indexCast v1947
  let c256_1028 : Index := 256#32
  ![v1948.toNat, 256]
def k0_mult26 (k0_t1 : Fin k0_t1_loop.trips) : BitVec 32 :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_1029 : BitVec 32 := 128#32
  let v1960 : BitVec 32 := Scalar.muli v1410 c128_i32_1029
  v1960
def k0_off34 (k0_t1 : Fin k0_t1_loop.trips) : Fin 2 → Nat :=
  let c17_i32 : BitVec 32 := 17#32
  let c0_i32 : BitVec 32 := 0#32
  let c1_i32_184 : BitVec 32 := 1#32
  let arg20 : BitVec 32 := Scf.iv c0_i32 c1_i32_184 k0_t1
  let v1410 : BitVec 32 := Scalar.subi c17_i32 arg20
  let c128_i32_1029 : BitVec 32 := 128#32
  let v1960 : BitVec 32 := Scalar.muli v1410 c128_i32_1029
  let v1961 : BitVec 32 := v1960
  let v1962 : Index := Scalar.indexCast v1961
  let c384_1030 : Index := 384#32
  ![v1962.toNat, 384]
@[reducible] def k0_t2_loop : Scf.Loop 32 :=
  let c2_i32_186 : BitVec 32 := 2#32
  let c16_i32_187 : BitVec 32 := 16#32
  let v333 : BitVec 32 := Scalar.addi c2_i32_186 c16_i32_187
  let c1_i32_188 : BitVec 32 := 1#32
  ⟨c2_i32_186, v333, c1_i32_188⟩
def k0_mult27 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c8_i32_777 : BitVec 32 := 8#32
  let v1414 : BitVec 32 := Scalar.muli v1409 c8_i32_777
  v1414
def k0_mult28 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c8_i32_778 : BitVec 32 := 8#32
  let v1416 : BitVec 32 := Scalar.muli v1410 c8_i32_778
  v1416
def k0_off35 (k0_t2 : Fin k0_t2_loop.trips) : Fin 2 → Nat :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c8_i32_777 : BitVec 32 := 8#32
  let v1414 : BitVec 32 := Scalar.muli v1409 c8_i32_777
  let v1415 : BitVec 32 := v1414
  let v1418 : Index := Scalar.indexCast v1415
  let c0_779 : Index := 0#32
  ![v1418.toNat, 0]
def k0_off36 (k0_t2 : Fin k0_t2_loop.trips) : Fin 2 → Nat :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c8_i32_778 : BitVec 32 := 8#32
  let v1416 : BitVec 32 := Scalar.muli v1410 c8_i32_778
  let v1417 : BitVec 32 := v1416
  let v1420 : Index := Scalar.indexCast v1417
  let c0_780 : Index := 0#32
  ![v1420.toNat, 0]
def k0_off37 (k0_t2 : Fin k0_t2_loop.trips) : Fin 4 → Nat :=
  let c0_794 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let v1470 : Index := Scalar.indexCast v1409
  let c0_795 : Index := 0#32
  let c0_796 : Index := 0#32
  ![0, v1470.toNat, 0, 0]
def k0_mult29 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32 : BitVec 32 := 128#32
  let v1473 : BitVec 32 := Scalar.muli v1409 c128_i32
  v1473
def k0_off38 (k0_t2 : Fin k0_t2_loop.trips) : Fin 3 → Nat :=
  let c0_797 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32 : BitVec 32 := 128#32
  let v1473 : BitVec 32 := Scalar.muli v1409 c128_i32
  let v1474 : BitVec 32 := v1473
  let v1475 : Index := Scalar.indexCast v1474
  let c0_798 : Index := 0#32
  ![0, v1475.toNat, 0]
def k0_mult30 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_805 : BitVec 32 := 128#32
  let v1484 : BitVec 32 := Scalar.muli v1409 c128_i32_805
  v1484
def k0_off39 (k0_t2 : Fin k0_t2_loop.trips) : Fin 3 → Nat :=
  let c0_806 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_805 : BitVec 32 := 128#32
  let v1484 : BitVec 32 := Scalar.muli v1409 c128_i32_805
  let v1485 : BitVec 32 := v1484
  let v1486 : Index := Scalar.indexCast v1485
  let c512_807 : Index := 512#32
  ![0, v1486.toNat, 512]
def k0_off40 (k0_t2 : Fin k0_t2_loop.trips) : Fin 4 → Nat :=
  let c0_812 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let v1492 : Index := Scalar.indexCast v1409
  let c128_813 : Index := 128#32
  let c0_814 : Index := 0#32
  ![0, v1492.toNat, 128, 0]
def k0_mult31 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_815 : BitVec 32 := 128#32
  let v1495 : BitVec 32 := Scalar.muli v1409 c128_i32_815
  v1495
def k0_off41 (k0_t2 : Fin k0_t2_loop.trips) : Fin 3 → Nat :=
  let c0_816 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_815 : BitVec 32 := 128#32
  let v1495 : BitVec 32 := Scalar.muli v1409 c128_i32_815
  let v1496 : BitVec 32 := v1495
  let v1497 : Index := Scalar.indexCast v1496
  let c128_817 : Index := 128#32
  ![0, v1497.toNat, 128]
def k0_mult32 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_824 : BitVec 32 := 128#32
  let v1506 : BitVec 32 := Scalar.muli v1409 c128_i32_824
  v1506
def k0_off42 (k0_t2 : Fin k0_t2_loop.trips) : Fin 3 → Nat :=
  let c0_825 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_824 : BitVec 32 := 128#32
  let v1506 : BitVec 32 := Scalar.muli v1409 c128_i32_824
  let v1507 : BitVec 32 := v1506
  let v1508 : Index := Scalar.indexCast v1507
  let c640 : Index := 640#32
  ![0, v1508.toNat, 640]
def k0_off43 (k0_t2 : Fin k0_t2_loop.trips) : Fin 4 → Nat :=
  let c0_830 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let v1514 : Index := Scalar.indexCast v1409
  let c256_831 : Index := 256#32
  let c0_832 : Index := 0#32
  ![0, v1514.toNat, 256, 0]
def k0_mult33 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_833 : BitVec 32 := 128#32
  let v1517 : BitVec 32 := Scalar.muli v1409 c128_i32_833
  v1517
def k0_off44 (k0_t2 : Fin k0_t2_loop.trips) : Fin 3 → Nat :=
  let c0_834 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_833 : BitVec 32 := 128#32
  let v1517 : BitVec 32 := Scalar.muli v1409 c128_i32_833
  let v1518 : BitVec 32 := v1517
  let v1519 : Index := Scalar.indexCast v1518
  let c256_835 : Index := 256#32
  ![0, v1519.toNat, 256]
def k0_mult34 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_842 : BitVec 32 := 128#32
  let v1528 : BitVec 32 := Scalar.muli v1409 c128_i32_842
  v1528
def k0_off45 (k0_t2 : Fin k0_t2_loop.trips) : Fin 3 → Nat :=
  let c0_843 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_842 : BitVec 32 := 128#32
  let v1528 : BitVec 32 := Scalar.muli v1409 c128_i32_842
  let v1529 : BitVec 32 := v1528
  let v1530 : Index := Scalar.indexCast v1529
  let c768_844 : Index := 768#32
  ![0, v1530.toNat, 768]
def k0_off46 (k0_t2 : Fin k0_t2_loop.trips) : Fin 4 → Nat :=
  let c0_849 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let v1536 : Index := Scalar.indexCast v1409
  let c384_850 : Index := 384#32
  let c0_851 : Index := 0#32
  ![0, v1536.toNat, 384, 0]
def k0_mult35 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_852 : BitVec 32 := 128#32
  let v1539 : BitVec 32 := Scalar.muli v1409 c128_i32_852
  v1539
def k0_off47 (k0_t2 : Fin k0_t2_loop.trips) : Fin 3 → Nat :=
  let c0_853 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_852 : BitVec 32 := 128#32
  let v1539 : BitVec 32 := Scalar.muli v1409 c128_i32_852
  let v1540 : BitVec 32 := v1539
  let v1541 : Index := Scalar.indexCast v1540
  let c384_854 : Index := 384#32
  ![0, v1541.toNat, 384]
def k0_mult36 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_861 : BitVec 32 := 128#32
  let v1550 : BitVec 32 := Scalar.muli v1409 c128_i32_861
  v1550
def k0_off48 (k0_t2 : Fin k0_t2_loop.trips) : Fin 3 → Nat :=
  let c0_862 : Index := 0#32
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_861 : BitVec 32 := 128#32
  let v1550 : BitVec 32 := Scalar.muli v1409 c128_i32_861
  let v1551 : BitVec 32 := v1550
  let v1552 : Index := Scalar.indexCast v1551
  let c896 : Index := 896#32
  ![0, v1552.toNat, 896]
def k0_off49 (k0_t2 : Fin k0_t2_loop.trips) : Fin 4 → Nat :=
  let c0_867 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let v1558 : Index := Scalar.indexCast v1410
  let c0_868 : Index := 0#32
  let c0_869 : Index := 0#32
  ![0, v1558.toNat, 0, 0]
def k0_mult37 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_870 : BitVec 32 := 128#32
  let v1561 : BitVec 32 := Scalar.muli v1410 c128_i32_870
  v1561
def k0_off50 (k0_t2 : Fin k0_t2_loop.trips) : Fin 3 → Nat :=
  let c0_871 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_870 : BitVec 32 := 128#32
  let v1561 : BitVec 32 := Scalar.muli v1410 c128_i32_870
  let v1562 : BitVec 32 := v1561
  let v1563 : Index := Scalar.indexCast v1562
  let c0_872 : Index := 0#32
  ![0, v1563.toNat, 0]
def k0_mult38 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_879 : BitVec 32 := 128#32
  let v1572 : BitVec 32 := Scalar.muli v1410 c128_i32_879
  v1572
def k0_off51 (k0_t2 : Fin k0_t2_loop.trips) : Fin 3 → Nat :=
  let c0_880 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_879 : BitVec 32 := 128#32
  let v1572 : BitVec 32 := Scalar.muli v1410 c128_i32_879
  let v1573 : BitVec 32 := v1572
  let v1574 : Index := Scalar.indexCast v1573
  let c512_881 : Index := 512#32
  ![0, v1574.toNat, 512]
def k0_off52 (k0_t2 : Fin k0_t2_loop.trips) : Fin 4 → Nat :=
  let c0_886 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let v1580 : Index := Scalar.indexCast v1410
  let c128_887 : Index := 128#32
  let c0_888 : Index := 0#32
  ![0, v1580.toNat, 128, 0]
def k0_mult39 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_889 : BitVec 32 := 128#32
  let v1583 : BitVec 32 := Scalar.muli v1410 c128_i32_889
  v1583
def k0_off53 (k0_t2 : Fin k0_t2_loop.trips) : Fin 3 → Nat :=
  let c0_890 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_889 : BitVec 32 := 128#32
  let v1583 : BitVec 32 := Scalar.muli v1410 c128_i32_889
  let v1584 : BitVec 32 := v1583
  let v1585 : Index := Scalar.indexCast v1584
  let c128_891 : Index := 128#32
  ![0, v1585.toNat, 128]
def k0_mult40 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_898 : BitVec 32 := 128#32
  let v1594 : BitVec 32 := Scalar.muli v1410 c128_i32_898
  v1594
def k0_off54 (k0_t2 : Fin k0_t2_loop.trips) : Fin 3 → Nat :=
  let c0_899 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_898 : BitVec 32 := 128#32
  let v1594 : BitVec 32 := Scalar.muli v1410 c128_i32_898
  let v1595 : BitVec 32 := v1594
  let v1596 : Index := Scalar.indexCast v1595
  let c640_900 : Index := 640#32
  ![0, v1596.toNat, 640]
def k0_off55 (k0_t2 : Fin k0_t2_loop.trips) : Fin 4 → Nat :=
  let c0_905 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let v1602 : Index := Scalar.indexCast v1410
  let c256_906 : Index := 256#32
  let c0_907 : Index := 0#32
  ![0, v1602.toNat, 256, 0]
def k0_mult41 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_908 : BitVec 32 := 128#32
  let v1605 : BitVec 32 := Scalar.muli v1410 c128_i32_908
  v1605
def k0_off56 (k0_t2 : Fin k0_t2_loop.trips) : Fin 3 → Nat :=
  let c0_909 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_908 : BitVec 32 := 128#32
  let v1605 : BitVec 32 := Scalar.muli v1410 c128_i32_908
  let v1606 : BitVec 32 := v1605
  let v1607 : Index := Scalar.indexCast v1606
  let c256_910 : Index := 256#32
  ![0, v1607.toNat, 256]
def k0_mult42 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_917 : BitVec 32 := 128#32
  let v1616 : BitVec 32 := Scalar.muli v1410 c128_i32_917
  v1616
def k0_off57 (k0_t2 : Fin k0_t2_loop.trips) : Fin 3 → Nat :=
  let c0_918 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_917 : BitVec 32 := 128#32
  let v1616 : BitVec 32 := Scalar.muli v1410 c128_i32_917
  let v1617 : BitVec 32 := v1616
  let v1618 : Index := Scalar.indexCast v1617
  let c768_919 : Index := 768#32
  ![0, v1618.toNat, 768]
def k0_off58 (k0_t2 : Fin k0_t2_loop.trips) : Fin 4 → Nat :=
  let c0_924 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let v1624 : Index := Scalar.indexCast v1410
  let c384_925 : Index := 384#32
  let c0_926 : Index := 0#32
  ![0, v1624.toNat, 384, 0]
def k0_mult43 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_927 : BitVec 32 := 128#32
  let v1627 : BitVec 32 := Scalar.muli v1410 c128_i32_927
  v1627
def k0_off59 (k0_t2 : Fin k0_t2_loop.trips) : Fin 3 → Nat :=
  let c0_928 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_927 : BitVec 32 := 128#32
  let v1627 : BitVec 32 := Scalar.muli v1410 c128_i32_927
  let v1628 : BitVec 32 := v1627
  let v1629 : Index := Scalar.indexCast v1628
  let c384_929 : Index := 384#32
  ![0, v1629.toNat, 384]
def k0_mult44 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_936 : BitVec 32 := 128#32
  let v1638 : BitVec 32 := Scalar.muli v1410 c128_i32_936
  v1638
def k0_off60 (k0_t2 : Fin k0_t2_loop.trips) : Fin 3 → Nat :=
  let c0_937 : Index := 0#32
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_936 : BitVec 32 := 128#32
  let v1638 : BitVec 32 := Scalar.muli v1410 c128_i32_936
  let v1639 : BitVec 32 := v1638
  let v1640 : Index := Scalar.indexCast v1639
  let c896_938 : Index := 896#32
  ![0, v1640.toNat, 896]
def k0_mult45 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1015 : BitVec 32 := 128#32
  let v1862 : BitVec 32 := Scalar.muli v1409 c128_i32_1015
  v1862
def k0_off61 (k0_t2 : Fin k0_t2_loop.trips) : Fin 2 → Nat :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1015 : BitVec 32 := 128#32
  let v1862 : BitVec 32 := Scalar.muli v1409 c128_i32_1015
  let v1863 : BitVec 32 := v1862
  let v1864 : Index := Scalar.indexCast v1863
  let c0_1016 : Index := 0#32
  ![v1864.toNat, 0]
def k0_mult46 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1017 : BitVec 32 := 128#32
  let v1876 : BitVec 32 := Scalar.muli v1409 c128_i32_1017
  v1876
def k0_off62 (k0_t2 : Fin k0_t2_loop.trips) : Fin 2 → Nat :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1017 : BitVec 32 := 128#32
  let v1876 : BitVec 32 := Scalar.muli v1409 c128_i32_1017
  let v1877 : BitVec 32 := v1876
  let v1878 : Index := Scalar.indexCast v1877
  let c128_1018 : Index := 128#32
  ![v1878.toNat, 128]
def k0_mult47 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1019 : BitVec 32 := 128#32
  let v1890 : BitVec 32 := Scalar.muli v1409 c128_i32_1019
  v1890
def k0_off63 (k0_t2 : Fin k0_t2_loop.trips) : Fin 2 → Nat :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1019 : BitVec 32 := 128#32
  let v1890 : BitVec 32 := Scalar.muli v1409 c128_i32_1019
  let v1891 : BitVec 32 := v1890
  let v1892 : Index := Scalar.indexCast v1891
  let c256_1020 : Index := 256#32
  ![v1892.toNat, 256]
def k0_mult48 (k0_t2 : Fin k0_t2_loop.trips) : BitVec 32 :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1021 : BitVec 32 := 128#32
  let v1904 : BitVec 32 := Scalar.muli v1409 c128_i32_1021
  v1904
def k0_off64 (k0_t2 : Fin k0_t2_loop.trips) : Fin 2 → Nat :=
  let c2_i32_186 : BitVec 32 := 2#32
  let c1_i32_188 : BitVec 32 := 1#32
  let arg20 : BitVec 32 := Scf.iv c2_i32_186 c1_i32_188 k0_t2
  let c2_i32_773 : BitVec 32 := 2#32
  let v1406 : BitVec 1 := Scalar.cmpi .slt arg20 c2_i32_773
  let c16_i32_774 : BitVec 32 := 16#32
  let v1407 : BitVec 32 := Scalar.addi c16_i32_774 arg20
  let c2_i32_775 : BitVec 32 := 2#32
  let v1408 : BitVec 32 := Scalar.subi arg20 c2_i32_775
  let v1409 : BitVec 32 := Scalar.select v1406 v1407 v1408
  let c128_i32_1021 : BitVec 32 := 128#32
  let v1904 : BitVec 32 := Scalar.muli v1409 c128_i32_1021
  let v1905 : BitVec 32 := v1904
  let v1906 : Index := Scalar.indexCast v1905
  let c384_1022 : Index := 384#32
  ![v1906.toNat, 384]
def k0_mult49 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_1023 : BitVec 32 := 128#32
  let v1918 : BitVec 32 := Scalar.muli v1410 c128_i32_1023
  v1918
def k0_off65 (k0_t2 : Fin k0_t2_loop.trips) : Fin 2 → Nat :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_1023 : BitVec 32 := 128#32
  let v1918 : BitVec 32 := Scalar.muli v1410 c128_i32_1023
  let v1919 : BitVec 32 := v1918
  let v1920 : Index := Scalar.indexCast v1919
  let c0_1024 : Index := 0#32
  ![v1920.toNat, 0]
def k0_mult50 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_1025 : BitVec 32 := 128#32
  let v1932 : BitVec 32 := Scalar.muli v1410 c128_i32_1025
  v1932
def k0_off66 (k0_t2 : Fin k0_t2_loop.trips) : Fin 2 → Nat :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_1025 : BitVec 32 := 128#32
  let v1932 : BitVec 32 := Scalar.muli v1410 c128_i32_1025
  let v1933 : BitVec 32 := v1932
  let v1934 : Index := Scalar.indexCast v1933
  let c128_1026 : Index := 128#32
  ![v1934.toNat, 128]
def k0_mult51 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_1027 : BitVec 32 := 128#32
  let v1946 : BitVec 32 := Scalar.muli v1410 c128_i32_1027
  v1946
def k0_off67 (k0_t2 : Fin k0_t2_loop.trips) : Fin 2 → Nat :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_1027 : BitVec 32 := 128#32
  let v1946 : BitVec 32 := Scalar.muli v1410 c128_i32_1027
  let v1947 : BitVec 32 := v1946
  let v1948 : Index := Scalar.indexCast v1947
  let c256_1028 : Index := 256#32
  ![v1948.toNat, 256]
def k0_mult52 (k0_t2 : Fin k0_t2_loop.trips) : BitVec 32 :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_1029 : BitVec 32 := 128#32
  let v1960 : BitVec 32 := Scalar.muli v1410 c128_i32_1029
  v1960
def k0_off68 (k0_t2 : Fin k0_t2_loop.trips) : Fin 2 → Nat :=
  let c17_i32 : BitVec 32 := 17#32
  let c2_i32_186 : BitVec 32 := 2#32
  let c1_i32_188 : BitVec 32 := 1#32
  let arg20 : BitVec 32 := Scf.iv c2_i32_186 c1_i32_188 k0_t2
  let v1410 : BitVec 32 := Scalar.subi c17_i32 arg20
  let c128_i32_1029 : BitVec 32 := 128#32
  let v1960 : BitVec 32 := Scalar.muli v1410 c128_i32_1029
  let v1961 : BitVec 32 := v1960
  let v1962 : Index := Scalar.indexCast v1961
  let c384_1030 : Index := 384#32
  ![v1962.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x18x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x144x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x144x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2304x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFfn.lean ====
abbrev S16x2304x1024 : Shape := ⟨3, ![16, 2304, 1024]⟩
abbrev S16x2304x512 : Shape := ⟨3, ![16, 2304, 512]⟩
abbrev S4x24x6144 : Shape := ⟨3, ![4, 24, 6144]⟩
abbrev S4x1x1024 : Shape := ⟨3, ![4, 1, 1024]⟩
abbrev S4x512x1024 : Shape := ⟨3, ![4, 512, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1x256x1024 : Shape := ⟨3, ![1, 256, 1024]⟩
abbrev S1x768x1024 : Shape := ⟨3, ![1, 768, 1024]⟩
abbrev S1x768x512 : Shape := ⟨3, ![1, 768, 512]⟩
abbrev S1x24x1024 : Shape := ⟨3, ![1, 24, 1024]⟩
abbrev S1x1x1024 : Shape := ⟨3, ![1, 1, 1024]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 11
  | .vmem => 24
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .bf16⟩
  | .hbm, ⟨2, _⟩ => ⟨S16x2304x512, .bf16⟩
  | .hbm, ⟨3, _⟩ => ⟨S4x24x6144, .f32⟩
  | .hbm, ⟨4, _⟩ => ⟨S4x1x1024, .f32⟩
  | .hbm, ⟨5, _⟩ => ⟨S4x512x1024, .bf16⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S1x1024, .f32⟩
  | .hbm, ⟨10, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x768x1024, .bf16⟩
  | .local _ .vmem, ⟨9, _⟩ => ⟨S1x768x1024, .bf16⟩
  | .local _ .vmem, ⟨10, _⟩ => ⟨S1x768x512, .bf16⟩
  | .local _ .vmem, ⟨11, _⟩ => ⟨S1x768x512, .bf16⟩
  | .local _ .vmem, ⟨12, _⟩ => ⟨S1x24x1024, .f32⟩
  | .local _ .vmem, ⟨13, _⟩ => ⟨S1x24x1024, .f32⟩
  | .local _ .vmem, ⟨14, _⟩ => ⟨S1x24x1024, .f32⟩
  | .local _ .vmem, ⟨15, _⟩ => ⟨S1x24x1024, .f32⟩
  | .local _ .vmem, ⟨16, _⟩ => ⟨S1x1x1024, .f32⟩
  | .local _ .vmem, ⟨17, _⟩ => ⟨S1x512x1024, .bf16⟩
  | .local _ .vmem, ⟨18, _⟩ => ⟨S1x1024x2816, .bf16⟩
  | .local _ .vmem, ⟨19, _⟩ => ⟨S1x1024x2816, .bf16⟩
  | .local _ .vmem, ⟨20, _⟩ => ⟨S1x2816x1024, .bf16⟩
  | .local _ .vmem, ⟨21, _⟩ => ⟨S1x1024, .f32⟩
  | .local _ .vmem, ⟨22, _⟩ => ⟨S1x768x1024, .f32⟩
  | .local _ .vmem, ⟨23, _⟩ => ⟨S1x768x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![16, 3], ![false, false]⟩

def k0_off1 (i : grid0.Coords) : Fin 3 → Nat :=
  let c0_16 : Index := 0#32
  let arg0 : BitVec 32 := BitVec.ofNat 32 (i 0).val
  let v20 : Index := Scalar.indexCast arg0
  let c0_17 : Index := 0#32
  ![0, v20.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c8_i32 : BitVec 32 := 8#32
  let v2 : BitVec 32 := Scalar.minsi v1 c8_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c8_i32 : BitVec 32 := 8#32
  let v2 : BitVec 32 := Scalar.minsi v1 c8_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c8_i32 : BitVec 32 := 8#32
  let v2 : BitVec 32 := Scalar.minsi v1 c8_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c2_i32 : BitVec 32 := 2#32
  let c0_i32_0 : BitVec 32 := 0#32
  ![c1_i32.toNat, c0_i32.toNat, c2_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c3_i32 : BitVec 32 := 3#32
  let c0_i32_0 : BitVec 32 := 0#32
  ![c1_i32.toNat, c0_i32.toNat, c3_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c4_i32 : BitVec 32 := 4#32
  let c0_i32_0 : BitVec 32 := 0#32
  ![c1_i32.toNat, c0_i32.toNat, c4_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c5_i32 : BitVec 32 := 5#32
  let c0_i32_0 : BitVec 32 := 0#32
  ![c1_i32.toNat, c0_i32.toNat, c5_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x24x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x24x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x768x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== OutFfnRefIdeal.lean ====
abbrev S16x2304x1024 : Shape := ⟨3, ![16, 2304, 1024]⟩
abbrev S16x2304x512 : Shape := ⟨3, ![16, 2304, 512]⟩
abbrev S4x24x6144 : Shape := ⟨3, ![4, 24, 6144]⟩
abbrev S4x1x1024 : Shape := ⟨3, ![4, 1, 1024]⟩
abbrev S4x512x1024 : Shape := ⟨3, ![4, 512, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1x512x1024 : Shape := ⟨3, ![1, 512, 1024]⟩
abbrev S512x1024 : Shape := ⟨2, ![512, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x16x6144 : Shape := ⟨3, ![1, 16, 6144]⟩
abbrev S16x6144 : Shape := ⟨2, ![16, 6144]⟩
abbrev S16x1x6144 : Shape := ⟨3, ![16, 1, 6144]⟩
abbrev S16x2048x6144 : Shape := ⟨3, ![16, 2048, 6144]⟩
abbrev S1x1x6144 : Shape := ⟨3, ![1, 1, 6144]⟩
abbrev S6144 : Shape := ⟨1, ![6144]⟩
abbrev S16x256x6144 : Shape := ⟨3, ![16, 256, 6144]⟩
abbrev S16x2304x6144 : Shape := ⟨3, ![16, 2304, 6144]⟩
abbrev S1x1x1024 : Shape := ⟨3, ![1, 1, 1024]⟩
abbrev S1024 : Shape := ⟨1, ![1024]⟩
abbrev S_ : Shape := ⟨0, ![]⟩
abbrev S16x2304 : Shape := ⟨2, ![16, 2304]⟩
abbrev S16x2304x1 : Shape := ⟨3, ![16, 2304, 1]⟩
abbrev S16x2304x2816 : Shape := ⟨3, ![16, 2304, 2816]⟩

abbrev nBuf : Space → Nat
  | .hbm => 80
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .bf16⟩
  | .hbm, ⟨2, _⟩ => ⟨S16x2304x512, .bf16⟩
  | .hbm, ⟨3, _⟩ => ⟨S4x24x6144, .f32⟩
  | .hbm, ⟨4, _⟩ => ⟨S4x1x1024, .f32⟩
  | .hbm, ⟨5, _⟩ => ⟨S4x512x1024, .bf16⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S1x1024, .f32⟩
  | .hbm, ⟨10, _⟩ => ⟨S1x512x1024, .bf16⟩
  | .hbm, ⟨11, _⟩ => ⟨S512x1024, .bf16⟩
  | .hbm, ⟨12, _⟩ => ⟨S1x1024x2816, .bf16⟩
  | .hbm, ⟨13, _⟩ => ⟨S1024x2816, .bf16⟩
  | .hbm, ⟨14, _⟩ => ⟨S1x1024x2816, .bf16⟩
  | .hbm, ⟨15, _⟩ => ⟨S1024x2816, .bf16⟩
  | .hbm, ⟨16, _⟩ => ⟨S1x2816x1024, .bf16⟩
  | .hbm, ⟨17, _⟩ => ⟨S2816x1024, .bf16⟩
  | .hbm, ⟨18, _⟩ => ⟨S16x2304x1024, .f32⟩
  | .hbm, ⟨19, _⟩ => ⟨S16x2304x512, .f32⟩
  | .hbm, ⟨20, _⟩ => ⟨S512x1024, .f32⟩
  | .hbm, ⟨21, _⟩ => ⟨S1024x2816, .f32⟩
  | .hbm, ⟨22, _⟩ => ⟨S1024x2816, .f32⟩
  | .hbm, ⟨23, _⟩ => ⟨S2816x1024, .f32⟩
  | .hbm, ⟨24, _⟩ => ⟨S1x16x6144, .f32⟩
  | .hbm, ⟨25, _⟩ => ⟨S16x6144, .f32⟩
  | .hbm, ⟨26, _⟩ => ⟨S16x1x6144, .f32⟩
  | .hbm, ⟨27, _⟩ => ⟨S16x2048x6144, .f32⟩
  | .hbm, ⟨28, _⟩ => ⟨S1x1x6144, .f32⟩
  | .hbm, ⟨29, _⟩ => ⟨S6144, .f32⟩
  | .hbm, ⟨30, _⟩ => ⟨S16x256x6144, .f32⟩
  | .hbm, ⟨31, _⟩ => ⟨S16x2304x6144, .f32⟩
  | .hbm, ⟨32, _⟩ => ⟨S16x2304x1024, .f32⟩
  | .hbm, ⟨33, _⟩ => ⟨S16x2304x1024, .f32⟩
  | .hbm, ⟨34, _⟩ => ⟨S16x2304x1024, .f32⟩
  | .hbm, ⟨35, _⟩ => ⟨S16x2304x1024, .f32⟩
  | .hbm, ⟨36, _⟩ => ⟨S16x2304x1024, .f32⟩
  | .hbm, ⟨37, _⟩ => ⟨S16x2304x1024, .f32⟩
  | .hbm, ⟨38, _⟩ => ⟨S1x1x1024, .f32⟩
  | .hbm, ⟨39, _⟩ => ⟨S1024, .f32⟩
  | .hbm, ⟨40, _⟩ => ⟨S16x2304x1024, .f32⟩
  | .hbm, ⟨41, _⟩ => ⟨S16x2304x1024, .f32⟩
  | .hbm, ⟨42, _⟩ => ⟨S16x2304x1024, .f32⟩
  | .hbm, ⟨43, _⟩ => ⟨S16x2304x1024, .f32⟩
  | .hbm, ⟨44, _⟩ => ⟨S16x2304x1024, .f32⟩
  | .hbm, ⟨45, _⟩ => ⟨S_, .f32⟩
  | .hbm, ⟨46, _⟩ => ⟨S16x2304, .f32⟩
  | .hbm, ⟨47, _⟩ => ⟨S16x2304x1, .f32⟩
  | .hbm, ⟨48, _⟩ => ⟨S_, .f32⟩
  | .hbm, ⟨49, _⟩ => ⟨S16x2304x1, .f32⟩
  | .hbm, ⟨50, _⟩ => ⟨S16x2304x1, .f32⟩
  | .hbm, ⟨51, _⟩ => ⟨S_, .f32⟩
  | .hbm, ⟨52, _⟩ => ⟨S16x2304x1, .f32⟩
  | .hbm, ⟨53, _⟩ => ⟨S16x2304x1, .f32⟩
  | .hbm, ⟨54, _⟩ => ⟨S16x2304x1, .f32⟩
  | .hbm, ⟨55, _⟩ => ⟨S16x2304x1024, .f32⟩
  | .hbm, ⟨56, _⟩ => ⟨S16x2304x1024, .f32⟩
  | .hbm, ⟨57, _⟩ => ⟨S1x1x1024, .f32⟩
  | .hbm, ⟨58, _⟩ => ⟨S16x2304x1024, .f32⟩
  | .hbm, ⟨59, _⟩ => ⟨S16x2304x1024, .f32⟩
  | .hbm, ⟨60, _⟩ => ⟨S_, .f32⟩
  | .hbm, ⟨61, _⟩ => ⟨S16x2304x1024, .f32⟩
  | .hbm, ⟨62, _⟩ => ⟨S16x2304x1024, .f32⟩
  | .hbm, ⟨63, _⟩ => ⟨S16x2304x1024, .f32⟩
  | .hbm, ⟨64, _⟩ => ⟨S16x2304x1024, .f32⟩
  | .hbm, ⟨65, _⟩ => ⟨S16x2304x2816, .f32⟩
  | .hbm, ⟨66, _⟩ => ⟨S16x2304x2816, .f32⟩
  | .hbm, ⟨67, _⟩ => ⟨S16x2304x2816, .f32⟩
  | .hbm, ⟨68, _⟩ => ⟨S_, .f32⟩
  | .hbm, ⟨69, _⟩ => ⟨S16x2304x2816, .f32⟩
  | .hbm, ⟨70, _⟩ => ⟨S16x2304x2816, .f32⟩
  | .hbm, ⟨71, _⟩ => ⟨S_, .f32⟩
  | .hbm, ⟨72, _⟩ => ⟨S16x2304x2816, .f32⟩
  | .hbm, ⟨73, _⟩ => ⟨S16x2304x2816, .f32⟩
  | .hbm, ⟨74, _⟩ => ⟨S16x2304x2816, .f32⟩
  | .hbm, ⟨75, _⟩ => ⟨S16x2304x2816, .f32⟩
  | .hbm, ⟨76, _⟩ => ⟨S16x2304x2816, .f32⟩
  | .hbm, ⟨77, _⟩ => ⟨S16x2304x1024, .f32⟩
  | .hbm, ⟨78, _⟩ => ⟨S16x2304x1024, .f32⟩
  | .hbm, ⟨79, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_cst_0 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_2 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== OutFfnLast.lean ====
abbrev S16x2304x1024 : Shape := ⟨3, ![16, 2304, 1024]⟩
abbrev S16x2304x512 : Shape := ⟨3, ![16, 2304, 512]⟩
abbrev S4x24x6144 : Shape := ⟨3, ![4, 24, 6144]⟩
abbrev S4x1x1024 : Shape := ⟨3, ![4, 1, 1024]⟩
abbrev S4x512x1024 : Shape := ⟨3, ![4, 512, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S16x2048x1024 : Shape := ⟨3, ![16, 2048, 1024]⟩
abbrev S1x256x1024 : Shape := ⟨3, ![1, 256, 1024]⟩
abbrev S1x1024x1024 : Shape := ⟨3, ![1, 1024, 1024]⟩
abbrev S1x1024x512 : Shape := ⟨3, ![1, 1024, 512]⟩
abbrev S1x24x1024 : Shape := ⟨3, ![1, 24, 1024]⟩
abbrev S1x1x1024 : Shape := ⟨3, ![1, 1, 1024]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 11
  | .vmem => 26
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .bf16⟩
  | .hbm, ⟨2, _⟩ => ⟨S16x2304x512, .bf16⟩
  | .hbm, ⟨3, _⟩ => ⟨S4x24x6144, .f32⟩
  | .hbm, ⟨4, _⟩ => ⟨S4x1x1024, .f32⟩
  | .hbm, ⟨5, _⟩ => ⟨S4x512x1024, .bf16⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S1x1024, .f32⟩
  | .hbm, ⟨10, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x24x1024, .f32⟩
  | .local _ .vmem, ⟨15, _⟩ => ⟨S1x24x1024, .f32⟩
  | .local _ .vmem, ⟨16, _⟩ => ⟨S1x24x1024, .f32⟩
  | .local _ .vmem, ⟨17, _⟩ => ⟨S1x24x1024, .f32⟩
  | .local _ .vmem, ⟨18, _⟩ => ⟨S1x1x1024, .f32⟩
  | .local _ .vmem, ⟨19, _⟩ => ⟨S1x512x1024, .bf16⟩
  | .local _ .vmem, ⟨20, _⟩ => ⟨S1x1024x2816, .bf16⟩
  | .local _ .vmem, ⟨21, _⟩ => ⟨S1x1024x2816, .bf16⟩
  | .local _ .vmem, ⟨22, _⟩ => ⟨S1x2816x1024, .bf16⟩
  | .local _ .vmem, ⟨23, _⟩ => ⟨S1x1024, .f32⟩
  | .local _ .vmem, ⟨24, _⟩ => ⟨S1x1024x1024, .f32⟩
  | .local _ .vmem, ⟨25, _⟩ => ⟨S1x1024x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let c0_16 : Index := 0#32
  let arg0 : BitVec 32 := BitVec.ofNat 32 (i 0).val
  let v20 : Index := Scalar.indexCast arg0
  let c0_17 : Index := 0#32
  ![0, v20.toNat, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c8_i32 : BitVec 32 := 8#32
  let v2 : BitVec 32 := Scalar.minsi v1 c8_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c8_i32 : BitVec 32 := 8#32
  let v2 : BitVec 32 := Scalar.minsi v1 c8_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c8_i32 : BitVec 32 := 8#32
  let v2 : BitVec 32 := Scalar.minsi v1 c8_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c8_i32 : BitVec 32 := 8#32
  let v2 : BitVec 32 := Scalar.minsi v1 c8_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c2_i32 : BitVec 32 := 2#32
  let c0_i32_0 : BitVec 32 := 0#32
  ![c3_i32.toNat, c0_i32.toNat, c2_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c3_i32_0 : BitVec 32 := 3#32
  let c0_i32_1 : BitVec 32 := 0#32
  ![c3_i32.toNat, c0_i32.toNat, c3_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c4_i32 : BitVec 32 := 4#32
  let c0_i32_0 : BitVec 32 := 0#32
  ![c3_i32.toNat, c0_i32.toNat, c4_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c5_i32 : BitVec 32 := 5#32
  let c0_i32_0 : BitVec 32 := 0#32
  ![c3_i32.toNat, c0_i32.toNat, c5_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x24x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x24x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x24x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== OutFfnLastRefIdeal.lean ====
abbrev S16x2304x1024 : Shape := ⟨3, ![16, 2304, 1024]⟩
abbrev S16x2304x512 : Shape := ⟨3, ![16, 2304, 512]⟩
abbrev S4x24x6144 : Shape := ⟨3, ![4, 24, 6144]⟩
abbrev S4x1x1024 : Shape := ⟨3, ![4, 1, 1024]⟩
abbrev S4x512x1024 : Shape := ⟨3, ![4, 512, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1x512x1024 : Shape := ⟨3, ![1, 512, 1024]⟩
abbrev S512x1024 : Shape := ⟨2, ![512, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x16x6144 : Shape := ⟨3, ![1, 16, 6144]⟩
abbrev S16x6144 : Shape := ⟨2, ![16, 6144]⟩
abbrev S16x1024 : Shape := ⟨2, ![16, 1024]⟩
abbrev S16x1x1024 : Shape := ⟨3, ![16, 1, 1024]⟩
abbrev S16x2048x1024 : Shape := ⟨3, ![16, 2048, 1024]⟩
abbrev S16x2048x512 : Shape := ⟨3, ![16, 2048, 512]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S16x2048x2816 : Shape := ⟨3, ![16, 2048, 2816]⟩

abbrev nBuf : Space → Nat
  | .hbm => 104
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .bf16⟩
  | .hbm, ⟨2, _⟩ => ⟨S16x2304x512, .bf16⟩
  | .hbm, ⟨3, _⟩ => ⟨S4x24x6144, .f32⟩
  | .hbm, ⟨4, _⟩ => ⟨S4x1x1024, .f32⟩
  | .hbm, ⟨5, _⟩ => ⟨S4x512x1024, .bf16⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S1x1024, .f32⟩
  | .hbm, ⟨10, _⟩ => ⟨S1x512x1024, .bf16⟩
  | .hbm, ⟨11, _⟩ => ⟨S512x1024, .bf16⟩
  | .hbm, ⟨12, _⟩ => ⟨S1x1024x2816, .bf16⟩
  | .hbm, ⟨13, _⟩ => ⟨S1024x2816, .bf16⟩
  | .hbm, ⟨14, _⟩ => ⟨S1x1024x2816, .bf16⟩
  | .hbm, ⟨15, _⟩ => ⟨S1024x2816, .bf16⟩
  | .hbm, ⟨16, _⟩ => ⟨S1x2816x1024, .bf16⟩
  | .hbm, ⟨17, _⟩ => ⟨S2816x1024, .bf16⟩
  | .hbm, ⟨18, _⟩ => ⟨S16x2304x1024, .f32⟩
  | .hbm, ⟨19, _⟩ => ⟨S16x2304x512, .f32⟩
  | .hbm, ⟨20, _⟩ => ⟨S512x1024, .f32⟩
  | .hbm, ⟨21, _⟩ => ⟨S1024x2816, .f32⟩
  | .hbm, ⟨22, _⟩ => ⟨S1024x2816, .f32⟩
  | .hbm, ⟨23, _⟩ => ⟨S2816x1024, .f32⟩
  | .hbm, ⟨24, _⟩ => ⟨S1x16x6144, .f32⟩
  | .hbm, ⟨25, _⟩ => ⟨S16x6144, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S16x1x1024, .f32⟩
  | .hbm, ⟨33, _⟩ => ⟨S16x1x1024, .f32⟩
  | .hbm, ⟨34, _⟩ => ⟨S16x1x1024, .f32⟩
  | .hbm, ⟨35, _⟩ => ⟨S16x1x1024, .f32⟩
  | .hbm, ⟨36, _⟩ => ⟨S16x1x1024, .f32⟩
  | .hbm, ⟨37, _⟩ => ⟨S16x1x1024, .f32⟩
  | .hbm, ⟨38, _⟩ => ⟨S16x2048x1024, .f32⟩
  | .hbm, ⟨39, _⟩ => ⟨S16x2048x1024, .f32⟩
  | .hbm, ⟨40, _⟩ => ⟨S16x2048x512, .f32⟩
  | .hbm, ⟨41, _⟩ => ⟨S1x1x1024, .f32⟩
  | .hbm, ⟨42, _⟩ => ⟨S1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S_, .f32⟩
  | .hbm, ⟨50, _⟩ => ⟨S16x2048, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S_, .f32⟩
  | .hbm, ⟨56, _⟩ => ⟨S16x2048x1, .f32⟩
  | .hbm, ⟨57, _⟩ => ⟨S16x2048x1, .f32⟩
  | .hbm, ⟨58, _⟩ => ⟨S16x2048x1, .f32⟩
  | .hbm, ⟨59, _⟩ => ⟨S16x2048x1024, .f32⟩
  | .hbm, ⟨60, _⟩ => ⟨S16x2048x1024, .f32⟩
  | .hbm, ⟨61, _⟩ => ⟨S1x1x1024, .f32⟩
  | .hbm, ⟨62, _⟩ => ⟨S16x2048x1024, .f32⟩
  | .hbm, ⟨63, _⟩ => ⟨S16x2048x1024, .f32⟩
  | .hbm, ⟨64, _⟩ => ⟨S_, .f32⟩
  | .hbm, ⟨65, _⟩ => ⟨S16x1x1024, .f32⟩
  | .hbm, ⟨66, _⟩ => ⟨S16x1x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S_, .f32⟩
  | .hbm, ⟨75, _⟩ => ⟨S16x2048x2816, .f32⟩
  | .hbm, ⟨76, _⟩ => ⟨S16x2048x2816, .f32⟩
  | .hbm, ⟨77, _⟩ => ⟨S_, .f32⟩
  | .hbm, ⟨78, _⟩ => ⟨S16x2048x2816, .f32⟩
  | .hbm, ⟨79, _⟩ => ⟨S16x2048x2816, .f32⟩
  | .hbm, ⟨80, _⟩ => ⟨S16x2048x2816, .f32⟩
  | .hbm, ⟨81, _⟩ => ⟨S16x2048x2816, .f32⟩
  | .hbm, ⟨82, _⟩ => ⟨S16x2048x2816, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S1024, .f32⟩
  | .hbm, ⟨88, _⟩ => ⟨S16x2048x1024, .f32⟩
  | .hbm, ⟨89, _⟩ => ⟨S_, .f32⟩
  | .hbm, ⟨90, _⟩ => ⟨S16x2048, .f32⟩
  | .hbm, ⟨91, _⟩ => ⟨S16x2048x1, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S_, .f32⟩
  | .hbm, ⟨96, _⟩ => ⟨S16x2048x1, .f32⟩
  | .hbm, ⟨97, _⟩ => ⟨S16x2048x1, .f32⟩
  | .hbm, ⟨98, _⟩ => ⟨S16x2048x1, .f32⟩
  | .hbm, ⟨99, _⟩ => ⟨S16x2048x1024, .f32⟩
  | .hbm, ⟨100, _⟩ => ⟨S16x2048x1024, .f32⟩
  | .hbm, ⟨101, _⟩ => ⟨S1x1x1024, .f32⟩
  | .hbm, ⟨102, _⟩ => ⟨S16x2048x1024, .f32⟩
  | .hbm, ⟨103, _⟩ => ⟨S16x2048x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst : Ref sig .tc := ⟨.hbm, 49, rfl⟩
abbrev main_v39 : Ref sig .tc := ⟨.hbm, 50, rfl⟩
abbrev main_v40 : Ref sig .tc := ⟨.hbm, 51, rfl⟩
abbrev main_cst_0 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_2 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_3 : Ref sig .tc := ⟨.hbm, 89, rfl⟩
abbrev main_v67 : Ref sig .tc := ⟨.hbm, 90, rfl⟩
abbrev main_v68 : Ref sig .tc := ⟨.hbm, 91, rfl⟩
abbrev main_cst_4 : Ref sig .tc := ⟨.hbm, 92, rfl⟩
abbrev main_v69 : Ref sig .tc := ⟨.hbm, 93, rfl⟩
abbrev main_v70 : Ref sig .tc := ⟨.hbm, 94, rfl⟩
abbrev main_cst_5 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== InProj.lean ====
abbrev S16x2304x1024 : Shape := ⟨3, ![16, 2304, 1024]⟩
abbrev S4x24x6144 : Shape := ⟨3, ![4, 24, 6144]⟩
abbrev S4x1x1024 : Shape := ⟨3, ![4, 1, 1024]⟩
abbrev S4x3344x1024 : Shape := ⟨3, ![4, 3344, 1024]⟩
abbrev S4x528x1024 : Shape := ⟨3, ![4, 528, 1024]⟩
abbrev S4x8x256 : Shape := ⟨3, ![4, 8, 256]⟩
abbrev S4x1x256 : Shape := ⟨3, ![4, 1, 256]⟩
abbrev S4x128x512 : Shape := ⟨3, ![4, 128, 512]⟩
abbrev S4x128x256 : Shape := ⟨3, ![4, 128, 256]⟩
abbrev S16x2304x1536 : Shape := ⟨3, ![16, 2304, 1536]⟩
abbrev S16x2304x512 : Shape := ⟨3, ![16, 2304, 512]⟩
abbrev S16x18x512x128 : Shape := ⟨4, ![16, 18, 512, 128]⟩
abbrev S16x144x128 : Shape := ⟨3, ![16, 144, 128]⟩
abbrev S1x256x1024 : Shape := ⟨3, ![1, 256, 1024]⟩
abbrev S1x24x1024 : Shape := ⟨3, ![1, 24, 1024]⟩
abbrev S1x1x1024 : Shape := ⟨3, ![1, 1, 1024]⟩
abbrev S1x3344x1024 : Shape := ⟨3, ![1, 3344, 1024]⟩
abbrev S1x528x1024 : Shape := ⟨3, ![1, 528, 1024]⟩
abbrev S1x8x256 : Shape := ⟨3, ![1, 8, 256]⟩
abbrev S1x1x256 : Shape := ⟨3, ![1, 1, 256]⟩
abbrev S1x128x512 : Shape := ⟨3, ![1, 128, 512]⟩
abbrev S1x128x256 : Shape := ⟨3, ![1, 128, 256]⟩
abbrev S1x768x1536 : Shape := ⟨3, ![1, 768, 1536]⟩
abbrev S1x768x512 : Shape := ⟨3, ![1, 768, 512]⟩
abbrev S1x6x512x128 : Shape := ⟨4, ![1, 6, 512, 128]⟩
abbrev S1x48x128 : Shape := ⟨3, ![1, 48, 128]⟩
abbrev S1024x2816 : Shape := ⟨2, ![1024, 2816]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩
abbrev S1x1024 : Shape := ⟨2, ![1, 1024]⟩
abbrev S256x2816 : Shape := ⟨2, ![256, 2816]⟩
abbrev S256x1536 : Shape := ⟨2, ![256, 1536]⟩
abbrev S1x256x1536 : Shape := ⟨3, ![1, 256, 1536]⟩
abbrev S528x1024 : Shape := ⟨2, ![528, 1024]⟩
abbrev S528x256 : Shape := ⟨2, ![528, 256]⟩
abbrev S512x128 : Shape := ⟨2, ![512, 128]⟩
abbrev S1x1x512x128 : Shape := ⟨4, ![1, 1, 512, 128]⟩
abbrev S8x128 : Shape := ⟨2, ![8, 128]⟩
abbrev S1x8x128 : Shape := ⟨3, ![1, 8, 128]⟩
abbrev S256x1280 : Shape := ⟨2, ![256, 1280]⟩
abbrev S256x256 : Shape := ⟨2, ![256, 256]⟩
abbrev S1x256 : Shape := ⟨2, ![1, 256]⟩
abbrev S128x256 : Shape := ⟨2, ![128, 256]⟩
abbrev S512x256 : Shape := ⟨2, ![512, 256]⟩
abbrev S128x512 : Shape := ⟨2, ![128, 512]⟩
abbrev S256x512 : Shape := ⟨2, ![256, 512]⟩
abbrev S1x256x512 : Shape := ⟨3, ![1, 256, 512]⟩

abbrev nBuf : Space → Nat
  | .hbm => 14
  | .vmem => 28
  | .smem => 0
  | _ => 0

abbrev bufTy : (tb : Table) → Fin (tcTables nBuf tb) → BufTy
  | .hbm, ⟨0, _⟩ => ⟨S16x2304x1024, .f32⟩
  | .hbm, ⟨1, _⟩ => ⟨S4x24x6144, .f32⟩
  | .hbm, ⟨2, _⟩ => ⟨S4x1x1024, .f32⟩
  | .hbm, ⟨3, _⟩ => ⟨S4x3344x1024, .bf16⟩
  | .hbm, ⟨4, _⟩ => ⟨S4x528x1024, .bf16⟩
  | .hbm, ⟨5, _⟩ => ⟨S4x8x256, .f32⟩
  | .hbm, ⟨6, _⟩ => ⟨S4x1x256, .f32⟩
  | .hbm, ⟨7, _⟩ => ⟨S4x128x512, .bf16⟩
  | .hbm, ⟨8, _⟩ => ⟨S4x128x256, .f32⟩
  | .hbm, ⟨9, _⟩ => ⟨S16x2304x1536, .bf16⟩
  | .hbm, ⟨10, _⟩ => ⟨S16x2304x512, .bf16⟩
  | .hbm, ⟨11, _⟩ => ⟨S16x18x512x128, .bf16⟩
  | .hbm, ⟨12, _⟩ => ⟨S16x144x128, .f32⟩
  | .hbm, ⟨13, _⟩ => ⟨S16x144x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x24x1024, .f32⟩
  | .local _ .vmem, ⟨9, _⟩ => ⟨S1x24x1024, .f32⟩
  | .local _ .vmem, ⟨10, _⟩ => ⟨S1x1x1024, .f32⟩
  | .local _ .vmem, ⟨11, _⟩ => ⟨S1x3344x1024, .bf16⟩
  | .local _ .vmem, ⟨12, _⟩ => ⟨S1x528x1024, .bf16⟩
  | .local _ .vmem, ⟨13, _⟩ => ⟨S1x8x256, .f32⟩
  | .local _ .vmem, ⟨14, _⟩ => ⟨S1x1x256, .f32⟩
  | .local _ .vmem, ⟨15, _⟩ => ⟨S1x128x512, .bf16⟩
  | .local _ .vmem, ⟨16, _⟩ => ⟨S1x128x256, .f32⟩
  | .local _ .vmem, ⟨17, _⟩ => ⟨S1x768x1536, .bf16⟩
  | .local _ .vmem, ⟨18, _⟩ => ⟨S1x768x1536, .bf16⟩
  | .local _ .vmem, ⟨19, _⟩ => ⟨S1x768x512, .bf16⟩
  | .local _ .vmem, ⟨20, _⟩ => ⟨S1x768x512, .bf16⟩
  | .local _ .vmem, ⟨21, _⟩ => ⟨S1x6x512x128, .bf16⟩
  | .local _ .vmem, ⟨22, _⟩ => ⟨S1x6x512x128, .bf16⟩
  | .local _ .vmem, ⟨23, _⟩ => ⟨S1x48x128, .f32⟩
  | .local _ .vmem, ⟨24, _⟩ => ⟨S1x48x128, .f32⟩
  | .local _ .vmem, ⟨25, _⟩ => ⟨S1x48x128, .f32⟩
  | .local _ .vmem, ⟨26, _⟩ => ⟨S1x48x128, .f32⟩
  | .local _ .vmem, ⟨27, _⟩ => ⟨S1024x2816, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![16, 3], ![false, false]⟩

def k0_off1 (i : grid0.Coords) : Fin 3 → Nat :=
  let c0_15 : Index := 0#32
  let arg0 : BitVec 32 := BitVec.ofNat 32 (i 0).val
  let v30 : Index := Scalar.indexCast arg0
  let c0_16 : Index := 0#32
  ![0, v30.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c8_i32 : BitVec 32 := 8#32
  let v2 : BitVec 32 := Scalar.minsi v1 c8_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c8_i32 : BitVec 32 := 8#32
  let v2 : BitVec 32 := Scalar.minsi v1 c8_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c8_i32 : BitVec 32 := 8#32
  let v2 : BitVec 32 := Scalar.minsi v1 c8_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3344x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x528x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x768x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x768x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x6x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x48x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x48x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InProjRefIdeal.lean ====
abbrev S16x2304x1024 : Shape := ⟨3, ![16, 2304, 1024]⟩
abbrev S4x24x6144 : Shape := ⟨3, ![4, 24, 6144]⟩
abbrev S4x1x1024 : Shape := ⟨3, ![4, 1, 1024]⟩
abbrev S4x3344x1024 : Shape := ⟨3, ![4, 3344, 1024]⟩
abbrev S4x528x1024 : Shape := ⟨3, ![4, 528, 1024]⟩
abbrev S4x8x256 : Shape := ⟨3, ![4, 8, 256]⟩
abbrev S4x1x256 : Shape := ⟨3, ![4, 1, 256]⟩
abbrev S4x128x512 : Shape := ⟨3, ![4, 128, 512]⟩
abbrev S4x128x256 : Shape := ⟨3, ![4, 128, 256]⟩
abbrev S1x3344x1024 : Shape := ⟨3, ![1, 3344, 1024]⟩
abbrev S3344x1024 : Shape := ⟨2, ![3344, 1024]⟩
abbrev S1x528x1024 : Shape := ⟨3, ![1, 528, 1024]⟩
abbrev S528x1024 : Shape := ⟨2, ![528, 1024]⟩
abbrev S1x128x512 : Shape := ⟨3, ![1, 128, 512]⟩
abbrev S128x4x128 : Shape := ⟨3, ![128, 4, 128]⟩
abbrev S1x16x6144 : Shape := ⟨3, ![1, 16, 6144]⟩
abbrev S16x6144 : Shape := ⟨2, ![16, 6144]⟩
abbrev S16x1x6144 : Shape := ⟨3, ![16, 1, 6144]⟩
abbrev S16x2048x6144 : Shape := ⟨3, ![16, 2048, 6144]⟩
abbrev S1x1x6144 : Shape := ⟨3, ![1, 1, 6144]⟩
abbrev S6144 : Shape := ⟨1, ![6144]⟩
abbrev S16x256x6144 : Shape := ⟨3, ![16, 256, 6144]⟩
abbrev S16x2304x6144 : Shape := ⟨3, ![16, 2304, 6144]⟩
abbrev S1x1x1024 : Shape := ⟨3, ![1, 1, 1024]⟩
abbrev S_ : Shape := ⟨0, ![]⟩
abbrev S16x2304 : Shape := ⟨2, ![16, 2304]⟩
abbrev S16x2304x1 : Shape := ⟨3, ![16, 2304, 1]⟩
abbrev S16x2304x3344 : Shape := ⟨3, ![16, 2304, 3344]⟩
abbrev S16x2304x512 : Shape := ⟨3, ![16, 2304, 512]⟩
abbrev S16x2304x1536 : Shape := ⟨3, ![16, 2304, 1536]⟩
abbrev S16x2304x528 : Shape := ⟨3, ![16, 2304, 528]⟩
abbrev S16x18x128x528 : Shape := ⟨4, ![16, 18, 128, 528]⟩
abbrev S16x18x528x128 : Shape := ⟨4, ![16, 18, 528, 128]⟩
abbrev S16x18x512x128 : Shape := ⟨4, ![16, 18, 512, 128]⟩
abbrev S16x18x8x128 : Shape := ⟨4, ![16, 18, 8, 128]⟩
abbrev S16x144x128 : Shape := ⟨3, ![16, 144, 128]⟩
abbrev S16x2304x256 : Shape := ⟨3, ![16, 2304, 256]⟩
abbrev S16x2048x256 : Shape := ⟨3, ![16, 2048, 256]⟩
abbrev S16x32x64x256 : Shape := ⟨4, ![16, 32, 64, 256]⟩
abbrev S16x32x66x256 : Shape := ⟨4, ![16, 32, 66, 256]⟩
abbrev S16x256x256 : Shape := ⟨3, ![16, 256, 256]⟩
abbrev S16x258x256 : Shape := ⟨3, ![16, 258, 256]⟩
abbrev S1x1x256 : Shape := ⟨3, ![1, 1, 256]⟩
abbrev S16x18x128x4x64 : Shape := ⟨5, ![16, 18, 128, 4, 64]⟩
abbrev S4x16x18x64x128 : Shape := ⟨5, ![4, 16, 18, 64, 128]⟩
abbrev S16x18x128x256 : Shape := ⟨4, ![16, 18, 128, 256]⟩
abbrev S1x128x256 : Shape := ⟨3, ![1, 128, 256]⟩
abbrev S1x1x128x256 : Shape := ⟨4, ![1, 1, 128, 256]⟩

abbrev nBuf : Space → Nat
  | .hbm => 127
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S4x24x6144, .f32⟩
  | .hbm, ⟨2, _⟩ => ⟨S4x1x1024, .f32⟩
  | .hbm, ⟨3, _⟩ => ⟨S4x3344x1024, .bf16⟩
  | .hbm, ⟨4, _⟩ => ⟨S4x528x1024, .bf16⟩
  | .hbm, ⟨5, _⟩ => ⟨S4x8x256, .f32⟩
  | .hbm, ⟨6, _⟩ => ⟨S4x1x256, .f32⟩
  | .hbm, ⟨7, _⟩ => ⟨S4x128x512, .bf16⟩
  | .hbm, ⟨8, _⟩ => ⟨S4x128x256, .f32⟩
  | .hbm, ⟨9, _⟩ => ⟨S1x3344x1024, .bf16⟩
  | .hbm, ⟨10, _⟩ => ⟨S3344x1024, .bf16⟩
  | .hbm, ⟨11, _⟩ => ⟨S1x528x1024, .bf16⟩
  | .hbm, ⟨12, _⟩ => ⟨S528x1024, .bf16⟩
  | .hbm, ⟨13, _⟩ => ⟨S1x128x512, .bf16⟩
  | .hbm, ⟨14, _⟩ => ⟨S128x4x128, .bf16⟩
  | .hbm, ⟨15, _⟩ => ⟨S3344x1024, .f32⟩
  | .hbm, ⟨16, _⟩ => ⟨S528x1024, .f32⟩
  | .hbm, ⟨17, _⟩ => ⟨S128x4x128, .f32⟩
  | .hbm, ⟨18, _⟩ => ⟨S1x16x6144, .f32⟩
  | .hbm, ⟨19, _⟩ => ⟨S16x6144, .f32⟩
  | .hbm, ⟨20, _⟩ => ⟨S16x1x6144, .f32⟩
  | .hbm, ⟨21, _⟩ => ⟨S16x2048x6144, .f32⟩
  | .hbm, ⟨22, _⟩ => ⟨S1x1x6144, .f32⟩
  | .hbm, ⟨23, _⟩ => ⟨S6144, .f32⟩
  | .hbm, ⟨24, _⟩ => ⟨S16x256x6144, .f32⟩
  | .hbm, ⟨25, _⟩ => ⟨S16x2304x6144, .f32⟩
  | .hbm, ⟨26, _⟩ => ⟨S1x1x1024, .f32⟩
  | .hbm, ⟨27, _⟩ => ⟨S16x2304x1024, .f32⟩
  | .hbm, ⟨28, _⟩ => ⟨S_, .f32⟩
  | .hbm, ⟨29, _⟩ => ⟨S16x2304, .f32⟩
  | .hbm, ⟨30, _⟩ => ⟨S16x2304x1, .f32⟩
  | .hbm, ⟨31, _⟩ => ⟨S_, .f32⟩
  | .hbm, ⟨32, _⟩ => ⟨S16x2304x1, .f32⟩
  | .hbm, ⟨33, _⟩ => ⟨S16x2304x1, .f32⟩
  | .hbm, ⟨34, _⟩ => ⟨S_, .f32⟩
  | .hbm, ⟨35, _⟩ => ⟨S16x2304x1, .f32⟩
  | .hbm, ⟨36, _⟩ => ⟨S16x2304x1, .f32⟩
  | .hbm, ⟨37, _⟩ => ⟨S16x2304x1, .f32⟩
  | .hbm, ⟨38, _⟩ => ⟨S16x2304x1024, .f32⟩
  | .hbm, ⟨39, _⟩ => ⟨S16x2304x1024, .f32⟩
  | .hbm, ⟨40, _⟩ => ⟨S16x2304x1024, .f32⟩
  | .hbm, ⟨41, _⟩ => ⟨S16x2304x1024, .f32⟩
  | .hbm, ⟨42, _⟩ => ⟨S16x2304x1024, .f32⟩
  | .hbm, ⟨43, _⟩ => ⟨S16x2304x1024, .f32⟩
  | .hbm, ⟨44, _⟩ => ⟨S_, .f32⟩
  | .hbm, ⟨45, _⟩ => ⟨S16x2304x1024, .f32⟩
  | .hbm, ⟨46, _⟩ => ⟨S16x2304x1024, .f32⟩
  | .hbm, ⟨47, _⟩ => ⟨S16x2304x1024, .f32⟩
  | .hbm, ⟨48, _⟩ => ⟨S16x2304x1024, .f32⟩
  | .hbm, ⟨49, _⟩ => ⟨S16x2304x3344, .f32⟩
  | .hbm, ⟨50, _⟩ => ⟨S16x2304x512, .f32⟩
  | .hbm, ⟨51, _⟩ => ⟨S16x2304x1024, .f32⟩
  | .hbm, ⟨52, _⟩ => ⟨S16x2304x1536, .f32⟩
  | .hbm, ⟨53, _⟩ => ⟨S16x2304x528, .f32⟩
  | .hbm, ⟨54, _⟩ => ⟨S16x18x128x528, .f32⟩
  | .hbm, ⟨55, _⟩ => ⟨S16x18x528x128, .f32⟩
  | .hbm, ⟨56, _⟩ => ⟨S16x18x512x128, .f32⟩
  | .hbm, ⟨57, _⟩ => ⟨S_, .f32⟩
  | .hbm, ⟨58, _⟩ => ⟨S16x18x512x128, .f32⟩
  | .hbm, ⟨59, _⟩ => ⟨S16x18x512x128, .f32⟩
  | .hbm, ⟨60, _⟩ => ⟨S16x18x8x128, .f32⟩
  | .hbm, ⟨61, _⟩ => ⟨S16x144x128, .f32⟩
  | .hbm, ⟨62, _⟩ => ⟨S16x18x8x128, .f32⟩
  | .hbm, ⟨63, _⟩ => ⟨S16x144x128, .f32⟩
  | .hbm, ⟨64, _⟩ => ⟨S16x2304x256, .f32⟩
  | .hbm, ⟨65, _⟩ => ⟨S16x2304x256, .f32⟩
  | .hbm, ⟨66, _⟩ => ⟨S16x2304x256, .f32⟩
  | .hbm, ⟨67, _⟩ => ⟨S16x2048x256, .f32⟩
  | .hbm, ⟨68, _⟩ => ⟨S16x32x64x256, .f32⟩
  | .hbm, ⟨69, _⟩ => ⟨S_, .f32⟩
  | .hbm, ⟨70, _⟩ => ⟨S16x32x66x256, .f32⟩
  | .hbm, ⟨71, _⟩ => ⟨S16x256x256, .f32⟩
  | .hbm, ⟨72, _⟩ => ⟨S_, .f32⟩
  | .hbm, ⟨73, _⟩ => ⟨S16x258x256, .f32⟩
  | .hbm, ⟨74, _⟩ => ⟨S16x32x64x256, .f32⟩
  | .hbm, ⟨75, _⟩ => ⟨S16x2048x256, .f32⟩
  | .hbm, ⟨76, _⟩ => ⟨S16x256x256, .f32⟩
  | .hbm, ⟨77, _⟩ => ⟨S16x2304x256, .f32⟩
  | .hbm, ⟨78, _⟩ => ⟨S16x32x64x256, .f32⟩
  | .hbm, ⟨79, _⟩ => ⟨S16x2048x256, .f32⟩
  | .hbm, ⟨80, _⟩ => ⟨S16x256x256, .f32⟩
  | .hbm, ⟨81, _⟩ => ⟨S16x2304x256, .f32⟩
  | .hbm, ⟨82, _⟩ => ⟨S1x1x256, .f32⟩
  | .hbm, ⟨83, _⟩ => ⟨S16x2304x256, .f32⟩
  | .hbm, ⟨84, _⟩ => ⟨S16x2304x256, .f32⟩
  | .hbm, ⟨85, _⟩ => ⟨S1x1x256, .f32⟩
  | .hbm, ⟨86, _⟩ => ⟨S16x2304x256, .f32⟩
  | .hbm, ⟨87, _⟩ => ⟨S16x2304x256, .f32⟩
  | .hbm, ⟨88, _⟩ => ⟨S16x2304x256, .f32⟩
  | .hbm, ⟨89, _⟩ => ⟨S1x1x256, .f32⟩
  | .hbm, ⟨90, _⟩ => ⟨S16x2304x256, .f32⟩
  | .hbm, ⟨91, _⟩ => ⟨S16x2304x256, .f32⟩
  | .hbm, ⟨92, _⟩ => ⟨S16x2304x256, .f32⟩
  | .hbm, ⟨93, _⟩ => ⟨S16x2304x256, .f32⟩
  | .hbm, ⟨94, _⟩ => ⟨S1x1x256, .f32⟩
  | .hbm, ⟨95, _⟩ => ⟨S16x2304x256, .f32⟩
  | .hbm, ⟨96, _⟩ => ⟨S_, .f32⟩
  | .hbm, ⟨97, _⟩ => ⟨S16x2304, .f32⟩
  | .hbm, ⟨98, _⟩ => ⟨S16x2304x1, .f32⟩
  | .hbm, ⟨99, _⟩ => ⟨S_, .f32⟩
  | .hbm, ⟨100, _⟩ => ⟨S16x2304x1, .f32⟩
  | .hbm, ⟨101, _⟩ => ⟨S16x2304x1, .f32⟩
  | .hbm, ⟨102, _⟩ => ⟨S_, .f32⟩
  | .hbm, ⟨103, _⟩ => ⟨S16x2304x1, .f32⟩
  | .hbm, ⟨104, _⟩ => ⟨S16x2304x1, .f32⟩
  | .hbm, ⟨105, _⟩ => ⟨S16x2304x1, .f32⟩
  | .hbm, ⟨106, _⟩ => ⟨S16x2304x256, .f32⟩
  | .hbm, ⟨107, _⟩ => ⟨S16x2304x256, .f32⟩
  | .hbm, ⟨108, _⟩ => ⟨S16x2304x256, .f32⟩
  | .hbm, ⟨109, _⟩ => ⟨S16x2304x256, .f32⟩
  | .hbm, ⟨110, _⟩ => ⟨S16x18x128x4x64, .f32⟩
  | .hbm, ⟨111, _⟩ => ⟨S4x16x18x64x128, .f32⟩
  | .hbm, ⟨112, _⟩ => ⟨S16x18x128x4x64, .f32⟩
  | .hbm, ⟨113, _⟩ => ⟨S16x18x128x256, .f32⟩
  | .hbm, ⟨114, _⟩ => ⟨S1x128x256, .f32⟩
  | .hbm, ⟨115, _⟩ => ⟨S1x1x128x256, .f32⟩
  | .hbm, ⟨116, _⟩ => ⟨S16x18x128x256, .f32⟩
  | .hbm, ⟨117, _⟩ => ⟨S16x18x128x256, .f32⟩
  | .hbm, ⟨118, _⟩ => ⟨S16x2304x256, .f32⟩
  | .hbm, ⟨119, _⟩ => ⟨S16x2304x256, .f32⟩
  | .hbm, ⟨120, _⟩ => ⟨S16x2304x256, .f32⟩
  | .hbm, ⟨121, _⟩ => ⟨S16x2304x256, .f32⟩
  | .hbm, ⟨122, _⟩ => ⟨S16x2304x256, .f32⟩
  | .hbm, ⟨123, _⟩ => ⟨S16x2304x512, .f32⟩
  | .hbm, ⟨124, _⟩ => ⟨S16x2304x1536, .bf16⟩
  | .hbm, ⟨125, _⟩ => ⟨S16x2304x512, .bf16⟩
  | .hbm, ⟨126, _⟩ => ⟨S16x18x512x128, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_6 : Ref sig .tc := ⟨.hbm, 96, rfl⟩
abbrev main_v80 : Ref sig .tc := ⟨.hbm, 97, rfl⟩
abbrev main_v81 : Ref sig .tc := ⟨.hbm, 98, rfl⟩
abbrev main_cst_7 : Ref sig .tc := ⟨.hbm, 99, rfl⟩
abbrev main_v82 : Ref sig .tc := ⟨.hbm, 100, rfl⟩
abbrev main_v83 : Ref sig .tc := ⟨.hbm, 101, rfl⟩
abbrev main_cst_8 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩

abbrev nD : Nat := 1
abbrev τ : Topo := Topo.v7x

variable {F : FTy → Type} [FloatOps F]
-- ==== Ada.lean ====
abbrev S24x1024 : Shape := ⟨2, ![24, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S24x1024 : Shape := ⟨2, ![24, 1024]⟩
abbrev S4x1024x6144 : Shape := ⟨3, ![4, 1024, 6144]⟩
abbrev S4x6144 : Shape := ⟨2, ![4, 6144]⟩
abbrev S_ : Shape := ⟨0, ![]⟩
abbrev S4x6144x24 : Shape := ⟨3, ![4, 6144, 24]⟩
abbrev S4x24x6144 : Shape := ⟨3, ![4, 24, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S4x1024x6144, .f32⟩
  | .hbm, ⟨2, _⟩ => ⟨S4x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S4x6144x24, .f32⟩
  | .hbm, ⟨13, _⟩ => ⟨S4x24x6144, .f32⟩
  | .hbm, ⟨14, _⟩ => ⟨S4x1x6144, .f32⟩
  | .hbm, ⟨15, _⟩ => ⟨S4x24x6144, .f32⟩
  | .hbm, ⟨16, _⟩ => ⟨S4x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== OutFfnFirst.lean ====
abbrev S16x2048x1024 : Shape := ⟨3, ![16, 2048, 1024]⟩
abbrev S16x256x1024 : Shape := ⟨3, ![16, 256, 1024]⟩
abbrev S16x2304x1024 : Shape := ⟨3, ![16, 2304, 1024]⟩
abbrev S16x2304x512 : Shape := ⟨3, ![16, 2304, 512]⟩
abbrev S4x24x6144 : Shape := ⟨3, ![4, 24, 6144]⟩
abbrev S4x1x1024 : Shape := ⟨3, ![4, 1, 1024]⟩
abbrev S4x512x1024 : Shape := ⟨3, ![4, 512, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1x256x1024 : Shape := ⟨3, ![1, 256, 1024]⟩
abbrev S1x768x1024 : Shape := ⟨3, ![1, 768, 1024]⟩
abbrev S1x768x512 : Shape := ⟨3, ![1, 768, 512]⟩
abbrev S1x24x1024 : Shape := ⟨3, ![1, 24, 1024]⟩
abbrev S1x1x1024 : Shape := ⟨3, ![1, 1, 1024]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 12
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x2304x1024, .bf16⟩
  | .hbm, ⟨3, _⟩ => ⟨S16x2304x512, .bf16⟩
  | .hbm, ⟨4, _⟩ => ⟨S4x24x6144, .f32⟩
  | .hbm, ⟨5, _⟩ => ⟨S4x1x1024, .f32⟩
  | .hbm, ⟨6, _⟩ => ⟨S4x512x1024, .bf16⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S1x1024, .f32⟩
  | .hbm, ⟨11, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x768x1024, .bf16⟩
  | .local _ .vmem, ⟨9, _⟩ => ⟨S1x768x1024, .bf16⟩
  | .local _ .vmem, ⟨10, _⟩ => ⟨S1x768x512, .bf16⟩
  | .local _ .vmem, ⟨11, _⟩ => ⟨S1x768x512, .bf16⟩
  | .local _ .vmem, ⟨12, _⟩ => ⟨S1x24x1024, .f32⟩
  | .local _ .vmem, ⟨13, _⟩ => ⟨S1x24x1024, .f32⟩
  | .local _ .vmem, ⟨14, _⟩ => ⟨S1x24x1024, .f32⟩
  | .local _ .vmem, ⟨15, _⟩ => ⟨S1x24x1024, .f32⟩
  | .local _ .vmem, ⟨16, _⟩ => ⟨S1x1x1024, .f32⟩
  | .local _ .vmem, ⟨17, _⟩ => ⟨S1x512x1024, .bf16⟩
  | .local _ .vmem, ⟨18, _⟩ => ⟨S1x1024x2816, .bf16⟩
  | .local _ .vmem, ⟨19, _⟩ => ⟨S1x1024x2816, .bf16⟩
  | .local _ .vmem, ⟨20, _⟩ => ⟨S1x2816x1024, .bf16⟩
  | .local _ .vmem, ⟨21, _⟩ => ⟨S1x1024, .f32⟩
  | .local _ .vmem, ⟨22, _⟩ => ⟨S1x768x1024, .f32⟩
  | .local _ .vmem, ⟨23, _⟩ => ⟨S1x768x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![16, 3], ![false, false]⟩

def k0_off1 (i : grid0.Coords) : Fin 3 → Nat :=
  let c0_16 : Index := 0#32
  let arg0 : BitVec 32 := BitVec.ofNat 32 (i 0).val
  let v20 : Index := Scalar.indexCast arg0
  let c0_17 : Index := 0#32
  ![0, v20.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c7_i32 : BitVec 32 := 7#32
  let v2 : BitVec 32 := Scalar.minsi v1 c7_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x24x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x24x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x768x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== OutFfnFirstRefIdeal.lean ====
abbrev S16x2048x1024 : Shape := ⟨3, ![16, 2048, 1024]⟩
abbrev S16x256x1024 : Shape := ⟨3, ![16, 256, 1024]⟩
abbrev S16x2304x1024 : Shape := ⟨3, ![16, 2304, 1024]⟩
abbrev S16x2304x512 : Shape := ⟨3, ![16, 2304, 512]⟩
abbrev S4x24x6144 : Shape := ⟨3, ![4, 24, 6144]⟩
abbrev S4x1x1024 : Shape := ⟨3, ![4, 1, 1024]⟩
abbrev S4x512x1024 : Shape := ⟨3, ![4, 512, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1x512x1024 : Shape := ⟨3, ![1, 512, 1024]⟩
abbrev S512x1024 : Shape := ⟨2, ![512, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x16x6144 : Shape := ⟨3, ![1, 16, 6144]⟩
abbrev S16x6144 : Shape := ⟨2, ![16, 6144]⟩
abbrev S16x1x6144 : Shape := ⟨3, ![16, 1, 6144]⟩
abbrev S16x2048x6144 : Shape := ⟨3, ![16, 2048, 6144]⟩
abbrev S1x1x6144 : Shape := ⟨3, ![1, 1, 6144]⟩
abbrev S6144 : Shape := ⟨1, ![6144]⟩
abbrev S16x256x6144 : Shape := ⟨3, ![16, 256, 6144]⟩
abbrev S16x2304x6144 : Shape := ⟨3, ![16, 2304, 6144]⟩
abbrev S1x1x1024 : Shape := ⟨3, ![1, 1, 1024]⟩
abbrev S1024 : Shape := ⟨1, ![1024]⟩
abbrev S_ : Shape := ⟨0, ![]⟩
abbrev S16x2304 : Shape := ⟨2, ![16, 2304]⟩
abbrev S16x2304x1 : Shape := ⟨3, ![16, 2304, 1]⟩
abbrev S16x2304x2816 : Shape := ⟨3, ![16, 2304, 2816]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x2304x1024, .bf16⟩
  | .hbm, ⟨3, _⟩ => ⟨S16x2304x512, .bf16⟩
  | .hbm, ⟨4, _⟩ => ⟨S4x24x6144, .f32⟩
  | .hbm, ⟨5, _⟩ => ⟨S4x1x1024, .f32⟩
  | .hbm, ⟨6, _⟩ => ⟨S4x512x1024, .bf16⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S1x1024, .f32⟩
  | .hbm, ⟨11, _⟩ => ⟨S1x512x1024, .bf16⟩
  | .hbm, ⟨12, _⟩ => ⟨S512x1024, .bf16⟩
  | .hbm, ⟨13, _⟩ => ⟨S1x1024x2816, .bf16⟩
  | .hbm, ⟨14, _⟩ => ⟨S1024x2816, .bf16⟩
  | .hbm, ⟨15, _⟩ => ⟨S1x1024x2816, .bf16⟩
  | .hbm, ⟨16, _⟩ => ⟨S1024x2816, .bf16⟩
  | .hbm, ⟨17, _⟩ => ⟨S1x2816x1024, .bf16⟩
  | .hbm, ⟨18, _⟩ => ⟨S2816x1024, .bf16⟩
  | .hbm, ⟨19, _⟩ => ⟨S16x2304x1024, .f32⟩
  | .hbm, ⟨20, _⟩ => ⟨S16x2304x512, .f32⟩
  | .hbm, ⟨21, _⟩ => ⟨S512x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S1x16x6144, .f32⟩
  | .hbm, ⟨26, _⟩ => ⟨S16x6144, .f32⟩
  | .hbm, ⟨27, _⟩ => ⟨S16x1x6144, .f32⟩
  | .hbm, ⟨28, _⟩ => ⟨S16x2048x6144, .f32⟩
  | .hbm, ⟨29, _⟩ => ⟨S1x1x6144, .f32⟩
  | .hbm, ⟨30, _⟩ => ⟨S6144, .f32⟩
  | .hbm, ⟨31, _⟩ => ⟨S16x256x6144, .f32⟩
  | .hbm, ⟨32, _⟩ => ⟨S16x2304x6144, .f32⟩
  | .hbm, ⟨33, _⟩ => ⟨S16x2304x1024, .f32⟩
  | .hbm, ⟨34, _⟩ => ⟨S16x2304x1024, .f32⟩
  | .hbm, ⟨35, _⟩ => ⟨S16x2304x1024, .f32⟩
  | .hbm, ⟨36, _⟩ => ⟨S16x2304x1024, .f32⟩
  | .hbm, ⟨37, _⟩ => ⟨S16x2304x1024, .f32⟩
  | .hbm, ⟨38, _⟩ => ⟨S16x2304x1024, .f32⟩
  | .hbm, ⟨39, _⟩ => ⟨S16x2304x1024, .f32⟩
  | .hbm, ⟨40, _⟩ => ⟨S1x1x1024, .f32⟩
  | .hbm, ⟨41, _⟩ => ⟨S1024, .f32⟩
  | .hbm, ⟨42, _⟩ => ⟨S16x2304x1024, .f32⟩
  | .hbm, ⟨43, _⟩ => ⟨S16x2304x1024, .f32⟩
  | .hbm, ⟨44, _⟩ => ⟨S16x2304x1024, .f32⟩
  | .hbm, ⟨45, _⟩ => ⟨S16x2304x1024, .f32⟩
  | .hbm, ⟨46, _⟩ => ⟨S16x2304x1024, .f32⟩
  | .hbm, ⟨47, _⟩ => ⟨S_, .f32⟩
  | .hbm, ⟨48, _⟩ => ⟨S16x2304, .f32⟩
  | .hbm, ⟨49, _⟩ => ⟨S16x2304x1, .f32⟩
  | .hbm, ⟨50, _⟩ => ⟨S_, .f32⟩
  | .hbm, ⟨51, _⟩ => ⟨S16x2304x1, .f32⟩
  | .hbm, ⟨52, _⟩ => ⟨S16x2304x1, .f32⟩
  | .hbm, ⟨53, _⟩ => ⟨S_, .f32⟩
  | .hbm, ⟨54, _⟩ => ⟨S16x2304x1, .f32⟩
  | .hbm, ⟨55, _⟩ => ⟨S16x2304x1, .f32⟩
  | .hbm, ⟨56, _⟩ => ⟨S16x2304x1, .f32⟩
  | .hbm, ⟨57, _⟩ => ⟨S16x2304x1024, .f32⟩
  | .hbm, ⟨58, _⟩ => ⟨S16x2304x1024, .f32⟩
  | .hbm, ⟨59, _⟩ => ⟨S1x1x1024, .f32⟩
  | .hbm, ⟨60, _⟩ => ⟨S16x2304x1024, .f32⟩
  | .hbm, ⟨61, _⟩ => ⟨S16x2304x1024, .f32⟩
  | .hbm, ⟨62, _⟩ => ⟨S_, .f32⟩
  | .hbm, ⟨63, _⟩ => ⟨S16x2304x1024, .f32⟩
  | .hbm, ⟨64, _⟩ => ⟨S16x2304x1024, .f32⟩
  | .hbm, ⟨65, _⟩ => ⟨S16x2304x1024, .f32⟩
  | .hbm, ⟨66, _⟩ => ⟨S16x2304x1024, .f32⟩
  | .hbm, ⟨67, _⟩ => ⟨S16x2304x2816, .f32⟩
  | .hbm, ⟨68, _⟩ => ⟨S16x2304x2816, .f32⟩
  | .hbm, ⟨69, _⟩ => ⟨S16x2304x2816, .f32⟩
  | .hbm, ⟨70, _⟩ => ⟨S_, .f32⟩
  | .hbm, ⟨71, _⟩ => ⟨S16x2304x2816, .f32⟩
  | .hbm, ⟨72, _⟩ => ⟨S16x2304x2816, .f32⟩
  | .hbm, ⟨73, _⟩ => ⟨S_, .f32⟩
  | .hbm, ⟨74, _⟩ => ⟨S16x2304x2816, .f32⟩
  | .hbm, ⟨75, _⟩ => ⟨S16x2304x2816, .f32⟩
  | .hbm, ⟨76, _⟩ => ⟨S16x2304x2816, .f32⟩
  | .hbm, ⟨77, _⟩ => ⟨S16x2304x2816, .f32⟩
  | .hbm, ⟨78, _⟩ => ⟨S16x2304x2816, .f32⟩
  | .hbm, ⟨79, _⟩ => ⟨S16x2304x1024, .f32⟩
  | .hbm, ⟨80, _⟩ => ⟨S16x2304x1024, .f32⟩
  | .hbm, ⟨81, _⟩ => ⟨S16x2304x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst : Ref sig .tc := ⟨.hbm, 47, rfl⟩
abbrev main_v36 : Ref sig .tc := ⟨.hbm, 48, rfl⟩
abbrev main_v37 : Ref sig .tc := ⟨.hbm, 49, rfl⟩
abbrev main_cst_0 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_2 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== InProjFirst.lean ====
abbrev S16x2048x1024 : Shape := ⟨3, ![16, 2048, 1024]⟩
abbrev S16x256x1024 : Shape := ⟨3, ![16, 256, 1024]⟩
abbrev S4x24x6144 : Shape := ⟨3, ![4, 24, 6144]⟩
abbrev S4x1x1024 : Shape := ⟨3, ![4, 1, 1024]⟩
abbrev S4x3344x1024 : Shape := ⟨3, ![4, 3344, 1024]⟩
abbrev S4x528x1024 : Shape := ⟨3, ![4, 528, 1024]⟩
abbrev S4x8x256 : Shape := ⟨3, ![4, 8, 256]⟩
abbrev S4x1x256 : Shape := ⟨3, ![4, 1, 256]⟩
abbrev S4x128x512 : Shape := ⟨3, ![4, 128, 512]⟩
abbrev S4x128x256 : Shape := ⟨3, ![4, 128, 256]⟩
abbrev S16x2304x1536 : Shape := ⟨3, ![16, 2304, 1536]⟩
abbrev S16x2304x512 : Shape := ⟨3, ![16, 2304, 512]⟩
abbrev S16x18x512x128 : Shape := ⟨4, ![16, 18, 512, 128]⟩
abbrev S16x144x128 : Shape := ⟨3, ![16, 144, 128]⟩
abbrev S1x256x1024 : Shape := ⟨3, ![1, 256, 1024]⟩
abbrev S1x24x1024 : Shape := ⟨3, ![1, 24, 1024]⟩
abbrev S1x1x1024 : Shape := ⟨3, ![1, 1, 1024]⟩
abbrev S1x3344x1024 : Shape := ⟨3, ![1, 3344, 1024]⟩
abbrev S1x528x1024 : Shape := ⟨3, ![1, 528, 1024]⟩
abbrev S1x8x256 : Shape := ⟨3, ![1, 8, 256]⟩
abbrev S1x1x256 : Shape := ⟨3, ![1, 1, 256]⟩
abbrev S1x128x512 : Shape := ⟨3, ![1, 128, 512]⟩
abbrev S1x128x256 : Shape := ⟨3, ![1, 128, 256]⟩
abbrev S1x768x1536 : Shape := ⟨3, ![1, 768, 1536]⟩
abbrev S1x768x512 : Shape := ⟨3, ![1, 768, 512]⟩
abbrev S1x6x512x128 : Shape := ⟨4, ![1, 6, 512, 128]⟩
abbrev S1x48x128 : Shape := ⟨3, ![1, 48, 128]⟩
abbrev S1024x2816 : Shape := ⟨2, ![1024, 2816]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩
abbrev S1x1024 : Shape := ⟨2, ![1, 1024]⟩
abbrev S256x2816 : Shape := ⟨2, ![256, 2816]⟩
abbrev S256x1536 : Shape := ⟨2, ![256, 1536]⟩
abbrev S1x256x1536 : Shape := ⟨3, ![1, 256, 1536]⟩
abbrev S528x1024 : Shape := ⟨2, ![528, 1024]⟩
abbrev S528x256 : Shape := ⟨2, ![528, 256]⟩
abbrev S512x128 : Shape := ⟨2, ![512, 128]⟩
abbrev S1x1x512x128 : Shape := ⟨4, ![1, 1, 512, 128]⟩
abbrev S8x128 : Shape := ⟨2, ![8, 128]⟩
abbrev S1x8x128 : Shape := ⟨3, ![1, 8, 128]⟩
abbrev S256x1280 : Shape := ⟨2, ![256, 1280]⟩
abbrev S256x256 : Shape := ⟨2, ![256, 256]⟩
abbrev S1x256 : Shape := ⟨2, ![1, 256]⟩
abbrev S128x256 : Shape := ⟨2, ![128, 256]⟩
abbrev S512x256 : Shape := ⟨2, ![512, 256]⟩
abbrev S128x512 : Shape := ⟨2, ![128, 512]⟩
abbrev S256x512 : Shape := ⟨2, ![256, 512]⟩
abbrev S1x256x512 : Shape := ⟨3, ![1, 256, 512]⟩

abbrev nBuf : Space → Nat
  | .hbm => 15
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S4x24x6144, .f32⟩
  | .hbm, ⟨3, _⟩ => ⟨S4x1x1024, .f32⟩
  | .hbm, ⟨4, _⟩ => ⟨S4x3344x1024, .bf16⟩
  | .hbm, ⟨5, _⟩ => ⟨S4x528x1024, .bf16⟩
  | .hbm, ⟨6, _⟩ => ⟨S4x8x256, .f32⟩
  | .hbm, ⟨7, _⟩ => ⟨S4x1x256, .f32⟩
  | .hbm, ⟨8, _⟩ => ⟨S4x128x512, .bf16⟩
  | .hbm, ⟨9, _⟩ => ⟨S4x128x256, .f32⟩
  | .hbm, ⟨10, _⟩ => ⟨S16x2304x1536, .bf16⟩
  | .hbm, ⟨11, _⟩ => ⟨S16x2304x512, .bf16⟩
  | .hbm, ⟨12, _⟩ => ⟨S16x18x512x128, .bf16⟩
  | .hbm, ⟨13, _⟩ => ⟨S16x144x128, .f32⟩
  | .hbm, ⟨14, _⟩ => ⟨S16x144x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x24x1024, .f32⟩
  | .local _ .vmem, ⟨9, _⟩ => ⟨S1x24x1024, .f32⟩
  | .local _ .vmem, ⟨10, _⟩ => ⟨S1x1x1024, .f32⟩
  | .local _ .vmem, ⟨11, _⟩ => ⟨S1x3344x1024, .bf16⟩
  | .local _ .vmem, ⟨12, _⟩ => ⟨S1x528x1024, .bf16⟩
  | .local _ .vmem, ⟨13, _⟩ => ⟨S1x8x256, .f32⟩
  | .local _ .vmem, ⟨14, _⟩ => ⟨S1x1x256, .f32⟩
  | .local _ .vmem, ⟨15, _⟩ => ⟨S1x128x512, .bf16⟩
  | .local _ .vmem, ⟨16, _⟩ => ⟨S1x128x256, .f32⟩
  | .local _ .vmem, ⟨17, _⟩ => ⟨S1x768x1536, .bf16⟩
  | .local _ .vmem, ⟨18, _⟩ => ⟨S1x768x1536, .bf16⟩
  | .local _ .vmem, ⟨19, _⟩ => ⟨S1x768x512, .bf16⟩
  | .local _ .vmem, ⟨20, _⟩ => ⟨S1x768x512, .bf16⟩
  | .local _ .vmem, ⟨21, _⟩ => ⟨S1x6x512x128, .bf16⟩
  | .local _ .vmem, ⟨22, _⟩ => ⟨S1x6x512x128, .bf16⟩
  | .local _ .vmem, ⟨23, _⟩ => ⟨S1x48x128, .f32⟩
  | .local _ .vmem, ⟨24, _⟩ => ⟨S1x48x128, .f32⟩
  | .local _ .vmem, ⟨25, _⟩ => ⟨S1x48x128, .f32⟩
  | .local _ .vmem, ⟨26, _⟩ => ⟨S1x48x128, .f32⟩
  | .local _ .vmem, ⟨27, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![16, 3], ![false, false]⟩

def k0_off1 (i : grid0.Coords) : Fin 3 → Nat :=
  let c0_15 : Index := 0#32
  let arg0 : BitVec 32 := BitVec.ofNat 32 (i 0).val
  let v30 : Index := Scalar.indexCast arg0
  let c0_16 : Index := 0#32
  ![0, v30.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c7_i32 : BitVec 32 := 7#32
  let v2 : BitVec 32 := Scalar.minsi v1 c7_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3344x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x528x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x768x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x768x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x6x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x48x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x48x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InProjFirstRefIdeal.lean ====
abbrev S16x2048x1024 : Shape := ⟨3, ![16, 2048, 1024]⟩
abbrev S16x256x1024 : Shape := ⟨3, ![16, 256, 1024]⟩
abbrev S4x24x6144 : Shape := ⟨3, ![4, 24, 6144]⟩
abbrev S4x1x1024 : Shape := ⟨3, ![4, 1, 1024]⟩
abbrev S4x3344x1024 : Shape := ⟨3, ![4, 3344, 1024]⟩
abbrev S4x528x1024 : Shape := ⟨3, ![4, 528, 1024]⟩
abbrev S4x8x256 : Shape := ⟨3, ![4, 8, 256]⟩
abbrev S4x1x256 : Shape := ⟨3, ![4, 1, 256]⟩
abbrev S4x128x512 : Shape := ⟨3, ![4, 128, 512]⟩
abbrev S4x128x256 : Shape := ⟨3, ![4, 128, 256]⟩
abbrev S16x2304x1024 : Shape := ⟨3, ![16, 2304, 1024]⟩
abbrev S1x3344x1024 : Shape := ⟨3, ![1, 3344, 1024]⟩
abbrev S3344x1024 : Shape := ⟨2, ![3344, 1024]⟩
abbrev S1x528x1024 : Shape := ⟨3, ![1, 528, 1024]⟩
abbrev S528x1024 : Shape := ⟨2, ![528, 1024]⟩
abbrev S1x128x512 : Shape := ⟨3, ![1, 128, 512]⟩
abbrev S128x4x128 : Shape := ⟨3, ![128, 4, 128]⟩
abbrev S1x16x6144 : Shape := ⟨3, ![1, 16, 6144]⟩
abbrev S16x6144 : Shape := ⟨2, ![16, 6144]⟩
abbrev S16x1x6144 : Shape := ⟨3, ![16, 1, 6144]⟩
abbrev S16x2048x6144 : Shape := ⟨3, ![16, 2048, 6144]⟩
abbrev S1x1x6144 : Shape := ⟨3, ![1, 1, 6144]⟩
abbrev S6144 : Shape := ⟨1, ![6144]⟩
abbrev S16x256x6144 : Shape := ⟨3, ![16, 256, 6144]⟩
abbrev S16x2304x6144 : Shape := ⟨3, ![16, 2304, 6144]⟩
abbrev S1x1x1024 : Shape := ⟨3, ![1, 1, 1024]⟩
abbrev S_ : Shape := ⟨0, ![]⟩
abbrev S16x2304 : Shape := ⟨2, ![16, 2304]⟩
abbrev S16x2304x1 : Shape := ⟨3, ![16, 2304, 1]⟩
abbrev S16x2304x3344 : Shape := ⟨3, ![16, 2304, 3344]⟩
abbrev S16x2304x512 : Shape := ⟨3, ![16, 2304, 512]⟩
abbrev S16x2304x1536 : Shape := ⟨3, ![16, 2304, 1536]⟩
abbrev S16x2304x528 : Shape := ⟨3, ![16, 2304, 528]⟩
abbrev S16x18x128x528 : Shape := ⟨4, ![16, 18, 128, 528]⟩
abbrev S16x18x528x128 : Shape := ⟨4, ![16, 18, 528, 128]⟩
abbrev S16x18x512x128 : Shape := ⟨4, ![16, 18, 512, 128]⟩
abbrev S16x18x8x128 : Shape := ⟨4, ![16, 18, 8, 128]⟩
abbrev S16x144x128 : Shape := ⟨3, ![16, 144, 128]⟩
abbrev S16x2304x256 : Shape := ⟨3, ![16, 2304, 256]⟩
abbrev S16x2048x256 : Shape := ⟨3, ![16, 2048, 256]⟩
abbrev S16x32x64x256 : Shape := ⟨4, ![16, 32, 64, 256]⟩
abbrev S16x32x66x256 : Shape := ⟨4, ![16, 32, 66, 256]⟩
abbrev S16x256x256 : Shape := ⟨3, ![16, 256, 256]⟩
abbrev S16x258x256 : Shape := ⟨3, ![16, 258, 256]⟩
abbrev S1x1x256 : Shape := ⟨3, ![1, 1, 256]⟩
abbrev S16x18x128x4x64 : Shape := ⟨5, ![16, 18, 128, 4, 64]⟩
abbrev S4x16x18x64x128 : Shape := ⟨5, ![4, 16, 18, 64, 128]⟩
abbrev S16x18x128x256 : Shape := ⟨4, ![16, 18, 128, 256]⟩
abbrev S1x128x256 : Shape := ⟨3, ![1, 128, 256]⟩
abbrev S1x1x128x256 : Shape := ⟨4, ![1, 1, 128, 256]⟩

abbrev nBuf : Space → Nat
  | .hbm => 129
  | .vmem => 0
  | .smem => 0
  | _ => 0

abbrev hbmTy0_0 (i : Nat) : BufTy := match i % 128 with
  | 0 => ⟨S16x2048x1024, .f32⟩
  | 1 => ⟨S16x256x1024, .f32⟩
  | 2 => ⟨S4x24x6144, .f32⟩
  | 3 => ⟨S4x1x1024, .f32⟩
  | 4 => ⟨S4x3344x1024, .bf16⟩
  | 5 => ⟨S4x528x1024, .bf16⟩
  | 6 => ⟨S4x8x256, .f32⟩
  | 7 => ⟨S4x1x256, .f32⟩
  | 8 => ⟨S4x128x512, .bf16⟩
  | 9 => ⟨S4x128x256, .f32⟩
  | 10 => ⟨S16x2304x1024, .f32⟩
  | 11 => ⟨S1x3344x1024, .bf16⟩
  | 12 => ⟨S3344x1024, .bf16⟩
  | 13 => ⟨S1x528x1024, .bf16⟩
  | 14 => ⟨S528x1024, .bf16⟩
  | 15 => ⟨S1x128x512, .bf16⟩
  | 16 => ⟨S128x4x128, .bf16⟩
  | 17 => ⟨S3344x1024, .f32⟩
  | 18 => ⟨S528x1024, .f32⟩
  | 19 => ⟨S128x4x128, .f32⟩
  | 20 => ⟨S1x16x6144, .f32⟩
  | 21 => ⟨S16x6144, .f32⟩
  | 22 => ⟨S16x1x6144, .f32⟩
  | 23 => ⟨S16x2048x6144, .f32⟩
  | 24 => ⟨S1x1x6144, .f32⟩
  | 25 => ⟨S6144, .f32⟩
  | 26 => ⟨S16x256x6144, .f32⟩
  | 27 => ⟨S16x2304x6144, .f32⟩
  | 28 => ⟨S1x1x1024, .f32⟩
  | 29 => ⟨S16x2304x1024, .f32⟩
  | 30 => ⟨S_, .f32⟩
  | 31 => ⟨S16x2304, .f32⟩
  | 32 => ⟨S16x2304x1, .f32⟩
  | 33 => ⟨S_, .f32⟩
  | 34 => ⟨S16x2304x1, .f32⟩
  | 35 => ⟨S16x2304x1, .f32⟩
  | 36 => ⟨S_, .f32⟩
  | 37 => ⟨S16x2304x1, .f32⟩
  | 38 => ⟨S16x2304x1, .f32⟩
  | 39 => ⟨S16x2304x1, .f32⟩
  | 40 => ⟨S16x2304x1024, .f32⟩
  | 41 => ⟨S16x2304x1024, .f32⟩
  | 42 => ⟨S16x2304x1024, .f32⟩
  | 43 => ⟨S16x2304x1024, .f32⟩
  | 44 => ⟨S16x2304x1024, .f32⟩
  | 45 => ⟨S16x2304x1024, .f32⟩
  | 46 => ⟨S_, .f32⟩
  | 47 => ⟨S16x2304x1024, .f32⟩
  | 48 => ⟨S16x2304x1024, .f32⟩
  | 49 => ⟨S16x2304x1024, .f32⟩
  | 50 => ⟨S16x2304x1024, .f32⟩
  | 51 => ⟨S16x2304x3344, .f32⟩
  | 52 => ⟨S16x2304x512, .f32⟩
  | 53 => ⟨S16x2304x1024, .f32⟩
  | 54 => ⟨S16x2304x1536, .f32⟩
  | 55 => ⟨S16x2304x528, .f32⟩
  | 56 => ⟨S16x18x128x528, .f32⟩
  | 57 => ⟨S16x18x528x128, .f32⟩
  | 58 => ⟨S16x18x512x128, .f32⟩
  | 59 => ⟨S_, .f32⟩
  | 60 => ⟨S16x18x512x128, .f32⟩
  | 61 => ⟨S16x18x512x128, .f32⟩
  | 62 => ⟨S16x18x8x128, .f32⟩
  | 63 => ⟨S16x144x128, .f32⟩
  | 64 => ⟨S16x18x8x128, .f32⟩
  | 65 => ⟨S16x144x128, .f32⟩
  | 66 => ⟨S16x2304x256, .f32⟩
  | 67 => ⟨S16x2304x256, .f32⟩
  | 68 => ⟨S16x2304x256, .f32⟩
  | 69 => ⟨S16x2048x256, .f32⟩
  | 70 => ⟨S16x32x64x256, .f32⟩
  | 71 => ⟨S_, .f32⟩
  | 72 => ⟨S16x32x66x256, .f32⟩
  | 73 => ⟨S16x256x256, .f32⟩
  | 74 => ⟨S_, .f32⟩
  | 75 => ⟨S16x258x256, .f32⟩
  | 76 => ⟨S16x32x64x256, .f32⟩
  | 77 => ⟨S16x2048x256, .f32⟩
  | 78 => ⟨S16x256x256, .f32⟩
  | 79 => ⟨S16x2304x256, .f32⟩
  | 80 => ⟨S16x32x64x256, .f32⟩
  | 81 => ⟨S16x2048x256, .f32⟩
  | 82 => ⟨S16x256x256, .f32⟩
  | 83 => ⟨S16x2304x256, .f32⟩
  | 84 => ⟨S1x1x256, .f32⟩
  | 85 => ⟨S16x2304x256, .f32⟩
  | 86 => ⟨S16x2304x256, .f32⟩
  | 87 => ⟨S1x1x256, .f32⟩
  | 88 => ⟨S16x2304x256, .f32⟩
  | 89 => ⟨S16x2304x256, .f32⟩
  | 90 => ⟨S16x2304x256, .f32⟩
  | 91 => ⟨S1x1x256, .f32⟩
  | 92 => ⟨S16x2304x256, .f32⟩
  | 93 => ⟨S16x2304x256, .f32⟩
  | 94 => ⟨S16x2304x256, .f32⟩
  | 95 => ⟨S16x2304x256, .f32⟩
  | 96 => ⟨S1x1x256, .f32⟩
  | 97 => ⟨S16x2304x256, .f32⟩
  | 98 => ⟨S_, .f32⟩
  | 99 => ⟨S16x2304, .f32⟩
  | 100 => ⟨S16x2304x1, .f32⟩
  | 101 => ⟨S_, .f32⟩
  | 102 => ⟨S16x2304x1, .f32⟩
  | 103 => ⟨S16x2304x1, .f32⟩
  | 104 => ⟨S_, .f32⟩
  | 105 => ⟨S16x2304x1, .f32⟩
  | 106 => ⟨S16x2304x1, .f32⟩
  | 107 => ⟨S16x2304x1, .f32⟩
  | 108 => ⟨S16x2304x256, .f32⟩
  | 109 => ⟨S16x2304x256, .f32⟩
  | 110 => ⟨S16x2304x256, .f32⟩
  | 111 => ⟨S16x2304x256, .f32⟩
  | 112 => ⟨S16x18x128x4x64, .f32⟩
  | 113 => ⟨S4x16x18x64x128, .f32⟩
  | 114 => ⟨S16x18x128x4x64, .f32⟩
  | 115 => ⟨S16x18x128x256, .f32⟩
  | 116 => ⟨S1x128x256, .f32⟩
  | 117 => ⟨S1x1x128x256, .f32⟩
  | 118 => ⟨S16x18x128x256, .f32⟩
  | 119 => ⟨S16x18x128x256, .f32⟩
  | 120 => ⟨S16x2304x256, .f32⟩
  | 121 => ⟨S16x2304x256, .f32⟩
  | 122 => ⟨S16x2304x256, .f32⟩
  | 123 => ⟨S16x2304x256, .f32⟩
  | 124 => ⟨S16x2304x256, .f32⟩
  | 125 => ⟨S16x2304x512, .f32⟩
  | 126 => ⟨S16x2304x1536, .bf16⟩
  | 127 => ⟨S16x2304x512, .bf16⟩
  | _ => ⟨S16x2048x1024, .f32⟩

abbrev hbmTy0_1 (i : Nat) : BufTy := match i % 128 with
  | 0 => ⟨S16x18x512x128, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_cst_5 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_6 : Ref sig .tc := ⟨.hbm, 98, rfl⟩
abbrev main_v81 : Ref sig .tc := ⟨.hbm, 99, rfl⟩
abbrev main_v82 : Ref sig .tc := ⟨.hbm, 100, rfl⟩
abbrev main_cst_7 : Ref sig .tc := ⟨.hbm, 101, rfl⟩
abbrev main_v83 : Ref sig .tc := ⟨.hbm, 102, rfl⟩
abbrev main_v84 : Ref sig .tc := ⟨.hbm, 103, rfl⟩
abbrev main_cst_8 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩

abbrev nD : Nat := 1
abbrev τ : Topo := Topo.v7x

variable {F : FTy → Type} [FloatOps F]
-- ==== Proof.MlstmI.Body.lean ====
/-
  The frame of `MlstmIdeal`: the body's run at a grid point, from any contents of the scratch buffers, and the launch.
  Nothing is said here of what the output block or the scratch buffers hold afterwards.
-/
module

public import proofs.«01_k».proof.Proof.Gen.MlstmIdeal.Skeleton
public import proofs.«01_k».proof.Proof.Gen.MlstmIdeal.Loops
public import proofs.«01_k».proof.Proof.Gen.MlstmIdeal.Launch
public import proofs.«01_k».proof.Proof.Gen.MlstmIdeal.Points
public import proofs.«01_k».proof.Proof.Gen.MlstmIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MlstmIdeal.Hand

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run: with the eight inputs at their blocks, the output block and the ten scratch buffers at any contents, it ends with
    the inputs as they were. -/
theorem body_run (c : Dev nD) (i : grid0.Coords) (arg1 : Memref sig .tc .vmem S1x2304x1536 .bf16) (harg1 : arg1.IsWhole) (arg2 : Memref sig .tc .vmem S1x18x512x128 .bf16) (harg2 : arg2.IsWhole) (arg3 : Memref sig .tc .vmem S1x144x128 .f32) (harg3 : arg3.IsWhole) (arg4 : Memref sig .tc .vmem S1x144x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x2304x1024 .bf16) (harg9 : arg9.IsWhole) (arg10 : Memref sig .tc .vmem S144x128 .f32) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (arg14 : Memref sig .tc .vmem S144x128 .f32) (harg14 : arg14.IsWhole) (arg15 : Memref sig .tc .vmem S8x128x256 .f32) (harg15 : arg15.IsWhole) (arg16 : Memref sig .tc .vmem S8x256x256 .bf16) (harg16 : arg16.IsWhole) (arg17 : Memref sig .tc .vmem S8x128x256 .bf16) (harg17 : arg17.IsWhole) (arg18 : Memref sig .tc .vmem S2304x512 .f32) (harg18 : arg18.IsWhole) (arg19 : Memref sig .tc .vmem S2304x512 .f32) (harg19 : arg19.IsWhole)
    (x0 : Vec F S1x2304x1536 .bf16) (x1 : Vec F S1x18x512x128 .bf16) (x2 : Vec F S1x144x128 .f32) (x3 : Vec F S1x144x128 .f32) (x4 : Vec F S8x128 .f32) (x5 : Vec F S8x128 .f32) (x6 : Vec F S1x512 .f32) (x7 : Vec F S512x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_mlstm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [cc0_mlstm_eq_skeleton]; unfold cc0_mlstm_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.MlstmIdeal.Hand

end
-- ==== Proof.MlstmI.Frame.lean ====
/-
  The frame of `MlstmIdeal`, its launch: the proof data of the pipeline with the output's contents left open, the body obligation at every
  point from `Hand.body_run`, and the frame claim's statement at any values.
-/
module

public import proofs.«01_k».proof.Proof.MlstmI.Body
public import Idealize.ShloMosaic.Lib.Claim

@[expose] public section

set_option maxRecDepth 16384

noncomputable section

namespace Cert.MlstmIdeal.Hand

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents are left open: the output. -/
def open0 : Fin 9 → Bool := fun w => w.val == 8

/-- The proof data: the arrays as launched; each input's buffer at its block after the body; the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨_ + 9, h⟩ => absurd h (Nat.not_lt.2 (Nat.le_add_left _ _))
  Φ _ := Pipeline.ΦA spec0 c
  q _ := fullShare
  owed _ := 0

/-- The proof data's arrays are the launched ones. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The pipeline's invariant: the ten scratch buffers at some contents, and the generator register. -/
theorem phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare d))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ d, owns (c : Thread nD τ) (win0_8.stage (cfg0.slots t 8)) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).Φ t.castSucc = Pipeline.ΦA spec0 c from rfl, phi_eq,
    show (dats m 0 c).owesAt () t.succ = (dats m 0 c).owesAt () t.castSucc from rfl,
    after_0, after_1, after_2, after_3, after_4, after_5, after_6, after_7]
  simp only [before_0, before_1, before_2, before_3, before_4, before_5, before_6, before_7]
  iintro ⟨⟨⟨⟨%e0, H9⟩, ⟨%e1, H10⟩, ⟨%e2, H11⟩, ⟨%e3, H12⟩, ⟨%e4, H13⟩, ⟨%e5, H14⟩, ⟨%e6, H15⟩, ⟨%e7, H16⟩, ⟨%e8, H17⟩, ⟨%e9, H18⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [H9 H10 H11 H12 H13 H14 H15 H16 H17 H18 Hr]
  · isplitr [Hr]; swap; · iexact Hr
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body there. -/
theorem row_eq (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ open0 := fun t => by
  rw [bigSep_W0, bigSep_W0, row_eq]
  exact triple_restated (sound_body m c t) rfl .rfl fun _ => .rfl

set_option backward.isDefEq.respectTransparency.types false in
/-- The launch: every final state has the inputs unchanged and every semaphore counter at zero. -/
theorem launch_run : θ_run defs (onTc (τ := τ) (main (F := F))) (s₀ m ρ)
    (fun r => (Pipeline.RDat.FramePost (cfgs 0) (fun c => (dats m 0 c).toRForget open0) (V m)) r ∧ r.2.sem = fun _ => 0) :=
  Pipeline.θ_run_frame_forget (Q' := _) cfgs (dats m) (0 : Fin 1) launch0 defs₀ Variants.none open0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c)),
      (Pipeline.RDat.FramePost.arr_in h c 7 rfl).trans ((A_eq m c 7).trans (V_main_arg7 m c))⟩)
    ((θ_run defs _ _).mono (fun _ h => h.1) (launch_run m ρ))

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (launch_run m ρ))

end Cert.MlstmIdeal.Hand

end
-- ==== Proof.Rows.lean ====
/- The second half of a layer, one token's row at a time: the formulas the kernel and the reference are both read down to,
   and the kernel's 256-row piece as those formulas. -/
module

public import proofs.«01_k».proof.Proof.Gen.OutFfnIdeal.Skeleton
public import Idealize.ShloMosaic.Lib.Pointwise

@[expose] public section

set_option maxRecDepth 16384

noncomputable section

namespace Cert.Rows

open Idealize.ShloMosaic

/-- A row of 1024 extended reals. -/
abbrev Row := Fin 1024 → EReal

/-- The residual row after the output projection: the row itself plus the gate times the mLSTM half and the projected mixing half. -/
def resid (x ml g : Row) (mix : Fin 512 → EReal) (wo : Fin 512 → Row) : Row :=
  fun j => x j + g j * (ml j + ∑ k, mix k * wo k j)

/-- A row divided by its root mean square: the mean of the squares is their sum over 1024, plus the small constant. -/
def unitRow (x : Row) : Row :=
  fun j => x j * Ideal.rsqrt (Ideal.div (∑ k, x k * x k) (Ideal.ofBits .f32 0x44800000#32) + Ideal.ofBits .f32 0x358637BD#32)

/-- The normalised row under its weight, then scaled and shifted by the modulation. -/
def modulated (x n sc sh : Row) : Row :=
  fun j => unitRow x j * n j * (1 + sc j) + sh j

/-- The gated hidden row of the feed-forward: `silu` of the first product times the second. -/
def hidden (h : Row) (w1 w3 : Fin 1024 → Fin 2816 → EReal) : Fin 2816 → EReal :=
  fun f => (∑ k, h k * w1 k f) * Ideal.logistic (∑ k, h k * w1 k f) * ∑ k, h k * w3 k f

/-- The residual row after the feed-forward's second product. -/
def closed (x g : Row) (a : Fin 2816 → EReal) (w2 : Fin 2816 → Row) : Row :=
  fun j => x j + g j * ∑ f, a f * w2 f j

/-- The second half of a layer at one token. -/
def row (x ml : Row) (mix : Fin 512 → EReal) (g1 sh sc g2 n : Row) (wo : Fin 512 → Row)
    (w1 w3 : Fin 1024 → Fin 2816 → EReal) (w2 : Fin 2816 → Row) : Row :=
  closed (resid x ml g1 mix wo) g2 (hidden (modulated (resid x ml g1 mix wo) n sc sh) w1 w3) w2

/-- The row formula depends on its rows and matrices element by element. -/
theorem row_congr {x x' ml ml' : Row} {mix mix' : Fin 512 → EReal} {g1 g1' sh sh' sc sc' g2 g2' n n' : Row} {wo wo' : Fin 512 → Row}
    {w1 w1' w3 w3' : Fin 1024 → Fin 2816 → EReal} {w2 w2' : Fin 2816 → Row} (hx : ∀ k, x k = x' k) (hml : ∀ k, ml k = ml' k)
    (hmix : ∀ k, mix k = mix' k) (hg1 : ∀ k, g1 k = g1' k) (hsh : ∀ k, sh k = sh' k) (hsc : ∀ k, sc k = sc' k) (hg2 : ∀ k, g2 k = g2' k)
    (hn : ∀ k, n k = n' k) (hwo : ∀ k j, wo k j = wo' k j) (hw1 : ∀ k f, w1 k f = w1' k f) (hw3 : ∀ k f, w3 k f = w3' k f)
    (hw2 : ∀ f j, w2 f j = w2' f j) : row x ml mix g1 sh sc g2 n wo w1 w3 w2 = row x' ml' mix' g1' sh' sc' g2' n' wo' w1' w3' w2' := by
  rw [funext hx, funext hml, funext hmix, funext hg1, funext hsh, funext hsc, funext hg2, funext hn, funext fun k => funext (hwo k),
    funext fun k => funext (hw1 k), funext fun k => funext (hw3 k), funext fun k => funext (hw2 k)]

/-- The last layer's row: the second half, then the final normalisation under its weight. -/
def lastRow (y nf : Row) : Row := fun j => unitRow y j * nf j

open Cert.OutFfnIdeal Cert.OutFfnIdeal.Gen

/-- The row of the modulation table a token takes: its batch element's, or for a context token the context's own (row 16). -/
def modRow (b : Fin 16) (p : Fin 2304) : Fin 24 := if 2048 ≤ p.val then 16 else ⟨b.val, by omega⟩

/-- Column `k` of the modulation's `q`-th part, of six of 1024. -/
def modCol (q : Nat) (hq : q < 6) (k : Fin 1024) : Fin 6144 := ⟨q * 1024 + k.val, by omega⟩

/-- The result the arguments determine: the second half of layer `l` at each batch element and token. -/
def G (l : Fin 4) (x : S16x2304x1024.Idx → EReal) (ml : S16x2304x1024.Idx → EReal) (mix : S16x2304x512.Idx → EReal) (mods : S4x24x6144.Idx → EReal)
    (n : S4x1x1024.Idx → EReal) (wo : S4x512x1024.Idx → EReal) (w1 w3 : S4x1024x2816.Idx → EReal) (w2 : S4x2816x1024.Idx → EReal)
    (b : Fin 16) (p : Fin 2304) : Row :=
  row (fun k => x (ix3 b p k)) (fun k => ml (ix3 b p k)) (fun k => mix (ix3 b p k))
    (fun k => mods (ix3 l (modRow b p) (modCol 2 (by decide) k))) (fun k => mods (ix3 l (modRow b p) (modCol 3 (by decide) k)))
    (fun k => mods (ix3 l (modRow b p) (modCol 4 (by decide) k))) (fun k => mods (ix3 l (modRow b p) (modCol 5 (by decide) k)))
    (fun k => n (ix3 l 0 k)) (fun k j => wo (ix3 l k j)) (fun k f => w1 (ix3 l k f)) (fun k f => w3 (ix3 l k f)) (fun f j => w2 (ix3 l f j))

section
variable (b : BitVec 1) (xa xc : Vec Ideal S1x256x1024 .f32) (ml : Vec Ideal S1x256x1024 .bf16) (mix : Vec Ideal S1x256x512 .bf16)
  (wo : Vec Ideal S1x512x1024 .bf16) (g1a g1c n sca scc sha shc : Vec Ideal S1x1x1024 .f32)
  (w1 w3 : Vec Ideal S1x1024x2816 .bf16) (g2a g2c : Vec Ideal S1x1x1024 .f32) (w2 : Vec Ideal S1x2816x1024 .bf16)

/-- The residual piece, 256 rows at once. -/
def x1 : FVec Ideal S256x1024 .f32 := k0_pay7 b (k0_pay6 xa) xc ml mix wo g1a g1c

/-- The feed-forward's input piece. -/
def hx : FVec Ideal S256x1024 .bf16 := k0_pay9 b (k0_pay8 b (k0_pay6 xa) xc ml mix wo g1a g1c n) sca scc sha shc

/-- The piece a body stores, as its vector operations. -/
def tile : FVec Ideal S1x256x1024 .f32 :=
  k0_pay20 b (x1 b xa xc ml mix wo g1a g1c) (k0_pay15 (hx b xa xc ml mix wo g1a g1c n sca scc sha shc) w1 w3) g2a g2c w2

/-- The residual piece at an element is the row formula. -/
theorem x1_apply (r : Fin 256) (j : Fin 1024) : x1 b xa xc ml mix wo g1a g1c (ix2 r j)
    = resid (fun k => Scalar.select b (xa (ix3 0 r k)) (xc (ix3 0 r k))) (fun k => ml (ix3 0 r k))
        (fun k => Scalar.select b (g1a (ix3 0 0 k)) (g1c (ix3 0 0 k))) (fun k => mix (ix3 0 r k)) (fun k j => wo (ix3 0 k j)) j := by
  unfold x1 resid
  pointwise [k0_pay7, k0_pay6]

/-- The feed-forward's input piece at an element is the row formula over the residual piece. -/
theorem hx_apply (r : Fin 256) (j : Fin 1024) : hx b xa xc ml mix wo g1a g1c n sca scc sha shc (ix2 r j)
    = modulated (fun k => x1 b xa xc ml mix wo g1a g1c (ix2 r k)) (fun k => n (ix3 0 0 k))
        (fun k => Scalar.select b (sca (ix3 0 0 k)) (scc (ix3 0 0 k))) (fun k => Scalar.select b (sha (ix3 0 0 k)) (shc (ix3 0 0 k))) j := by
  unfold hx x1 modulated unitRow
  pointwise [k0_pay9, k0_pay8]

/-- The stored piece at an element is the second half of the layer at that token. -/
theorem tile_apply (r : Fin 256) (j : Fin 1024) :
    tile b xa xc ml mix wo g1a g1c n sca scc sha shc w1 w3 g2a g2c w2 (ix3 0 r j)
    = row (fun k => Scalar.select b (xa (ix3 0 r k)) (xc (ix3 0 r k))) (fun k => ml (ix3 0 r k)) (fun k => mix (ix3 0 r k))
        (fun k => Scalar.select b (g1a (ix3 0 0 k)) (g1c (ix3 0 0 k))) (fun k => Scalar.select b (sha (ix3 0 0 k)) (shc (ix3 0 0 k)))
        (fun k => Scalar.select b (sca (ix3 0 0 k)) (scc (ix3 0 0 k))) (fun k => Scalar.select b (g2a (ix3 0 0 k)) (g2c (ix3 0 0 k)))
        (fun k => n (ix3 0 0 k)) (fun k j => wo (ix3 0 k j)) (fun k f => w1 (ix3 0 k f)) (fun k f => w3 (ix3 0 k f)) (fun f j => w2 (ix3 0 f j)) j := by
  have hX := fun k => x1_apply b xa xc ml mix wo g1a g1c r k
  have hH := fun k => hx_apply b xa xc ml mix wo g1a g1c n sca scc sha shc r k
  simp only [hX] at hH
  unfold tile row closed hidden
  rw [← hX j]
  simp only [← hH]
  generalize x1 b xa xc ml mix wo g1a g1c = y
  generalize hx b xa xc ml mix wo g1a g1c n sca scc sha shc = h
  pointwise [k0_pay20, k0_pay15]
end

end Cert.Rows

end
-- ==== Proof.OutFfn.Value.lean ====
/- What the kernel's run leaves in the result of the second half of a middle layer: at every batch element and token the
   row formula of the arguments (Proof/Rows.lean). -/
module

public import proofs.«01_k».proof.Proof.Gen.OutFfnIdeal.Value
public import proofs.«01_k».proof.Proof.Rows
public import Idealize.ShloMosaic.Lib.Pipeline.ValueKit

@[expose] public section

set_option maxRecDepth 16384

noncomputable section

namespace Cert.OutFfnIdeal.Hand

open Cert.Rows (modRow modCol G)
open Cert.OutFfnIdeal Cert.OutFfnIdeal.Gen Idealize.ShloMosaic Idealize.ShloMosaic.TcCoe Idealize.SL.Sem

variable (m : (ℓ : Loc nD τ sig) → Buf (Elt Ideal) ℓ)

/-- Where each window's block lies, at every grid point. -/
theorem places : ∀ t : Fin grid0.N,
    win0_0.index t = ![(grid0.coords t 0).val, 3 * (grid0.coords t 1).val, 0]
    ∧ win0_1.index t = ![(grid0.coords t 0).val, 3 * (grid0.coords t 1).val + 1, 0]
    ∧ win0_2.index t = ![(grid0.coords t 0).val, 3 * (grid0.coords t 1).val + 2, 0]
    ∧ win0_3.index t = ![(grid0.coords t 0).val, 8, 0]
    ∧ win0_4.index t = ![(grid0.coords t 0).val, (grid0.coords t 1).val, 0]
    ∧ win0_5.index t = ![(grid0.coords t 0).val, (grid0.coords t 1).val, 0]
    ∧ win0_6.index t = ![1, 0, 2] ∧ win0_7.index t = ![1, 0, 3] ∧ win0_8.index t = ![1, 0, 4] ∧ win0_9.index t = ![1, 0, 5]
    ∧ win0_10.index t = ![1, 0, 0] ∧ win0_11.index t = ![1, 0, 0] ∧ win0_12.index t = ![1, 0, 0] ∧ win0_13.index t = ![1, 0, 0]
    ∧ win0_14.index t = ![1, 0, 0]
    ∧ win0_16.index t = ![(grid0.coords t 0).val, (grid0.coords t 1).val, 0] := by decide +kernel

/-- The body's test «this 256-row piece is the context's», at every grid point and piece. -/
theorem isCtx : ∀ t : Fin grid0.N,
    Scalar.cmpi .sge (Scalar.muli (Scalar.addi (Scalar.muli (BitVec.ofNat 32 (grid0.coords t 1).val) 3#32) 0#32) 256#32) 2048#32 = BitVec.ofBool false
    ∧ Scalar.cmpi .sge (Scalar.muli (Scalar.addi (Scalar.muli (BitVec.ofNat 32 (grid0.coords t 1).val) 3#32) 1#32) 256#32) 2048#32 = BitVec.ofBool false
    ∧ Scalar.cmpi .sge (Scalar.muli (Scalar.addi (Scalar.muli (BitVec.ofNat 32 (grid0.coords t 1).val) 3#32) 2#32) 256#32) 2048#32
        = BitVec.ofBool (decide ((grid0.coords t 1).val = 2)) := by decide +kernel

section
variable (i : grid0.Coords) (b : BitVec 1) (xa xc : Vec Ideal S1x256x1024 .f32) (ml : Vec Ideal S1x256x1024 .bf16) (mix : Vec Ideal S1x256x512 .bf16)
  (wo : Vec Ideal S1x512x1024 .bf16) (g1a g1c n sca scc sha shc : Vec Ideal S1x1x1024 .f32)
  (w1 w3 : Vec Ideal S1x1024x2816 .bf16) (g2a g2c : Vec Ideal S1x1x1024 .f32) (w2 : Vec Ideal S1x2816x1024 .bf16)

/-- The first piece's stored vector is the piece of Proof/Rows.lean. -/
theorem piece_first : k0_pay18 (k0_pay2 i xa xc ml mix wo g1a g1c) (k0_pay10 (k0_pay5
      (Scalar.cmpi .sge (Scalar.muli (Scalar.addi (Scalar.muli (BitVec.ofNat 32 (i 1).val) 3#32) 0#32) 256#32) 2048#32)
      (k0_pay2 i xa xc ml mix wo g1a g1c) (k0_pay3 i xa xc ml mix wo g1a g1c) k0_pay4 n sca scc sha shc) w1 w3)
      (k0_pay16 (Scalar.cmpi .sge (Scalar.muli (Scalar.addi (Scalar.muli (BitVec.ofNat 32 (i 1).val) 3#32) 0#32) 256#32) 2048#32) g2a g2c) (k0_pay17 w2)
    = Rows.tile (Scalar.cmpi .sge (Scalar.muli (Scalar.addi (Scalar.muli (BitVec.ofNat 32 (i 1).val) 3#32) 0#32) 256#32) 2048#32)
        xa xc ml mix wo g1a g1c n sca scc sha shc w1 w3 g2a g2c w2 := rfl

/-- The second piece's stored vector is the piece of Proof/Rows.lean. -/
theorem piece_second : k0_pay20 b (k0_pay7 b (k0_pay6 xa) xc ml mix wo g1a g1c) (k0_pay15 (k0_pay9 b
      (k0_pay8 b (k0_pay6 xa) xc ml mix wo g1a g1c n) sca scc sha shc) w1 w3) g2a g2c w2
    = Rows.tile b xa xc ml mix wo g1a g1c n sca scc sha shc w1 w3 g2a g2c w2 := rfl

/-- The third piece's stored vector is the piece of Proof/Rows.lean. -/
theorem piece_third : k0_pay1 b (k0_pay12 b (k0_pay11 xa) xc ml mix wo g1a g1c) (k0_pay19 (k0_pay14 b
      (k0_pay13 b (k0_pay11 xa) xc ml mix wo g1a g1c n) sca scc sha shc) w1 w3) g2a g2c w2
    = Rows.tile b xa xc ml mix wo g1a g1c n sca scc sha shc w1 w3 g2a g2c w2 := rfl
end

/-- The modulation row a body loads for its own batch element, at every grid point. -/
theorem modOff : ∀ t : Fin grid0.N, k0_off1 (grid0.coords t) = ![0, (grid0.coords t 0).val, 0] := by decide +kernel

/-- A select on a true bit takes its first operand. -/
theorem select_on (u v : EReal) : Scalar.select (BitVec.ofBool true) u v = u := rfl

/-- A select on a false bit takes its second operand. -/
theorem select_off (u v : EReal) : Scalar.select (BitVec.ofBool false) u v = v := rfl

/-! ## What the body reads, at an element -/

section
variable (c : Dev nD) (t : Fin cfg0.N) (b : Fin 16) (p : Fin 2304) (r : Fin 256) (hb : b.val = (grid0.coords t 0).val)
include hb

/-- The first 256 token rows of the point. -/
theorem rd_x0 (hp : p.val = 768 * (grid0.coords t 1).val + 0 + r.val) (k : Fin 1024) :
    iblk m c 0 t (ix3 0 r k) = m (c.tc.loc main_arg0) (ix3 b p k) := by
  obtain ⟨e, -⟩ := places t
  blk_ext [iblk, V, e]

/-- The second 256 token rows of the point. -/
theorem rd_x1 (hp : p.val = 768 * (grid0.coords t 1).val + 256 + r.val) (k : Fin 1024) :
    iblk m c 1 t (ix3 0 r k) = m (c.tc.loc main_arg0) (ix3 b p k) := by
  obtain ⟨-, e, -⟩ := places t
  blk_ext [iblk, V, e]

/-- The third 256 token rows of the point. -/
theorem rd_x2 (hp : p.val = 768 * (grid0.coords t 1).val + 512 + r.val) (k : Fin 1024) :
    iblk m c 2 t (ix3 0 r k) = m (c.tc.loc main_arg0) (ix3 b p k) := by
  obtain ⟨-, -, e, -⟩ := places t
  blk_ext [iblk, V, e]

/-- The context's 256 token rows. -/
theorem rd_ctx (hp : p.val = 2048 + r.val) (k : Fin 1024) :
    iblk m c 3 t (ix3 0 r k) = m (c.tc.loc main_arg0) (ix3 b p k) := by
  obtain ⟨-, -, -, e, -⟩ := places t
  blk_ext [iblk, V, e]

/-- A load of 256 rows of the mLSTM half. -/
theorem rd_ml (o : Nat) (inb) (hp : p.val = 768 * (grid0.coords t 1).val + o + r.val) (k : Fin 1024) :
    View.ld (iblk m c 4 t) (Rect.unit ![0, o, 0] ![1, 256, 1024] inb) (ix3 0 r k) = m (c.tc.loc main_arg1) (ix3 b p k) := by
  obtain ⟨-, -, -, -, e, -⟩ := places t
  have := inb 1
  refine (View.ld_unit_apply_of _ _ _ _ _ (ix3 0 ⟨o + r.val, by have : o + 256 ≤ 768 := inb 1; omega⟩ k) fun a => by fin_cases a <;> simp).trans ?_
  blk_ext [iblk, V, e]

/-- A load of 256 rows of the mixing half. -/
theorem rd_mix (o : Nat) (inb) (hp : p.val = 768 * (grid0.coords t 1).val + o + r.val) (k : Fin 512) :
    View.ld (iblk m c 5 t) (Rect.unit ![0, o, 0] ![1, 256, 512] inb) (ix3 0 r k) = m (c.tc.loc main_arg2) (ix3 b p k) := by
  obtain ⟨-, -, -, -, -, e, -⟩ := places t
  refine (View.ld_unit_apply_of _ _ _ _ _ (ix3 0 ⟨o + r.val, by have : o + 256 ≤ 768 := inb 1; omega⟩ k) fun a => by fin_cases a <;> simp).trans ?_
  blk_ext [iblk, V, e]

end

section
variable (c : Dev nD) (t : Fin cfg0.N) (o : Fin 3 → Nat) (inb : ∀ a, o a + S1x1x1024.size a ≤ S1x24x1024.size a) (q : Fin 24) (ho : o = ![0, q.val, 0])
include ho

/-- A load of one row of the first gate. -/
theorem rd_g1 (k : Fin 1024) : View.ld (iblk m c 6 t) (Rect.unit o ![1, 1, 1024] inb) (ix3 0 0 k)
    = m (c.tc.loc main_arg3) (ix3 1 q (modCol 2 (by decide) k)) := by
  obtain ⟨-, -, -, -, -, -, e, -⟩ := places t
  refine (View.ld_unit_apply_of _ _ _ _ _ (ix3 0 q k) fun a => by subst ho; fin_cases a <;> simp).trans ?_
  blk_ext [iblk, V, e, modCol]

/-- A load of one row of the shift. -/
theorem rd_sh (k : Fin 1024) : View.ld (iblk m c 7 t) (Rect.unit o ![1, 1, 1024] inb) (ix3 0 0 k)
    = m (c.tc.loc main_arg3) (ix3 1 q (modCol 3 (by decide) k)) := by
  obtain ⟨-, -, -, -, -, -, -, e, -⟩ := places t
  refine (View.ld_unit_apply_of _ _ _ _ _ (ix3 0 q k) fun a => by subst ho; fin_cases a <;> simp).trans ?_
  blk_ext [iblk, V, e, modCol]

/-- A load of one row of the scale. -/
theorem rd_sc (k : Fin 1024) : View.ld (iblk m c 8 t) (Rect.unit o ![1, 1, 1024] inb) (ix3 0 0 k)
    = m (c.tc.loc main_arg3) (ix3 1 q (modCol 4 (by decide) k)) := by
  obtain ⟨-, -, -, -, -, -, -, -, e, -⟩ := places t
  refine (View.ld_unit_apply_of _ _ _ _ _ (ix3 0 q k) fun a => by subst ho; fin_cases a <;> simp).trans ?_
  blk_ext [iblk, V, e, modCol]

/-- A load of one row of the second gate. -/
theorem rd_g2 (k : Fin 1024) : View.ld (iblk m c 9 t) (Rect.unit o ![1, 1, 1024] inb) (ix3 0 0 k)
    = m (c.tc.loc main_arg3) (ix3 1 q (modCol 5 (by decide) k)) := by
  obtain ⟨-, -, -, -, -, -, -, -, -, e, -⟩ := places t
  refine (View.ld_unit_apply_of _ _ _ _ _ (ix3 0 q k) fun a => by subst ho; fin_cases a <;> simp).trans ?_
  blk_ext [iblk, V, e, modCol]

end

/-- The layer's weights, at every point: their blocks are layer 1 of the whole stacks. -/
theorem rd_weights (c : Dev nD) (t : Fin cfg0.N) : (∀ k : Fin 1024, iblk m c 10 t (ix3 0 0 k) = m (c.tc.loc main_arg4) (ix3 1 0 k))
    ∧ (∀ (k : Fin 512) (j : Fin 1024), iblk m c 11 t (ix3 0 k j) = m (c.tc.loc main_arg5) (ix3 1 k j))
    ∧ (∀ (k : Fin 1024) (f : Fin 2816), iblk m c 12 t (ix3 0 k f) = m (c.tc.loc main_arg6) (ix3 1 k f))
    ∧ (∀ (k : Fin 1024) (f : Fin 2816), iblk m c 13 t (ix3 0 k f) = m (c.tc.loc main_arg7) (ix3 1 k f))
    ∧ (∀ (f : Fin 2816) (j : Fin 1024), iblk m c 14 t (ix3 0 f j) = m (c.tc.loc main_arg8) (ix3 1 f j)) := by
  obtain ⟨-, -, -, -, -, -, -, -, -, -, e10, e11, e12, e13, e14, -⟩ := places t
  refine ⟨fun k => ?_, fun k j => ?_, fun k f => ?_, fun k f => ?_, fun f j => ?_⟩
  · blk_ext [iblk, V, e10]
  · blk_ext [iblk, V, e11]
  · blk_ext [iblk, V, e12]
  · blk_ext [iblk, V, e13]
  · blk_ext [iblk, V, e14]

/-- A piece over what the body loads is the result at the piece's place. -/
theorem tile_eq (c : Dev nD) (t : Fin cfg0.N) (b : Fin 16) (p : Fin 2304) (r : Fin 256) (hb : b.val = (grid0.coords t 0).val) (o : Nat)
    (hp : p.val = 768 * (grid0.coords t 1).val + o + r.val) (hd : 2048 ≤ p.val → p.val = 2048 + r.val)
    (xc : Vec Ideal S1x256x1024 .f32) (hx : ∀ k, xc (ix3 0 r k) = m (c.tc.loc main_arg0) (ix3 b p k))
    (inbl inbm inbc inbt) (j : Fin 1024) :
    Rows.tile (BitVec.ofBool (decide (2048 ≤ p.val))) (iblk m c 3 t) xc (View.ld (iblk m c 4 t) (Rect.unit ![0, o, 0] ![1, 256, 1024] inbl))
      (View.ld (iblk m c 5 t) (Rect.unit ![0, o, 0] ![1, 256, 512] inbm)) (iblk m c 11 t)
      (View.ld (iblk m c 6 t) (Rect.unit ![0, 16, 0] ![1, 1, 1024] inbc)) (View.ld (iblk m c 6 t) (Rect.unit (k0_off1 (grid0.coords t)) ![1, 1, 1024] inbt))
      (iblk m c 10 t)
      (View.ld (iblk m c 8 t) (Rect.unit ![0, 16, 0] ![1, 1, 1024] inbc)) (View.ld (iblk m c 8 t) (Rect.unit (k0_off1 (grid0.coords t)) ![1, 1, 1024] inbt))
      (View.ld (iblk m c 7 t) (Rect.unit ![0, 16, 0] ![1, 1, 1024] inbc)) (View.ld (iblk m c 7 t) (Rect.unit (k0_off1 (grid0.coords t)) ![1, 1, 1024] inbt))
      (iblk m c 12 t) (iblk m c 13 t)
      (View.ld (iblk m c 9 t) (Rect.unit ![0, 16, 0] ![1, 1, 1024] inbc)) (View.ld (iblk m c 9 t) (Rect.unit (k0_off1 (grid0.coords t)) ![1, 1, 1024] inbt))
      (iblk m c 14 t) (ix3 0 r j)
    = G 1 (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) b p j := by
  obtain ⟨hn, hwo, hw1, hw3, hw2⟩ := rd_weights m c t
  rw [Rows.tile_apply]
  unfold G
  by_cases hc : 2048 ≤ p.val
  · have hr : modRow b p = 16 := if_pos hc
    simp only [decide_eq_true hc, select_on, hr]
    exact congrFun (Rows.row_congr (rd_ctx m c t b p r hb (hd hc)) (rd_ml m c t b p r hb o inbl hp) (rd_mix m c t b p r hb o inbm hp)
      (rd_g1 m c t _ inbc 16 rfl) (rd_sh m c t _ inbc 16 rfl) (rd_sc m c t _ inbc 16 rfl) (rd_g2 m c t _ inbc 16 rfl) hn hwo hw1 hw3 hw2) j
  · have hr : modRow b p = ⟨b.val, by omega⟩ := if_neg hc
    have ho : k0_off1 (grid0.coords t) = ![0, b.val, 0] := hb ▸ modOff t
    simp only [decide_eq_false hc, select_off, hr]
    exact congrFun (Rows.row_congr hx (rd_ml m c t b p r hb o inbl hp) (rd_mix m c t b p r hb o inbm hp)
      (rd_g1 m c t _ inbt _ ho) (rd_sh m c t _ inbt _ ho) (rd_sc m c t _ inbt _ ho) (rd_g2 m c t _ inbt _ ho) hn hwo hw1 hw3 hw2) j

/-- What a body leaves in the output's block, at an element, is the result at the element's place. -/
theorem out_apply (c : Dev nD) (t : Fin cfg0.N) (y : S1x768x1024.Idx) (b : Fin 16) (p : Fin 2304) (j : Fin 1024)
    (hb : b.val = (grid0.coords t 0).val) (hp : p.val = 768 * (grid0.coords t 1).val + (y 1).val) (hj : j.val = (y 2).val) :
    outsAt0 m c t y = G 1 (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) b p j := by
  obtain ⟨c0, c1, c2⟩ := isCtx t
  have ht : (grid0.coords t 1).val < 3 := (grid0.coords t 1).isLt
  unfold outsAt0
  frame_out
  canon_tiles y h
  all_goals
    idx_vars y
    obtain rfl : y0 = 0 := by omega
    obtain rfl : y2 = j := Fin.ext (by omega)
  · rw [piece_third, c2, show decide ((grid0.coords t 1).val = 2) = decide (2048 ≤ p.val) from decide_eq_decide.mpr (by omega)]
    exact tile_eq m c t b p y1 hb 512 (by omega) (by omega) _ (rd_x2 m c t b p y1 hb (by omega)) _ _ _ _ _
  · rw [piece_second, c1, ← decide_eq_false (p := 2048 ≤ p.val) (by omega)]
    exact tile_eq m c t b p y1 hb 256 (by omega) (by omega) _ (rd_x1 m c t b p y1 hb (by omega)) _ _ _ _ _
  · rw [piece_first, c0, ← decide_eq_false (p := 2048 ≤ p.val) (by omega)]
    exact tile_eq m c t b p y1 hb 0 (by omega) (by omega) _ (rd_x0 m c t b p y1 hb (by omega)) _ _ _ _ _

/-- The kernel's result array after the run. -/
theorem arr_eq (c : Dev nD) : (dats m 0 c).arrAt 16 cfg0.N = fun i => G 1 (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7)) (m (c.tc.loc main_arg8))
    (i 0) (i 1) (i 2) := by
  refine (dats m 0 c).arrAt_eq_of_covers 16 _ (by decide +kernel) fun t hf y => ?_
  obtain ⟨-, -, -, -, -, -, -, -, -, -, -, -, -, -, -, e16⟩ := places t
  blk_simp
  rw [after0_16]
  refine out_apply m c t _ _ _ _ ?_ ?_ ?_
  all_goals blk_simp [e16]
  omega

end Cert.OutFfnIdeal.Hand

end
-- ==== Proof.OutFfn.Reference.lean ====
/- What the reference of a middle layer's second half leaves in its result: at every batch element and token the row formula
   (Proof/Rows.lean), read stage by stage. -/
module

public import proofs.«01_k».proof.Proof.Gen.OutFfnRefIdeal.Read
public import proofs.«01_k».proof.Proof.Rows
public import Idealize.ShloMosaic.Lib.Pointwise

@[expose] public section

set_option maxRecDepth 16384

noncomputable section

namespace Cert.OutFfnRefIdeal.Hand

open Cert.Rows Cert.OutFfnRefIdeal Cert.OutFfnRefIdeal.Gen Cert.OutFfnRefIdeal.Read Idealize.ShloMosaic Idealize.ShloMosaic.TcCoe

variable (x0 : (⟨S16x2304x1024, .f32⟩ : BufTy).Contents (Elt Ideal)) (x1 : (⟨S16x2304x1024, .bf16⟩ : BufTy).Contents (Elt Ideal))
  (x2 : (⟨S16x2304x512, .bf16⟩ : BufTy).Contents (Elt Ideal)) (x3 : (⟨S4x24x6144, .f32⟩ : BufTy).Contents (Elt Ideal))
  (x4 : (⟨S4x1x1024, .f32⟩ : BufTy).Contents (Elt Ideal)) (x5 : (⟨S4x512x1024, .bf16⟩ : BufTy).Contents (Elt Ideal))
  (x6 x7 : (⟨S4x1024x2816, .bf16⟩ : BufTy).Contents (Elt Ideal)) (x8 : (⟨S4x2816x1024, .bf16⟩ : BufTy).Contents (Elt Ideal))

/-- The modulation vectors laid out per token: a token's row of the table. -/
theorem mods_apply (b : Fin 16) (p : Fin 2304) (k : Fin 6144) : val_main_v21 (F := Ideal) x3 (ix3 b p k) = x3 (ix3 1 (modRow b p) k) := by
  unfold modRow
  by_cases hc : 2048 ≤ p.val
  · rw [if_pos hc]
    pointwise [val_main_v21, val_main_v20, val_main_v19, val_main_v18, val_main_v17, val_main_v16, val_main_v15, val_main_v14]
    exact dif_neg (by omega)
  · rw [if_neg hc]
    pointwise [val_main_v21, val_main_v20, val_main_v19, val_main_v18, val_main_v17, val_main_v16, val_main_v15, val_main_v14]
    exact dif_pos (by omega)

/-- The residual row. -/
theorem resid_apply (b : Fin 16) (p : Fin 2304) (j : Fin 1024) : val_main_v33 (F := Ideal) x0 x1 x2 x3 x5 (ix3 b p j)
    = resid (fun k => x0 (ix3 b p k)) (fun k => x1 (ix3 b p k)) (fun k => x3 (ix3 1 (modRow b p) (modCol 2 (by decide) k)))
        (fun k => x2 (ix3 b p k)) (fun k j => x5 (ix3 1 k j)) j := by
  unfold resid
  simp only [← mods_apply]
  pointwise [val_main_v33, val_main_v32, val_main_v31, val_main_v30, val_main_v24, val_main_v10, val_main_v9, val_main_v8, val_main_v1, val_main_v0, modCol]

/-- The normalised and modulated row. -/
theorem modulated_apply (b : Fin 16) (p : Fin 2304) (j : Fin 1024) : val_main_v50 (F := Ideal) x0 x1 x2 x3 x4 x5 (ix3 b p j)
    = modulated (fun k => val_main_v33 (F := Ideal) x0 x1 x2 x3 x5 (ix3 b p k)) (fun k => x4 (ix3 1 0 k))
        (fun k => x3 (ix3 1 (modRow b p) (modCol 4 (by decide) k))) (fun k => x3 (ix3 1 (modRow b p) (modCol 3 (by decide) k))) j := by
  unfold val_main_v50 val_main_v49 val_main_v46 val_main_v43 val_main_v42 val_main_v41 val_main_v40 val_main_v38 val_main_v36 val_main_v35 val_main_v34
  generalize val_main_v33 (F := Ideal) x0 x1 x2 x3 x5 = y
  unfold modulated unitRow
  simp only [← mods_apply]
  pointwise [val_main_v25, val_main_v26, val_main_v28, val_main_v29, val_main_v37, val_main_v39, val_main_v44, val_main_v45, val_main_v47, val_main_v48, val_main_cst, val_main_cst_0, val_main_cst_1, val_main_cst_2, modCol]

/-- The gated hidden row. -/
theorem hidden_apply (b : Fin 16) (p : Fin 2304) (f : Fin 2816) : val_main_v54 (F := Ideal) x0 x1 x2 x3 x4 x5 x6 x7 (ix3 b p f)
    = Rows.hidden (fun k => val_main_v50 (F := Ideal) x0 x1 x2 x3 x4 x5 (ix3 b p k)) (fun k f => x6 (ix3 1 k f)) (fun k f => x7 (ix3 1 k f)) f := by
  unfold val_main_v54 val_main_v53 val_main_v52 val_main_call0_v5 val_main_call0_v3 val_main_call0_v1 val_main_call0_v0 val_main_v51
  generalize val_main_v50 (F := Ideal) x0 x1 x2 x3 x4 x5 = h
  unfold Rows.hidden Ideal.logistic
  pointwise [val_main_v12, val_main_v11, val_main_v5, val_main_v4, val_main_v3, val_main_v2, val_main_call0_v4, val_main_call0_v2, val_main_call0_cst, val_main_call0_cst_0]

/-- The reference's result at an element is the second half of layer 1 at that token. -/
theorem result_apply (b : Fin 16) (p : Fin 2304) (j : Fin 1024) : val_main_v57 (F := Ideal) x0 x1 x2 x3 x4 x5 x6 x7 x8 (ix3 b p j)
    = G 1 x0 x1 x2 x3 x4 x5 x6 x7 x8 b p j := by
  have hX := fun k => resid_apply x0 x1 x2 x3 x5 b p k
  have hH := fun k => modulated_apply x0 x1 x2 x3 x4 x5 b p k
  have hA := fun f => hidden_apply x0 x1 x2 x3 x4 x5 x6 x7 b p f
  simp only [hX] at hH
  simp only [hH] at hA
  unfold G row closed
  rw [← hX j]
  simp only [← hA]
  simp only [← mods_apply]
  unfold val_main_v57 val_main_v56 val_main_v55
  generalize val_main_v33 (F := Ideal) x0 x1 x2 x3 x5 = y
  generalize val_main_v54 (F := Ideal) x0 x1 x2 x3 x4 x5 x6 x7 = a
  pointwise [val_main_v27, val_main_v13, val_main_v7, val_main_v6, modCol]

end Cert.OutFfnRefIdeal.Hand

end
-- ==== Proof.OutFfnLast.Value.lean ====
/- What the kernel's run leaves in the result of the last layer's second half: at every batch element and latent the row formula
   of the arguments under the final normalisation (Proof/Rows.lean). -/
module

public import proofs.«01_k».proof.Proof.Gen.OutFfnLastIdeal.Value
public import proofs.«01_k».proof.Proof.Rows
public import Idealize.ShloMosaic.Lib.Pipeline.ValueKit

@[expose] public section

set_option maxRecDepth 16384

noncomputable section

namespace Cert.OutFfnLastIdeal.Hand

open Cert.Rows (modRow modCol G)
open Cert.OutFfnLastIdeal Cert.OutFfnLastIdeal.Gen Idealize.ShloMosaic Idealize.ShloMosaic.TcCoe Idealize.SL.Sem

variable (m : (ℓ : Loc nD τ sig) → Buf (Elt Ideal) ℓ)

/-- Where each window's block lies, at every grid point. -/
theorem places : ∀ t : Fin grid0.N,
    win0_0.index t = ![(grid0.coords t 0).val, 4 * (grid0.coords t 1).val, 0]
    ∧ win0_1.index t = ![(grid0.coords t 0).val, 4 * (grid0.coords t 1).val + 1, 0]
    ∧ win0_2.index t = ![(grid0.coords t 0).val, 4 * (grid0.coords t 1).val + 2, 0]
    ∧ win0_3.index t = ![(grid0.coords t 0).val, 4 * (grid0.coords t 1).val + 3, 0]
    ∧ win0_5.index t = ![(grid0.coords t 0).val, (grid0.coords t 1).val, 0]
    ∧ win0_6.index t = ![(grid0.coords t 0).val, (grid0.coords t 1).val, 0]
    ∧ win0_7.index t = ![3, 0, 2] ∧ win0_8.index t = ![3, 0, 3] ∧ win0_9.index t = ![3, 0, 4] ∧ win0_10.index t = ![3, 0, 5]
    ∧ win0_11.index t = ![3, 0, 0] ∧ win0_12.index t = ![3, 0, 0] ∧ win0_13.index t = ![3, 0, 0] ∧ win0_14.index t = ![3, 0, 0]
    ∧ win0_15.index t = ![3, 0, 0] ∧ win0_16.index t = ![0, 0]
    ∧ win0_17.index t = ![(grid0.coords t 0).val, (grid0.coords t 1).val, 0] := by decide +kernel

/-- The body's test «this 256-row piece is the context's» fails at every grid point and piece: the result has latents alone. -/
theorem notCtx : ∀ t : Fin grid0.N,
    Scalar.cmpi .sge (Scalar.muli (Scalar.addi (Scalar.muli (BitVec.ofNat 32 (grid0.coords t 1).val) 4#32) 0#32) 256#32) 2048#32 = BitVec.ofBool false
    ∧ Scalar.cmpi .sge (Scalar.muli (Scalar.addi (Scalar.muli (BitVec.ofNat 32 (grid0.coords t 1).val) 4#32) 1#32) 256#32) 2048#32 = BitVec.ofBool false
    ∧ Scalar.cmpi .sge (Scalar.muli (Scalar.addi (Scalar.muli (BitVec.ofNat 32 (grid0.coords t 1).val) 4#32) 2#32) 256#32) 2048#32 = BitVec.ofBool false
    ∧ Scalar.cmpi .sge (Scalar.muli (Scalar.addi (Scalar.muli (BitVec.ofNat 32 (grid0.coords t 1).val) 4#32) 3#32) 256#32) 2048#32 = BitVec.ofBool false := by decide +kernel

section
variable (i : grid0.Coords) (b : BitVec 1) (xa xc : Vec Ideal S1x256x1024 .f32) (ml : Vec Ideal S1x256x1024 .bf16) (mix : Vec Ideal S1x256x512 .bf16)
  (wo : Vec Ideal S1x512x1024 .bf16) (g1a g1c n sca scc sha shc : Vec Ideal S1x1x1024 .f32)
  (w1 w3 : Vec Ideal S1x1024x2816 .bf16) (g2a g2c : Vec Ideal S1x1x1024 .f32) (w2 : Vec Ideal S1x2816x1024 .bf16) (nf : Vec Ideal S1x1024 .f32)

/-- The piece a body stores, as its vector operations: the shared piece's rows, then the final normalisation. -/
def tile : FVec Ideal S1x256x1024 .f32 :=
  k0_pay29 (k0_pay26 b (Rows.x1 b xa xc ml mix wo g1a g1c) (k0_pay15 (Rows.hx b xa xc ml mix wo g1a g1c n sca scc sha shc) w1 w3) g2a g2c w2)
    (k0_pay27 b (Rows.x1 b xa xc ml mix wo g1a g1c) (k0_pay15 (Rows.hx b xa xc ml mix wo g1a g1c n sca scc sha shc) w1 w3) g2a g2c w2) k0_pay28 nf

/-- The stored piece at an element is the shared piece's row under the final normalisation. -/
theorem tile_apply (r : Fin 256) (j : Fin 1024) : tile b xa xc ml mix wo g1a g1c n sca scc sha shc w1 w3 g2a g2c w2 nf (ix3 0 r j)
    = Rows.lastRow (fun k => Rows.tile b xa xc ml mix wo g1a g1c n sca scc sha shc w1 w3 g2a g2c w2 (ix3 0 r k)) (fun k => nf (ix2 0 k)) j := by
  unfold tile Rows.lastRow Rows.unitRow Rows.tile
  generalize Rows.x1 b xa xc ml mix wo g1a g1c = y
  generalize Rows.hx b xa xc ml mix wo g1a g1c n sca scc sha shc = h
  pointwise [k0_pay29, k0_pay28, k0_pay27, k0_pay26, k0_pay15, Cert.OutFfnIdeal.Gen.k0_pay20, Cert.OutFfnIdeal.Gen.k0_pay15]

/-- The first piece's stored vector is `tile`. -/
theorem piece_first : k0_pay18 (k0_pay2 i xa xc ml mix wo g1a g1c) (k0_pay10 (k0_pay5
      (Scalar.cmpi .sge (Scalar.muli (Scalar.addi (Scalar.muli (BitVec.ofNat 32 (i 1).val) 4#32) 0#32) 256#32) 2048#32)
      (k0_pay2 i xa xc ml mix wo g1a g1c) (k0_pay3 i xa xc ml mix wo g1a g1c) k0_pay4 n sca scc sha shc) w1 w3)
      (k0_pay16 (Scalar.cmpi .sge (Scalar.muli (Scalar.addi (Scalar.muli (BitVec.ofNat 32 (i 1).val) 4#32) 0#32) 256#32) 2048#32) g2a g2c) (k0_pay17 w2) nf
    = tile (Scalar.cmpi .sge (Scalar.muli (Scalar.addi (Scalar.muli (BitVec.ofNat 32 (i 1).val) 4#32) 0#32) 256#32) 2048#32)
        xa xc ml mix wo g1a g1c n sca scc sha shc w1 w3 g2a g2c w2 nf := rfl

/-- The second piece's stored vector is `tile`. -/
theorem piece_second : k0_pay29 (k0_pay26 b (k0_pay7 b (k0_pay6 xa) xc ml mix wo g1a g1c) (k0_pay15 (k0_pay9 b
      (k0_pay8 b (k0_pay6 xa) xc ml mix wo g1a g1c n) sca scc sha shc) w1 w3) g2a g2c w2)
      (k0_pay27 b (k0_pay7 b (k0_pay6 xa) xc ml mix wo g1a g1c) (k0_pay15 (k0_pay9 b
      (k0_pay8 b (k0_pay6 xa) xc ml mix wo g1a g1c n) sca scc sha shc) w1 w3) g2a g2c w2) k0_pay28 nf
    = tile b xa xc ml mix wo g1a g1c n sca scc sha shc w1 w3 g2a g2c w2 nf := rfl

/-- The third piece's stored vector is `tile`. -/
theorem piece_third : k0_pay33 (k0_pay31 b (k0_pay12 b (k0_pay11 xa) xc ml mix wo g1a g1c) (k0_pay25 (k0_pay14 b
      (k0_pay13 b (k0_pay11 xa) xc ml mix wo g1a g1c n) sca scc sha shc) w1 w3) g2a g2c w2)
      (k0_pay32 b (k0_pay12 b (k0_pay11 xa) xc ml mix wo g1a g1c) (k0_pay25 (k0_pay14 b
      (k0_pay13 b (k0_pay11 xa) xc ml mix wo g1a g1c n) sca scc sha shc) w1 w3) g2a g2c w2) (Scalar.ofBits .f32 0x44800000#32) nf
    = tile b xa xc ml mix wo g1a g1c n sca scc sha shc w1 w3 g2a g2c w2 nf := rfl

/-- The fourth piece's stored vector is `tile`. -/
theorem piece_fourth : k0_pay1 (k0_pay34
      (Scalar.cmpi .sge (Scalar.muli (Scalar.addi (Scalar.muli (BitVec.ofNat 32 (i 1).val) 4#32) 3#32) 256#32) 2048#32)
      (k0_pay22 (Scalar.cmpi .sge (Scalar.muli (Scalar.addi (Scalar.muli (BitVec.ofNat 32 (i 1).val) 4#32) 3#32) 256#32) 2048#32)
        (k0_pay19 (BitVec.ofNat 32 (i 1).val) xa xc) (k0_pay20 ml) (k0_pay21 mix) wo g1a g1c)
      (k0_pay30 (k0_pay24 (Scalar.cmpi .sge (Scalar.muli (Scalar.addi (Scalar.muli (BitVec.ofNat 32 (i 1).val) 4#32) 3#32) 256#32) 2048#32)
        (k0_pay23 (Scalar.cmpi .sge (Scalar.muli (Scalar.addi (Scalar.muli (BitVec.ofNat 32 (i 1).val) 4#32) 3#32) 256#32) 2048#32)
          (k0_pay19 (BitVec.ofNat 32 (i 1).val) xa xc) (k0_pay20 ml) (k0_pay21 mix) wo g1a g1c n sca scc) sha shc) w1 w3) g2a g2c w2 nf)
    = tile (Scalar.cmpi .sge (Scalar.muli (Scalar.addi (Scalar.muli (BitVec.ofNat 32 (i 1).val) 4#32) 3#32) 256#32) 2048#32)
        xa xc ml mix wo g1a g1c n sca scc sha shc w1 w3 g2a g2c w2 nf := rfl
end

/-- The modulation row a body loads for its own batch element, at every grid point. -/
theorem modOff : ∀ t : Fin grid0.N, k0_off1 (grid0.coords t) = ![0, (grid0.coords t 0).val, 0] := by decide +kernel

/-- A select on a true bit takes its first operand. -/
theorem select_on (u v : EReal) : Scalar.select (BitVec.ofBool true) u v = u := rfl

/-- A select on a false bit takes its second operand. -/
theorem select_off (u v : EReal) : Scalar.select (BitVec.ofBool false) u v = v := rfl

/-! ## What the body reads, at an element -/

section
variable (c : Dev nD) (t : Fin cfg0.N) (b : Fin 16) (p : Fin 2304) (r : Fin 256) (hb : b.val = (grid0.coords t 0).val)
include hb

/-- The first 256 token rows of the point. -/
theorem rd_x0 (hp : p.val = 1024 * (grid0.coords t 1).val + 0 + r.val) (k : Fin 1024) :
    iblk m c 0 t (ix3 0 r k) = m (c.tc.loc main_arg0) (ix3 b p k) := by
  obtain ⟨e, -⟩ := places t
  blk_ext [iblk, V, e]

/-- The second 256 token rows of the point. -/
theorem rd_x1 (hp : p.val = 1024 * (grid0.coords t 1).val + 256 + r.val) (k : Fin 1024) :
    iblk m c 1 t (ix3 0 r k) = m (c.tc.loc main_arg0) (ix3 b p k) := by
  obtain ⟨-, e, -⟩ := places t
  blk_ext [iblk, V, e]

/-- The third 256 token rows of the point. -/
theorem rd_x2 (hp : p.val = 1024 * (grid0.coords t 1).val + 512 + r.val) (k : Fin 1024) :
    iblk m c 2 t (ix3 0 r k) = m (c.tc.loc main_arg0) (ix3 b p k) := by
  obtain ⟨-, -, e, -⟩ := places t
  blk_ext [iblk, V, e]

/-- The fourth 256 token rows of the point. -/
theorem rd_x3 (hp : p.val = 1024 * (grid0.coords t 1).val + 768 + r.val) (k : Fin 1024) :
    iblk m c 3 t (ix3 0 r k) = m (c.tc.loc main_arg0) (ix3 b p k) := by
  obtain ⟨-, -, -, e, -⟩ := places t
  blk_ext [iblk, V, e]

/-- A load of 256 rows of the mLSTM half. -/
theorem rd_ml (o : Nat) (inb) (hp : p.val = 1024 * (grid0.coords t 1).val + o + r.val) (k : Fin 1024) :
    View.ld (X0_5 m c t) (Rect.unit ![0, o, 0] ![1, 256, 1024] inb) (ix3 0 r k) = m (c.tc.loc main_arg1) (ix3 b p k) := by
  obtain ⟨-, -, -, -, e, -⟩ := places t
  refine (View.ld_unit_apply_of _ _ _ _ _ (ix3 0 ⟨o + r.val, by have : o + 256 ≤ 1024 := inb 1; omega⟩ k) fun a => by fin_cases a <;> simp).trans ?_
  unfold X0_5 Pipeline.Window.fill
  rw [dif_pos (moved0_5 t _)]
  blk_ext [iblk, V, e]

/-- A load of 256 rows of the mixing half. -/
theorem rd_mix (o : Nat) (inb) (hp : p.val = 1024 * (grid0.coords t 1).val + o + r.val) (k : Fin 512) :
    View.ld (X0_6 m c t) (Rect.unit ![0, o, 0] ![1, 256, 512] inb) (ix3 0 r k) = m (c.tc.loc main_arg2) (ix3 b p k) := by
  obtain ⟨-, -, -, -, -, e, -⟩ := places t
  refine (View.ld_unit_apply_of _ _ _ _ _ (ix3 0 ⟨o + r.val, by have : o + 256 ≤ 1024 := inb 1; omega⟩ k) fun a => by fin_cases a <;> simp).trans ?_
  unfold X0_6 Pipeline.Window.fill
  rw [dif_pos (moved0_6 t _)]
  blk_ext [iblk, V, e]

end

section
variable (c : Dev nD) (t : Fin cfg0.N) (o : Fin 3 → Nat) (inb : ∀ a, o a + S1x1x1024.size a ≤ S1x24x1024.size a) (q : Fin 24) (ho : o = ![0, q.val, 0])
include ho

/-- A load of one row of the first gate. -/
theorem rd_g1 (k : Fin 1024) : View.ld (iblk m c 7 t) (Rect.unit o ![1, 1, 1024] inb) (ix3 0 0 k)
    = m (c.tc.loc main_arg3) (ix3 3 q (modCol 2 (by decide) k)) := by
  obtain ⟨-, -, -, -, -, -, e, -⟩ := places t
  refine (View.ld_unit_apply_of _ _ _ _ _ (ix3 0 q k) fun a => by subst ho; fin_cases a <;> simp).trans ?_
  blk_ext [iblk, V, e, modCol]

/-- A load of one row of the shift. -/
theorem rd_sh (k : Fin 1024) : View.ld (iblk m c 8 t) (Rect.unit o ![1, 1, 1024] inb) (ix3 0 0 k)
    = m (c.tc.loc main_arg3) (ix3 3 q (modCol 3 (by decide) k)) := by
  obtain ⟨-, -, -, -, -, -, -, e, -⟩ := places t
  refine (View.ld_unit_apply_of _ _ _ _ _ (ix3 0 q k) fun a => by subst ho; fin_cases a <;> simp).trans ?_
  blk_ext [iblk, V, e, modCol]

/-- A load of one row of the scale. -/
theorem rd_sc (k : Fin 1024) : View.ld (iblk m c 9 t) (Rect.unit o ![1, 1, 1024] inb) (ix3 0 0 k)
    = m (c.tc.loc main_arg3) (ix3 3 q (modCol 4 (by decide) k)) := by
  obtain ⟨-, -, -, -, -, -, -, -, e, -⟩ := places t
  refine (View.ld_unit_apply_of _ _ _ _ _ (ix3 0 q k) fun a => by subst ho; fin_cases a <;> simp).trans ?_
  blk_ext [iblk, V, e, modCol]

/-- A load of one row of the second gate. -/
theorem rd_g2 (k : Fin 1024) : View.ld (iblk m c 10 t) (Rect.unit o ![1, 1, 1024] inb) (ix3 0 0 k)
    = m (c.tc.loc main_arg3) (ix3 3 q (modCol 5 (by decide) k)) := by
  obtain ⟨-, -, -, -, -, -, -, -, -, e, -⟩ := places t
  refine (View.ld_unit_apply_of _ _ _ _ _ (ix3 0 q k) fun a => by subst ho; fin_cases a <;> simp).trans ?_
  blk_ext [iblk, V, e, modCol]

end

/-- The layer's weights, at every point: their blocks are layer 3 of the whole stacks. -/
theorem rd_weights (c : Dev nD) (t : Fin cfg0.N) : (∀ k : Fin 1024, iblk m c 11 t (ix3 0 0 k) = m (c.tc.loc main_arg4) (ix3 3 0 k))
    ∧ (∀ (k : Fin 512) (j : Fin 1024), iblk m c 12 t (ix3 0 k j) = m (c.tc.loc main_arg5) (ix3 3 k j))
    ∧ (∀ (k : Fin 1024) (f : Fin 2816), iblk m c 13 t (ix3 0 k f) = m (c.tc.loc main_arg6) (ix3 3 k f))
    ∧ (∀ (k : Fin 1024) (f : Fin 2816), iblk m c 14 t (ix3 0 k f) = m (c.tc.loc main_arg7) (ix3 3 k f))
    ∧ (∀ (f : Fin 2816) (j : Fin 1024), iblk m c 15 t (ix3 0 f j) = m (c.tc.loc main_arg8) (ix3 3 f j)) := by
  obtain ⟨-, -, -, -, -, -, -, -, -, -, e11, e12, e13, e14, e15, -⟩ := places t
  refine ⟨fun k => ?_, fun k j => ?_, fun k f => ?_, fun k f => ?_, fun f j => ?_⟩
  · blk_ext [iblk, V, e11]
  · blk_ext [iblk, V, e12]
  · blk_ext [iblk, V, e13]
  · blk_ext [iblk, V, e14]
  · blk_ext [iblk, V, e15]

/-- The place of a latent among all tokens. -/
def lat (p : Fin 2048) : Fin 2304 := ⟨p.val, by omega⟩

/-- The final normalisation's weight. -/
theorem rd_nf (c : Dev nD) (t : Fin cfg0.N) (k : Fin 1024) : iblk m c 16 t (ix2 0 k) = m (c.tc.loc main_arg9) (ix2 0 k) := by
  obtain ⟨-, -, -, -, -, -, -, -, -, -, -, -, -, -, -, e, -⟩ := places t
  blk_ext [iblk, V, e]

/-- A piece over what the body loads is the result at the piece's place. -/
theorem tile_eq (c : Dev nD) (t : Fin cfg0.N) (b : Fin 16) (p : Fin 2048) (r : Fin 256) (hb : b.val = (grid0.coords t 0).val) (o : Nat)
    (hp : p.val = 1024 * (grid0.coords t 1).val + o + r.val)
    (xa xc : Vec Ideal S1x256x1024 .f32) (hx : ∀ k, xc (ix3 0 r k) = m (c.tc.loc main_arg0) (ix3 b (lat p) k))
    (inbl inbm inbc inbt) (j : Fin 1024) :
    tile (BitVec.ofBool false) xa xc (View.ld (X0_5 m c t) (Rect.unit ![0, o, 0] ![1, 256, 1024] inbl))
      (View.ld (X0_6 m c t) (Rect.unit ![0, o, 0] ![1, 256, 512] inbm)) (iblk m c 12 t)
      (View.ld (iblk m c 7 t) (Rect.unit ![0, 16, 0] ![1, 1, 1024] inbc)) (View.ld (iblk m c 7 t) (Rect.unit (k0_off1 (grid0.coords t)) ![1, 1, 1024] inbt))
      (iblk m c 11 t)
      (View.ld (iblk m c 9 t) (Rect.unit ![0, 16, 0] ![1, 1, 1024] inbc)) (View.ld (iblk m c 9 t) (Rect.unit (k0_off1 (grid0.coords t)) ![1, 1, 1024] inbt))
      (View.ld (iblk m c 8 t) (Rect.unit ![0, 16, 0] ![1, 1, 1024] inbc)) (View.ld (iblk m c 8 t) (Rect.unit (k0_off1 (grid0.coords t)) ![1, 1, 1024] inbt))
      (iblk m c 13 t) (iblk m c 14 t)
      (View.ld (iblk m c 10 t) (Rect.unit ![0, 16, 0] ![1, 1, 1024] inbc)) (View.ld (iblk m c 10 t) (Rect.unit (k0_off1 (grid0.coords t)) ![1, 1, 1024] inbt))
      (iblk m c 15 t) (iblk m c 16 t) (ix3 0 r j)
    = Rows.lastRow (G 3 (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) b (lat p)) (fun k => m (c.tc.loc main_arg9) (ix2 0 k)) j := by
  obtain ⟨hn, hwo, hw1, hw3, hw2⟩ := rd_weights m c t
  have hl : (lat p).val = 1024 * (grid0.coords t 1).val + o + r.val := hp
  rw [tile_apply, funext fun k => rd_nf m c t k]
  refine congrArg (fun y => Rows.lastRow y _ j) ?_
  refine (funext fun k => Rows.tile_apply ..).trans ?_
  unfold G
  have hr : modRow b (lat p) = ⟨b.val, by omega⟩ := if_neg (by show ¬ 2048 ≤ p.val; omega)
  have ho : k0_off1 (grid0.coords t) = ![0, b.val, 0] := hb ▸ modOff t
  simp only [select_off, hr]
  exact Rows.row_congr hx (rd_ml m c t b (lat p) r hb o inbl hl) (rd_mix m c t b (lat p) r hb o inbm hl)
    (rd_g1 m c t _ inbt _ ho) (rd_sh m c t _ inbt _ ho) (rd_sc m c t _ inbt _ ho) (rd_g2 m c t _ inbt _ ho) hn hwo hw1 hw3 hw2

/-- What a body leaves in the output's block, at an element, is the result at the element's place. -/
theorem out_apply (c : Dev nD) (t : Fin cfg0.N) (y : S1x1024x1024.Idx) (b : Fin 16) (p : Fin 2048) (j : Fin 1024)
    (hb : b.val = (grid0.coords t 0).val) (hp : p.val = 1024 * (grid0.coords t 1).val + (y 1).val) (hj : j.val = (y 2).val) :
    outsAt0 m c t y = Rows.lastRow (G 3 (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) b (lat p)) (fun k => m (c.tc.loc main_arg9) (ix2 0 k)) j := by
  obtain ⟨c0, c1, c2, c3⟩ := notCtx t
  unfold outsAt0
  frame_out
  canon_tiles y h
  all_goals
    idx_vars y
    obtain rfl : y0 = 0 := by omega
    obtain rfl : y2 = j := Fin.ext (by omega)
  · rw [piece_fourth, c3]
    exact tile_eq m c t b p y1 hb 768 (by omega) _ _ (rd_x3 m c t b (lat p) y1 hb (by show p.val = _; omega)) _ _ _ _ _
  · rw [piece_third, c2]
    exact tile_eq m c t b p y1 hb 512 (by omega) _ _ (rd_x2 m c t b (lat p) y1 hb (by show p.val = _; omega)) _ _ _ _ _
  · rw [piece_second, c1]
    exact tile_eq m c t b p y1 hb 256 (by omega) _ _ (rd_x1 m c t b (lat p) y1 hb (by show p.val = _; omega)) _ _ _ _ _
  · rw [piece_first, c0]
    exact tile_eq m c t b p y1 hb 0 (by omega) _ _ (rd_x0 m c t b (lat p) y1 hb (by show p.val = _; omega)) _ _ _ _ _

/-- The kernel's result array is the row formula under the final normalisation at every index. -/
theorem arr_eq (c : Dev nD) : (dats m 0 c).arrAt 17 cfg0.N = fun i => Rows.lastRow (G 3 (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) (i 0) (lat (i 1)))
    (fun k => m (c.tc.loc main_arg9) (ix2 0 k)) (i 2) := by
  refine (dats m 0 c).arrAt_eq_of_covers 17 _ (by decide +kernel) fun t hf y => ?_
  obtain ⟨-, -, -, -, -, -, -, -, -, -, -, -, -, -, -, -, e17⟩ := places t
  blk_simp
  rw [after0_17]
  refine out_apply m c t _ _ _ _ ?_ ?_ ?_
  all_goals blk_simp [e17]
  omega

end Cert.OutFfnLastIdeal.Hand

end
-- ==== Proof.OutFfnLast.Reference.lean ====
/- What the reference of the last layer's second half leaves in its result: at every batch element and latent the row formula
   (Proof/Rows.lean) under the final normalisation, read stage by stage. -/
module

public import proofs.«01_k».proof.Proof.Gen.OutFfnLastRefIdeal.Read
public import proofs.«01_k».proof.Proof.Rows
public import Idealize.ShloMosaic.Lib.Pointwise

@[expose] public section

set_option maxRecDepth 16384

noncomputable section

namespace Cert.OutFfnLastRefIdeal.Hand

open Cert.Rows Cert.OutFfnLastRefIdeal Cert.OutFfnLastRefIdeal.Gen Cert.OutFfnLastRefIdeal.Read Idealize.ShloMosaic Idealize.ShloMosaic.TcCoe

variable (x0 : (⟨S16x2304x1024, .f32⟩ : BufTy).Contents (Elt Ideal)) (x1 : (⟨S16x2304x1024, .bf16⟩ : BufTy).Contents (Elt Ideal))
  (x2 : (⟨S16x2304x512, .bf16⟩ : BufTy).Contents (Elt Ideal)) (x3 : (⟨S4x24x6144, .f32⟩ : BufTy).Contents (Elt Ideal))
  (x4 : (⟨S4x1x1024, .f32⟩ : BufTy).Contents (Elt Ideal)) (x5 : (⟨S4x512x1024, .bf16⟩ : BufTy).Contents (Elt Ideal))
  (x6 x7 : (⟨S4x1024x2816, .bf16⟩ : BufTy).Contents (Elt Ideal)) (x8 : (⟨S4x2816x1024, .bf16⟩ : BufTy).Contents (Elt Ideal))

/-- The place of a latent among all tokens. -/
def lat (p : Fin 2048) : Fin 2304 := ⟨p.val, by omega⟩

/-- The row of the modulation table that a batch element's latents take. -/
def latRow (b : Fin 16) : Fin 24 := ⟨b.val, by omega⟩

/-- It is the row the shared formula takes at a latent. -/
theorem modRow_lat (b : Fin 16) (p : Fin 2048) : modRow b (lat p) = latRow b := if_neg (by show ¬ 2048 ≤ p.val; omega)

/-- The residual row. -/
theorem resid_apply (b : Fin 16) (p : Fin 2048) (j : Fin 1024) : val_main_v37 (F := Ideal) x0 x1 x2 x3 x5 (ix3 b p j)
    = resid (fun k => x0 (ix3 b (lat p) k)) (fun k => x1 (ix3 b (lat p) k)) (fun k => x3 (ix3 3 (latRow b) (modCol 2 (by decide) k)))
        (fun k => x2 (ix3 b (lat p) k)) (fun k j => x5 (ix3 3 k j)) j := by
  unfold resid
  pointwise [val_main_v37, val_main_v36, val_main_v35, val_main_v34, val_main_v33, val_main_v30, val_main_v29, val_main_v28, val_main_v24, val_main_v18, val_main_v15, val_main_v14, val_main_v10, val_main_v9, val_main_v8, val_main_v1, val_main_v0, lat, latRow, modCol]

/-- The normalised and modulated row. -/
theorem modulated_apply (b : Fin 16) (p : Fin 2048) (j : Fin 1024) : val_main_v56 (F := Ideal) x0 x1 x2 x3 x4 x5 (ix3 b p j)
    = modulated (fun k => val_main_v37 (F := Ideal) x0 x1 x2 x3 x5 (ix3 b p k)) (fun k => x4 (ix3 3 0 k))
        (fun k => x3 (ix3 3 (latRow b) (modCol 4 (by decide) k))) (fun k => x3 (ix3 3 (latRow b) (modCol 3 (by decide) k))) j := by
  unfold val_main_v56 val_main_v54 val_main_v50 val_main_v47 val_main_v46 val_main_v45 val_main_v44 val_main_v42 val_main_v40 val_main_v39 val_main_v38
  generalize val_main_v37 (F := Ideal) x0 x1 x2 x3 x5 = y
  unfold modulated unitRow
  pointwise [val_main_v19, val_main_v20, val_main_v25, val_main_v26, val_main_v31, val_main_v32, val_main_v41, val_main_v43, val_main_v48, val_main_v49, val_main_v51, val_main_v52, val_main_v53, val_main_v55, val_main_v15, val_main_v14, val_main_cst, val_main_cst_0, val_main_cst_1, val_main_cst_2, latRow, modCol]

/-- The gated hidden row. -/
theorem hidden_apply (b : Fin 16) (p : Fin 2048) (f : Fin 2816) : val_main_v60 (F := Ideal) x0 x1 x2 x3 x4 x5 x6 x7 (ix3 b p f)
    = Rows.hidden (fun k => val_main_v56 (F := Ideal) x0 x1 x2 x3 x4 x5 (ix3 b p k)) (fun k f => x6 (ix3 3 k f)) (fun k f => x7 (ix3 3 k f)) f := by
  unfold val_main_v60 val_main_v59 val_main_v58 val_main_call0_v5 val_main_call0_v3 val_main_call0_v1 val_main_call0_v0 val_main_v57
  generalize val_main_v56 (F := Ideal) x0 x1 x2 x3 x4 x5 = h
  unfold Rows.hidden Ideal.logistic
  pointwise [val_main_v12, val_main_v11, val_main_v5, val_main_v4, val_main_v3, val_main_v2, val_main_call0_v4, val_main_call0_v2, val_main_call0_cst, val_main_call0_cst_0]

/-- The row before the final normalisation is the second half of layer 3 at that latent. -/
theorem half_apply (b : Fin 16) (p : Fin 2048) (j : Fin 1024) : val_main_v64 (F := Ideal) x0 x1 x2 x3 x4 x5 x6 x7 x8 (ix3 b p j)
    = G 3 x0 x1 x2 x3 x4 x5 x6 x7 x8 b (lat p) j := by
  have hX := fun k => resid_apply x0 x1 x2 x3 x5 b p k
  have hH := fun k => modulated_apply x0 x1 x2 x3 x4 x5 b p k
  have hA := fun f => hidden_apply x0 x1 x2 x3 x4 x5 x6 x7 b p f
  simp only [hX] at hH
  simp only [hH] at hA
  unfold G row closed
  simp only [modRow_lat]
  rw [← hX j]
  simp only [← hA]
  unfold val_main_v64 val_main_v63 val_main_v61
  generalize val_main_v37 (F := Ideal) x0 x1 x2 x3 x5 = y
  generalize val_main_v60 (F := Ideal) x0 x1 x2 x3 x4 x5 x6 x7 = a
  pointwise [val_main_v62, val_main_v27, val_main_v21, val_main_v15, val_main_v14, val_main_v13, val_main_v7, val_main_v6, latRow, modCol]

/-- The reference's result at an element is that row under the final normalisation. -/
theorem result_apply (x9 : (⟨S1x1024, .f32⟩ : BufTy).Contents (Elt Ideal)) (b : Fin 16) (p : Fin 2048) (j : Fin 1024) :
    val_main_v78 (F := Ideal) x0 x1 x2 x3 x4 x5 x6 x7 x8 x9 (ix3 b p j)
    = lastRow (G 3 x0 x1 x2 x3 x4 x5 x6 x7 x8 b (lat p)) (fun k => x9 (ix2 0 k)) j := by
  rw [← funext (half_apply x0 x1 x2 x3 x4 x5 x6 x7 x8 b p)]
  unfold val_main_v78 val_main_v75 val_main_v74 val_main_v73 val_main_v72 val_main_v70 val_main_v68 val_main_v67 val_main_v66
  generalize val_main_v64 (F := Ideal) x0 x1 x2 x3 x4 x5 x6 x7 x8 = y
  unfold lastRow unitRow
  pointwise [val_main_v77, val_main_v76, val_main_v71, val_main_v69, val_main_v65, val_main_cst_3, val_main_cst_4, val_main_cst_5]

end Cert.OutFfnLastRefIdeal.Hand

end
-- ==== Proof.InProj.Formula.lean ====
/- The input projection of a layer, one token at a time: the formulas the kernel and the reference are both read down to. -/
module

public import proofs.«01_k».proof.Proof.Gen.InProjIdeal.Skeleton
public import proofs.«01_k».proof.Proof.Rows

@[expose] public section

set_option maxRecDepth 16384

noncomputable section

namespace Cert.InProjIdeal.Hand

open Cert.Rows (Row modulated modRow modCol)
open Cert.InProjIdeal Idealize.ShloMosaic

/-- A layer's modulated row of each token of a batch element. -/
def hid (l : Fin 4) (x : S16x2304x1024.Idx → EReal) (mods : S4x24x6144.Idx → EReal) (n : S4x1x1024.Idx → EReal) (b : Fin 16) (p : Fin 2304) : Row :=
  modulated (fun k => x (ix3 b p k)) (fun k => n (ix3 l 0 k)) (fun k => mods (ix3 l (modRow b p) (modCol 1 (by decide) k)))
    (fun k => mods (ix3 l (modRow b p) (modCol 0 (by decide) k)))

/-- Token `r` of the 256 from `o` on. -/
def tok (o : Nat) (ho : o + 256 ≤ 2304) (r : Fin 256) : Fin 2304 := ⟨o + r.val, by omega⟩

/-- The row of the main weight a column of the mixing half takes. -/
def locRow (i : Fin 1280) : Fin 3344 := ⟨2064 + i.val, by omega⟩

/-- The product of a token's row with row `q` of a weight. -/
def proj {N : Nat} (h : Fin 2304 → Row) (w : Fin N → Row) (p : Fin 2304) (q : Fin N) : EReal := ∑ k, h p k * w q k

/-- The row of the main weight a column of the first result takes: the values', then the queries' and output gates'. -/
def src (j : Fin 2816) : Fin 3344 := if j.val < 512 then ⟨j.val + 512, by omega⟩ else ⟨j.val + 528, by omega⟩

/-- The scaled key `q` of token `s` of chunk `t`. -/
def keyAt (h : Fin 2304 → Row) (w : Fin 528 → Row) (t : Fin 18) (q : Fin 512) (s : Fin 128) : EReal :=
  proj h w ⟨t.val * 128 + s.val, by omega⟩ ⟨q.val, by omega⟩ * Ideal.ofBits .f32 0x3DB504F3#32

/-- A gate: of each chunk's eight rows of gates, those whose weight rows begin at `o`. -/
def gateAt (h : Fin 2304 → Row) (w : Fin 528 → Row) (o : Nat) (ho : o + 8 ≤ 528) (g : Fin 144) (s : Fin 128) : EReal :=
  proj h w ⟨g.val / 8 * 128 + s.val, by omega⟩ ⟨o + g.val % 8, by omega⟩

section
variable (P : Fin 2304 → Fin 3344 → EReal) (cw : Fin 3 → Fin 256 → EReal) (gn : Fin 256 → EReal)
  (gw : Fin 128 → Fin 512 → EReal) (gb : Fin 128 → Fin 256 → EReal)

/-- The gated input of the convolution. -/
def zin (p : Fin 2304) (j : Fin 256) : EReal := P p ⟨2320 + j.val, by omega⟩ * P p ⟨2576 + j.val, by omega⟩

/-- The token begins a row: one of the 64-wide grid's rows, or the context. -/
def begins (p : Fin 2304) : Prop := if p.val < 2048 then p.val % 64 = 0 else p.val = 2048

/-- The token ends a row: one of the 64-wide grid's rows, or the context. -/
def ends (p : Fin 2304) : Prop := if p.val < 2048 then p.val % 64 = 63 else p.val = 2303

instance (p : Fin 2304) : Decidable (begins p) := by unfold begins; infer_instance
instance (p : Fin 2304) : Decidable (ends p) := by unfold ends; infer_instance

/-- The convolution's input one token before, zero before a row's first. -/
def before (p : Fin 2304) (j : Fin 256) : EReal := if begins p then 0 else zin P ⟨p.val - 1, by omega⟩ j

/-- The convolution's input one token after, zero after a row's last. -/
def after (p : Fin 2304) (j : Fin 256) : EReal := if h : ends p then 0 else zin P ⟨p.val + 1, by unfold ends at h; split_ifs at h <;> omega⟩ j

/-- The gated convolution of three taps. -/
def convAt (p : Fin 2304) (j : Fin 256) : EReal :=
  P p ⟨2064 + j.val, by omega⟩ * (cw 0 j * before P p j + cw 1 j * zin P p j + cw 2 j * after P p j)

/-- The normalised row of 256 the token product takes. -/
def vAt (p : Fin 2304) (j : Fin 256) : EReal :=
  P p ⟨3088 + j.val, by omega⟩ * Ideal.rsqrt (Ideal.div (∑ i : Fin 256, P p ⟨3088 + i.val, by omega⟩ * P p ⟨3088 + i.val, by omega⟩)
    (Ideal.ofBits .f32 0x43800000#32) + Ideal.ofBits .f32 0x358637BD#32) * gn j

/-- The gated product over the tokens of a chunk, its weights shared by the 64 columns of a group. -/
def gmAt (p : Fin 2304) (j : Fin 256) : EReal :=
  P p ⟨2832 + j.val, by omega⟩ * (gb ⟨p.val % 128, by omega⟩ j
    + ∑ s : Fin 128, gw ⟨p.val % 128, by omega⟩ ⟨j.val / 64 * 128 + s.val, by omega⟩ * vAt P gn ⟨p.val / 128 * 128 + s.val, by omega⟩ j)

/-- The second result: the convolution's 256 columns, then the token product's. -/
def mixAt (p : Fin 2304) (j : Fin 512) : EReal :=
  if h : j.val < 256 then convAt P cw p ⟨j.val, h⟩ else gmAt P gn gw gb p ⟨j.val - 256, by omega⟩
end

/-! ## The five results the arguments determine -/

section
variable (l : Fin 4) (x : S16x2304x1024.Idx → EReal) (mods : S4x24x6144.Idx → EReal) (n : S4x1x1024.Idx → EReal) (w : S4x3344x1024.Idx → EReal)
  (wk : S4x528x1024.Idx → EReal) (cw : S4x8x256.Idx → EReal) (gn : S4x1x256.Idx → EReal) (gw : S4x128x512.Idx → EReal) (gb : S4x128x256.Idx → EReal)

/-- The product of a token's modulated row with a row of the layer's main weight. -/
def projAt (b : Fin 16) : Fin 2304 → Fin 3344 → EReal := proj (hid l x mods n b) fun q k => w (ix3 l q k)

/-- The first result: the values', queries' and output gates' products. -/
def pmlR : S16x2304x1536.Idx → EReal := fun i => projAt l x mods n w (i 0) (i 1) (src ⟨(i 2).val, lt_of_lt_of_le (i 2).isLt (by decide)⟩)

/-- The second result: the mixing half. -/
def mixR : S16x2304x512.Idx → EReal := fun i => mixAt (projAt l x mods n w (i 0)) (fun q j => cw (ix3 l ⟨q.val, by omega⟩ j)) (fun j => gn (ix3 l 0 j))
  (fun s q => gw (ix3 l s q)) (fun s j => gb (ix3 l s j)) (i 1) (i 2)

/-- The third result: the scaled keys, transposed within each chunk. -/
def ktR : S16x18x512x128.Idx → EReal := fun i => keyAt (hid l x mods n (i 0)) (fun q k => wk (ix3 l q k)) (i 1) (i 2) (i 3)

/-- The fourth result: the input gates. -/
def giR : S16x144x128.Idx → EReal := fun i => gateAt (hid l x mods n (i 0)) (fun q k => wk (ix3 l q k)) 512 (by decide) (i 1) (i 2)

/-- The fifth result: the forget gates. -/
def gfR : S16x144x128.Idx → EReal := fun i => gateAt (hid l x mods n (i 0)) (fun q k => wk (ix3 l q k)) 520 (by decide) (i 1) (i 2)
end

end Cert.InProjIdeal.Hand

end
-- ==== Proof.InProj.Pieces.lean ====
/- The 256-row pieces the input-projection kernel's body stores, read at an element as the row formulas of Proof/Rows.lean. -/
module

public import proofs.«01_k».proof.Proof.InProj.Formula

@[expose] public section

set_option maxRecDepth 16384

noncomputable section

namespace Cert.InProjIdeal.Hand

open Cert.Rows (Row modulated unitRow)
open Cert.InProjIdeal Cert.InProjIdeal.Gen Idealize.ShloMosaic

section
variable (b : BitVec 1) (xc xa : Vec Ideal S1x256x1024 .f32) (n scc sca shc sha : Vec Ideal S1x1x1024 .f32)

/-- The modulated rows of one piece. -/
def hb : FVec Ideal S256x1024 .bf16 := k0_pay31 b xc xa n scc sca shc sha

/-- The first piece's modulated rows. -/
theorem hb_first (i : grid0.Coords) : k0_pay17 (Scalar.cmpi .sge (Scalar.muli (Scalar.addi (Scalar.muli (BitVec.ofNat 32 (i 1).val) 3#32) 0#32) 256#32) 2048#32)
      (k0_pay14 i xc xa n) (k0_pay15 scc) (k0_pay16 sca) shc sha
    = hb (Scalar.cmpi .sge (Scalar.muli (Scalar.addi (Scalar.muli (BitVec.ofNat 32 (i 1).val) 3#32) 0#32) 256#32) 2048#32) xc xa n scc sca shc sha := rfl

/-- The second piece's modulated rows. -/
theorem hb_second (a : BitVec 32) : k0_pay19 (Scalar.cmpi .sge (Scalar.muli (Scalar.addi (Scalar.muli a 3#32) 1#32) 256#32) 2048#32)
      (k0_pay18 a xc xa n) scc sca shc sha
    = hb (Scalar.cmpi .sge (Scalar.muli (Scalar.addi (Scalar.muli a 3#32) 1#32) 256#32) 2048#32) xc xa n scc sca shc sha := rfl

/-- The modulated rows at an element. -/
theorem hb_apply (r : Fin 256) (j : Fin 1024) : hb b xc xa n scc sca shc sha (ix2 r j)
    = modulated (fun k => Scalar.select b (xc (ix3 0 r k)) (xa (ix3 0 r k))) (fun k => n (ix3 0 0 k))
        (fun k => Scalar.select b (scc (ix3 0 0 k)) (sca (ix3 0 0 k))) (fun k => Scalar.select b (shc (ix3 0 0 k)) (sha (ix3 0 0 k))) j := by
  unfold hb modulated unitRow
  pointwise [k0_pay31]
end

section
variable (h : FVec Ideal S256x1024 .bf16) (w : Vec Ideal S1024x2816 .bf16) (wk : Vec Ideal S1x528x1024 .bf16)

/-- The piece's product with the main weight's columns. -/
theorem main_apply (r : Fin 256) (j : Fin 2816) : k0_pay58 h w (ix2 r j) = ∑ k, h (ix2 r k) * w (ix2 k j) := by
  pointwise [k0_pay58]

/-- The piece of the first result: the product's first 1536 columns. -/
theorem pml_apply (r : Fin 256) (j : Fin 1536) : k0_pay59 h w (ix3 0 r j) = ∑ k, h (ix2 r k) * w (ix2 k ⟨j.val, by omega⟩) := by
  pointwise [k0_pay59, k0_pay58]

/-- The product's last 1280 columns. -/
theorem loc_apply (r : Fin 256) (i : Fin 1280) : k0_pay68 (k0_pay58 h w) (ix2 r i) = ∑ k, h (ix2 r k) * w (ix2 k ⟨1536 + i.val, by omega⟩) := by
  pointwise [k0_pay68, k0_pay58]

/-- The product of the key-and-gate weight with the piece's rows. -/
theorem kg_apply (q : Fin 528) (r : Fin 256) : k0_pay60 h wk (ix2 q r) = ∑ k, wk (ix3 0 q k) * h (ix2 r k) := by
  pointwise [k0_pay60]

variable (g : FVec Ideal S528x256 .f32)

/-- The scaled keys of the piece's first 128 rows. -/
theorem kt_left (q : Fin 512) (s : Fin 128) : k0_pay61 h wk (ix4 0 0 q s)
    = k0_pay60 h wk (ix2 ⟨q.val, by omega⟩ ⟨s.val, by omega⟩) * Ideal.ofBits .f32 0x3DB504F3#32 := by
  unfold k0_pay61
  generalize k0_pay60 h wk = g
  pointwise []

/-- The scaled keys of the piece's last 128 rows. -/
theorem kt_right (q : Fin 512) (s : Fin 128) : k0_pay65 g (ix4 0 0 q s)
    = g (ix2 ⟨q.val, by omega⟩ ⟨128 + s.val, by omega⟩) * Ideal.ofBits .f32 0x3DB504F3#32 := by
  pointwise [k0_pay65]

/-- The input gates of the piece's first 128 rows. -/
theorem gi_left (q : Fin 8) (s : Fin 128) : k0_pay63 (k0_pay62 h wk) (ix3 0 q s) = k0_pay60 h wk (ix2 ⟨512 + q.val, by omega⟩ ⟨s.val, by omega⟩) := by
  unfold k0_pay62
  generalize k0_pay60 h wk = g
  pointwise [k0_pay63]

/-- The input gates of the piece's last 128 rows. -/
theorem gi_right (q : Fin 8) (s : Fin 128) : k0_pay66 g (ix3 0 q s) = g (ix2 ⟨512 + q.val, by omega⟩ ⟨128 + s.val, by omega⟩) := by
  pointwise [k0_pay66]

/-- The forget gates of the piece's first 128 rows. -/
theorem gf_left (q : Fin 8) (s : Fin 128) : k0_pay64 g (ix3 0 q s) = g (ix2 ⟨520 + q.val, by omega⟩ ⟨s.val, by omega⟩) := by
  pointwise [k0_pay64]

/-- The forget gates of the piece's last 128 rows. -/
theorem gf_right (q : Fin 8) (s : Fin 128) : k0_pay67 g (ix3 0 q s) = g (ix2 ⟨520 + q.val, by omega⟩ ⟨128 + s.val, by omega⟩) := by
  pointwise [k0_pay67]
end

section
variable (h : FVec Ideal S256x1024 .bf16) (w : Vec Ideal S1024x2816 .bf16) (wk : Vec Ideal S1x528x1024 .bf16)

/-! The first and second pieces' stored vectors, as the third's. -/

theorem pml_first : k0_pay21 h w = k0_pay59 h w := rfl
theorem pml_second : k0_pay33 h w = k0_pay59 h w := rfl
theorem kt_left_first : k0_pay24 (k0_pay23 h wk) = k0_pay61 h wk := rfl
theorem kt_left_second : k0_pay35 h wk = k0_pay61 h wk := rfl
theorem kt_right_first : k0_pay27 (k0_pay22 h wk) = k0_pay65 (k0_pay60 h wk) := rfl
theorem kt_right_second : k0_pay38 h wk = k0_pay65 (k0_pay60 h wk) := rfl
theorem gi_left_first : k0_pay25 (k0_pay22 h wk) = k0_pay63 (k0_pay62 h wk) := rfl
theorem gi_left_second : k0_pay36 h wk = k0_pay63 (k0_pay62 h wk) := rfl
theorem gi_right_first : k0_pay28 (k0_pay22 h wk) = k0_pay66 (k0_pay60 h wk) := rfl
theorem gi_right_second : k0_pay39 (k0_pay34 h wk) = k0_pay66 (k0_pay60 h wk) := rfl
theorem gf_left_first : k0_pay26 (k0_pay22 h wk) = k0_pay64 (k0_pay60 h wk) := rfl
theorem gf_left_second : k0_pay37 h wk = k0_pay64 (k0_pay60 h wk) := rfl
theorem gf_right_first : k0_pay29 (k0_pay22 h wk) = k0_pay67 (k0_pay60 h wk) := rfl
theorem gf_right_second : k0_pay40 (k0_pay34 h wk) = k0_pay67 (k0_pay60 h wk) := rfl
end

/-- A piece of the transposed weight at an element. -/
theorem col_apply (v : Vec Ideal S1x256x1024 .bf16) (k : Fin 1024) (j : Fin 256) : k0_pay2 v (ix2 k j) = v (ix3 0 j k) := by
  pointwise [k0_pay2]

end Cert.InProjIdeal.Hand

end
-- ==== Proof.InProj.Mix.lean ====
/- The mixing half of the input projection's pieces — the gated convolution along the grid's rows and the gated product over
   the chunk's tokens — read at an element. -/
module

public import proofs.«01_k».proof.Proof.InProj.Formula

@[expose] public section

set_option maxRecDepth 16384

noncomputable section

namespace Cert.InProjIdeal.Hand

open Cert.InProjIdeal Cert.InProjIdeal.Gen Idealize.ShloMosaic

section
variable (b : BitVec 1) (l : FVec Ideal S256x1280 .f32) (c0 c1 c2 gn : Vec Ideal S1x1x256 .f32)
  (gb : Vec Ideal S1x128x256 .f32) (gw : Vec Ideal S1x128x512 .bf16)

/-- The convolution's piece. -/
def conv : FVec Ideal S256x256 .f32 :=
  k0_pay86 l (k0_pay83 b) (Scalar.select b 255#32 63#32) (k0_pay84 l) (k0_pay85 l) c0 c1 c2

/-- The normalised rows the token product takes. -/
def vrows : FVec Ideal S256x256 .bf16 := k0_pay89 (k0_pay88 l) gn

/-- The piece of the second result, as its vector operations. -/
def mixPiece : FVec Ideal S1x256x512 .bf16 :=
  k0_pay1 (conv b l c0 c1 c2) (k0_pay87 l) (k0_pay93 (k0_pay92 (k0_pay88 l) gn) gb gw) (k0_pay94 (vrows l gn) k0_pay90 k0_pay91 gb gw)

/-- The first piece's stored vector. -/
theorem mix_first (h : FVec Ideal S256x1024 .bf16) (w : Vec Ideal S1024x2816 .bf16) :
    k0_pay57 (k0_pay47 (k0_pay43 (k0_pay30 (k0_pay20 h w))) (k0_pay44 (k0_pay30 (k0_pay20 h w))) (k0_pay45 b (k0_pay30 (k0_pay20 h w)))
        (k0_pay46 b (k0_pay30 (k0_pay20 h w)) c0) c1 c2) (k0_pay48 (k0_pay30 (k0_pay20 h w)))
      (k0_pay55 (k0_pay49 (k0_pay30 (k0_pay20 h w)) gn) k0_pay50 k0_pay51 k0_pay52 gb gw)
      (k0_pay56 (k0_pay49 (k0_pay30 (k0_pay20 h w)) gn) k0_pay50 k0_pay51 k0_pay52) gb gw
    = mixPiece b (k0_pay68 (k0_pay58 h w)) c0 c1 c2 gn gb gw := rfl

/-- The second piece's stored vector. -/
theorem mix_second (h : FVec Ideal S256x1024 .bf16) (w : Vec Ideal S1024x2816 .bf16) :
    k0_pay82 (k0_pay73 (k0_pay69 b) (Scalar.select b 255#32 63#32) (k0_pay70 (k0_pay41 (k0_pay32 h w))) (k0_pay71 (k0_pay41 (k0_pay32 h w)))
        (k0_pay72 b) 1#32 c0 c1 c2) (k0_pay74 (k0_pay41 (k0_pay32 h w))) (k0_pay77 (k0_pay75 (k0_pay41 (k0_pay32 h w))) (k0_pay76 gn)) k0_pay78 k0_pay79
      (k0_pay80 (k0_pay75 (k0_pay41 (k0_pay32 h w))) (k0_pay76 gn)) (k0_pay81 gb) gw gb gw
    = mixPiece b (k0_pay68 (k0_pay58 h w)) c0 c1 c2 gn gb gw := rfl

/-- The third piece's stored vector. -/
theorem mix_third (h : FVec Ideal S256x1024 .bf16) (w : Vec Ideal S1024x2816 .bf16) :
    k0_pay1 (k0_pay86 (k0_pay68 (k0_pay58 h w)) (k0_pay83 b) (Scalar.select b 255#32 63#32) (k0_pay84 (k0_pay68 (k0_pay58 h w)))
        (k0_pay85 (k0_pay68 (k0_pay58 h w))) c0 c1 c2) (k0_pay87 (k0_pay68 (k0_pay58 h w)))
      (k0_pay93 (k0_pay92 (k0_pay88 (k0_pay68 (k0_pay58 h w))) gn) gb gw)
      (k0_pay94 (k0_pay89 (k0_pay88 (k0_pay68 (k0_pay58 h w))) gn) k0_pay90 k0_pay91 gb gw)
    = mixPiece b (k0_pay68 (k0_pay58 h w)) c0 c1 c2 gn gb gw := rfl

/-- The rows the first tap does not reach. -/
theorem first_bit : ∀ (d : Bool) (r : Fin 256), IntOp.cmpi CmpIPredicate.eq (Scalar.select (BitVec.ofBool d) (BitVec.ofNat 32 r.val)
    (IntOp.andi (BitVec.ofNat 32 r.val) 63#32)) 0#32 = BitVec.ofBool (if d then decide (r.val = 0) else decide (r.val % 64 = 0)) := by decide +kernel

/-- The rows the last tap does not reach. -/
theorem last_bit : ∀ (d : Bool) (r : Fin 256), IntOp.cmpi CmpIPredicate.eq (Scalar.select (BitVec.ofBool d) (BitVec.ofNat 32 r.val)
    (IntOp.andi (BitVec.ofNat 32 r.val) 63#32)) (Scalar.select (BitVec.ofBool d) 255#32 63#32)
      = BitVec.ofBool (if d then decide (r.val = 255) else decide (r.val % 64 = 63)) := by decide +kernel

/-- A select on a decided proposition is the conditional. -/
theorem select_ofBool (d : Bool) (u v : EReal) : Scalar.select (BitVec.ofBool d) u v = if d then u else v := by cases d <;> rfl

/-- The convolution's piece at an element, its selects as the body makes them. -/
theorem conv_raw (r j : Fin 256) : conv b l c0 c1 c2 (ix2 r j) = l (ix2 r ⟨j.val, by omega⟩)
    * (Scalar.select (IntOp.cmpi CmpIPredicate.eq (Scalar.select b (BitVec.ofNat 32 r.val) (IntOp.andi (BitVec.ofNat 32 r.val) 63#32)) 0#32) 0
          (c0 (ix3 0 0 j) * (l (ix2 ⟨(r.val + 256 - 1) % 256, by omega⟩ ⟨256 + j.val, by omega⟩) * l (ix2 ⟨(r.val + 256 - 1) % 256, by omega⟩ ⟨512 + j.val, by omega⟩)))
      + c1 (ix3 0 0 j) * (l (ix2 r ⟨256 + j.val, by omega⟩) * l (ix2 r ⟨512 + j.val, by omega⟩))
      + Scalar.select (IntOp.cmpi CmpIPredicate.eq (Scalar.select b (BitVec.ofNat 32 r.val) (IntOp.andi (BitVec.ofNat 32 r.val) 63#32)) (Scalar.select b 255#32 63#32)) 0
          (c2 (ix3 0 0 j) * (l (ix2 ⟨(r.val + 256 - 255) % 256, by omega⟩ ⟨256 + j.val, by omega⟩) * l (ix2 ⟨(r.val + 256 - 255) % 256, by omega⟩ ⟨512 + j.val, by omega⟩)))) := by
  unfold conv
  pointwise [k0_pay86, k0_pay83, k0_pay84, k0_pay85]

section
variable (P : Fin 2304 → Fin 3344 → EReal) (o : Nat) (ho : o + 256 ≤ 2304)
  (hl : ∀ (r : Fin 256) (i : Fin 1280), l (ix2 r i) = P (tok o ho r) (locRow i))
include hl

/-- The convolution's piece at an element. -/
theorem conv_apply (h256 : o % 256 = 0) (r j : Fin 256) : conv (BitVec.ofBool (decide (2048 ≤ o + r.val))) l c0 c1 c2 (ix2 r j)
    = convAt P (fun q j => ![c0 (ix3 0 0 j), c1 (ix3 0 0 j), c2 (ix3 0 0 j)] q) (tok o ho r) j := by
  rw [conv_raw, first_bit, last_bit, select_ofBool, select_ofBool]
  have a1 : 2064 + (256 + j.val) = 2320 + j.val := by omega
  have a2 : 2064 + (512 + j.val) = 2576 + j.val := by omega
  simp only [hl, tok, locRow, a1, a2]
  unfold convAt before after
  refine congrArg₂ _ rfl (congrArg₂ _ (congrArg₂ _ ?_ rfl) ?_)
  · have e : begins ⟨o + r.val, by omega⟩ ↔ (if decide (2048 ≤ o + r.val) then decide (r.val = 0) else decide (r.val % 64 = 0)) = true := by
      unfold begins; split_ifs <;> simp_all <;> omega
    by_cases hb : begins ⟨o + r.val, by omega⟩
    · rw [if_pos (e.mp hb), if_pos hb]; exact (mul_zero _).symm
    · rw [if_neg (fun h => hb (e.mpr h)), if_neg hb]
      have hr : r.val ≠ 0 := fun h => hb (e.mpr (by rw [h]; simp))
      have hq : (r.val + 256 - 1) % 256 = r.val - 1 := by omega
      have hp : o + (r.val - 1) = o + r.val - 1 := by omega
      simp only [hq, hp, zin]
      congr 4 <;> apply Fin.ext <;> simp <;> omega
  · have e : ends ⟨o + r.val, by omega⟩ ↔ (if decide (2048 ≤ o + r.val) then decide (r.val = 255) else decide (r.val % 64 = 63)) = true := by
      unfold ends; split_ifs <;> simp_all <;> omega
    by_cases hb : ends ⟨o + r.val, by omega⟩
    · rw [if_pos (e.mp hb), dif_pos hb]; exact (mul_zero _).symm
    · rw [if_neg (fun h => hb (e.mpr h)), dif_neg hb]
      have hr : r.val ≠ 255 := fun h => hb (e.mpr (by rw [h]; simp))
      have hq : (r.val + 256 - 255) % 256 = r.val + 1 := by omega
      have hp : o + (r.val + 1) = o + r.val + 1 := by omega
      simp only [hq, hp, zin]
      congr 4 <;> apply Fin.ext <;> simp <;> omega

/-- The normalised rows at an element. -/
theorem vrows_apply (r j : Fin 256) : vrows l gn (ix2 r j) = vAt P (fun j => gn (ix3 0 0 j)) (tok o ho r) j := by
  unfold vrows vAt tok
  pointwise [k0_pay89, k0_pay88]
  simp only [hl, tok, locRow]
  have e : ∀ i : Fin 256, (⟨2064 + (1024 + i.val), by omega⟩ : Fin 3344) = ⟨3088 + i.val, by omega⟩ := fun i => Fin.ext (by simp; omega)
  simp only [e]
end

/-- The group of a column. -/
theorem grp_apply (s : Fin 128) (j : Fin 256) : k0_pay90 (ix2 s j) = BitVec.ofNat 32 (j.val / 64) := by
  pointwise [k0_pay90]
  revert j
  decide +kernel

/-- A column's group is the one tested for or another. -/
theorem grp_bit : ∀ (j : Fin 256) (g : Fin 4), IntOp.cmpi CmpIPredicate.eq (BitVec.ofNat 32 (j.val / 64)) (BitVec.ofNat 32 g.val)
    = BitVec.ofBool (decide (g.val = j.val / 64)) := by decide +kernel

/-- A stacked row's element is the group's own where the column's group is the row's, and zero elsewhere. -/
theorem leaf (v : Fin 256 → EReal) (j : Fin 256) (a : Fin 4) (k : BitVec 32) (hk : k = BitVec.ofNat 32 a.val) (z z' : Fin 256) (hz : z = z') :
    Scalar.select (IntOp.cmpi CmpIPredicate.eq (BitVec.ofNat 32 (j.val / 64)) k) (v z) 0 = if a = ⟨j.val / 64, by omega⟩ then v z' else 0 := by
  subst hk hz
  rw [grp_bit, select_ofBool]
  exact if_congr (by simp [Fin.ext_iff]) rfl rfl

/-- A product over the four groups' stacked rows, all but one group's zero, is that group's product. -/
theorem sum_group (w : Fin 512 → EReal) (v : Fin 128 → EReal) (f : Fin 512 → EReal) (g : Fin 4)
    (hf : ∀ (a : Fin 4) (s : Fin 128), f ⟨a.val * 128 + s.val, by omega⟩ = if a = g then v s else 0) :
    ∑ x, w x * f x = ∑ s : Fin 128, w ⟨g.val * 128 + s.val, by omega⟩ * v s := by
  rw [← Equiv.sum_comp (finProdFinEquiv : Fin 4 × Fin 128 ≃ Fin 512), Fintype.sum_prod_type]
  have e : ∀ (a : Fin 4) (s : Fin 128), (finProdFinEquiv (a, s) : Fin 512) = ⟨a.val * 128 + s.val, by omega⟩ := fun a s => Fin.ext (by
    show s.val + 128 * a.val = a.val * 128 + s.val
    omega)
  rw [Finset.sum_eq_single g]
  · refine Finset.sum_congr rfl fun s _ => ?_
    rw [e, hf, if_pos rfl]
  · intro a _ ha
    refine Finset.sum_eq_zero fun s _ => ?_
    rw [e, hf, if_neg ha, mul_zero]
  · intro h; exact absurd (Finset.mem_univ g) h

/-- The token product of the piece's last 128 rows. -/
theorem upper_apply (s : Fin 128) (j : Fin 256) (v : FVec Ideal S256x256 .bf16) : k0_pay94 v k0_pay90 k0_pay91 gb gw (ix2 s j)
    = gb (ix3 0 s j) + ∑ q : Fin 128, gw (ix3 0 s ⟨j.val / 64 * 128 + q.val, by omega⟩) * v (ix2 ⟨128 + q.val, by omega⟩ j) := by
  have hg := fun s => grp_apply s j
  generalize k0_pay90 = g at *
  pointwise [k0_pay94, k0_pay91]
  simp only [hg]
  refine congrArg _ (sum_group (fun x => gw (ix3 0 s x)) (fun q => v (ix2 ⟨128 + q.val, by omega⟩ j)) _ ⟨j.val / 64, by omega⟩ fun a q => ?_)
  match a with
  | 0 => exact (dif_pos (by show 0 * 128 + q.val < 128; omega)).trans (leaf (fun z => v (ix2 z j)) j 0 _ rfl _ _ (Fin.ext (by simp)))
  | 1 => exact (dif_neg (by show ¬ 1 * 128 + q.val < 128; omega)).trans ((dif_pos (by show 1 * 128 + q.val - 128 < 128; omega)).trans
      (leaf (fun z => v (ix2 z j)) j 1 _ rfl _ _ (Fin.ext (by simp))))
  | 2 => exact (dif_neg (by show ¬ 2 * 128 + q.val < 128; omega)).trans ((dif_neg (by show ¬ 2 * 128 + q.val - 128 < 128; omega)).trans
      ((dif_pos (by show 2 * 128 + q.val - 128 - 128 < 128; omega)).trans (leaf (fun z => v (ix2 z j)) j 2 _ rfl _ _ (Fin.ext (by simp; omega)))))
  | 3 => exact (dif_neg (by show ¬ 3 * 128 + q.val < 128; omega)).trans ((dif_neg (by show ¬ 3 * 128 + q.val - 128 < 128; omega)).trans
      ((dif_neg (by show ¬ 3 * 128 + q.val - 128 - 128 < 128; omega)).trans (leaf (fun z => v (ix2 z j)) j 3 _ rfl _ _ (Fin.ext (by simp; omega)))))

/-- The token product of the piece's first 128 rows. -/
theorem lower_apply (s : Fin 128) (j : Fin 256) : k0_pay93 (k0_pay92 (k0_pay88 l) gn) gb gw (ix2 s j)
    = gb (ix3 0 s j) + ∑ q : Fin 128, gw (ix3 0 s ⟨j.val / 64 * 128 + q.val, by omega⟩) * vrows l gn (ix2 ⟨q.val, by omega⟩ j) := by
  have hg := fun s => grp_apply s j
  unfold k0_pay92 vrows
  generalize k0_pay90 = g at *
  generalize k0_pay89 (k0_pay88 l) gn = v
  pointwise [k0_pay93, k0_pay91]
  simp only [hg]
  refine congrArg _ (sum_group (fun x => gw (ix3 0 s x)) (fun q => v (ix2 ⟨q.val, by omega⟩ j)) _ ⟨j.val / 64, by omega⟩ fun a q => ?_)
  match a with
  | 0 => exact (dif_pos (by show 0 * 128 + q.val < 128; omega)).trans (leaf (fun z => v (ix2 z j)) j 0 _ rfl _ _ (Fin.ext (by simp)))
  | 1 => exact (dif_neg (by show ¬ 1 * 128 + q.val < 128; omega)).trans ((dif_pos (by show 1 * 128 + q.val - 128 < 128; omega)).trans
      (leaf (fun z => v (ix2 z j)) j 1 _ rfl _ _ (Fin.ext (by simp))))
  | 2 => exact (dif_neg (by show ¬ 2 * 128 + q.val < 128; omega)).trans ((dif_neg (by show ¬ 2 * 128 + q.val - 128 < 128; omega)).trans
      ((dif_pos (by show 2 * 128 + q.val - 128 - 128 < 128; omega)).trans (leaf (fun z => v (ix2 z j)) j 2 _ rfl _ _ (Fin.ext (by simp; omega)))))
  | 3 => exact (dif_neg (by show ¬ 3 * 128 + q.val < 128; omega)).trans ((dif_neg (by show ¬ 3 * 128 + q.val - 128 < 128; omega)).trans
      ((dif_neg (by show ¬ 3 * 128 + q.val - 128 - 128 < 128; omega)).trans (leaf (fun z => v (ix2 z j)) j 3 _ rfl _ _ (Fin.ext (by simp; omega)))))

/-- The piece of the second result as its parts. -/
theorem mix_parts (r : Fin 256) (j : Fin 512) : mixPiece b l c0 c1 c2 gn gb gw (ix3 0 r j)
    = if h : j.val < 256 then conv b l c0 c1 c2 (ix2 r ⟨j.val, h⟩)
      else l (ix2 r ⟨768 + (j.val - 256), by omega⟩) * (if h : r.val < 128 then k0_pay93 (k0_pay92 (k0_pay88 l) gn) gb gw (ix2 ⟨r.val, h⟩ ⟨j.val - 256, by omega⟩)
        else k0_pay94 (vrows l gn) k0_pay90 k0_pay91 gb gw (ix2 ⟨r.val - 128, by omega⟩ ⟨j.val - 256, by omega⟩)) := by
  unfold mixPiece
  generalize conv b l c0 c1 c2 = A
  generalize (k0_pay93 (k0_pay92 (k0_pay88 l) gn) gb gw) = B
  generalize (k0_pay94 (vrows l gn) k0_pay90 k0_pay91 gb gw) = C
  pointwise [k0_pay1, k0_pay87]

/-- The piece of the second result at an element. -/
theorem mix_apply (P : Fin 2304 → Fin 3344 → EReal) (o : Nat) (ho : o + 256 ≤ 2304) (h256 : o % 256 = 0)
    (hl : ∀ (r : Fin 256) (i : Fin 1280), l (ix2 r i) = P (tok o ho r) (locRow i)) (r : Fin 256) (j : Fin 512) :
    mixPiece (BitVec.ofBool (decide (2048 ≤ o + r.val))) l c0 c1 c2 gn gb gw (ix3 0 r j)
    = mixAt P (fun q j => ![c0 (ix3 0 0 j), c1 (ix3 0 0 j), c2 (ix3 0 0 j)] q) (fun j => gn (ix3 0 0 j)) (fun s q => gw (ix3 0 s q))
        (fun s j => gb (ix3 0 s j)) (tok o ho r) j := by
  rw [mix_parts]
  unfold mixAt
  split_ifs with h hr
  · exact conv_apply l c0 c1 c2 P o ho hl h256 r _
  · rw [lower_apply, hl]
    simp only [vrows_apply l gn P o ho hl]
    unfold gmAt
    have e1 : 2064 + (768 + (j.val - 256)) = 2832 + (j.val - 256) := by omega
    have e2 : (o + r.val) % 128 = r.val := by omega
    have e3 : (o + r.val) / 128 * 128 = o := by omega
    simp only [tok, locRow, e1, e2, e3]
  · rw [upper_apply, hl]
    simp only [vrows_apply l gn P o ho hl]
    unfold gmAt
    have e1 : 2064 + (768 + (j.val - 256)) = 2832 + (j.val - 256) := by omega
    have e2 : (o + r.val) % 128 = r.val - 128 := by omega
    have e3 : (o + r.val) / 128 * 128 = o + 128 := by omega
    simp only [tok, locRow, e1, e2, e3, Nat.add_assoc]
end

end Cert.InProjIdeal.Hand

end
-- ==== Proof.InProj.Value.lean ====
/- What the kernel's run leaves in the five results of the input projection: at every element the formulas of the arguments
   (Proof/InProj/Formula.lean). -/
module

public import proofs.«01_k».proof.Proof.Gen.InProjIdeal.Value
public import proofs.«01_k».proof.Proof.InProj.Pieces
public import proofs.«01_k».proof.Proof.InProj.Mix
public import Idealize.ShloMosaic.Lib.Pipeline.ValueKit
public import Idealize.ShloMosaic.Lib.Pipeline.ReadBack

@[expose] public section

set_option maxRecDepth 16384

noncomputable section

namespace Cert.InProjIdeal.Hand

open Cert.Rows (Row modRow modCol)
open Cert.InProjIdeal Cert.InProjIdeal.Gen Idealize.ShloMosaic Idealize.ShloMosaic.TcCoe Idealize.SL.Sem

variable (m : (ℓ : Loc nD τ sig) → Buf (Elt Ideal) ℓ)

/-- Where each window's block lies, at every grid point. -/
theorem places : ∀ t : Fin grid0.N,
    win0_0.index t = ![(grid0.coords t 0).val, 3 * (grid0.coords t 1).val, 0]
    ∧ win0_1.index t = ![(grid0.coords t 0).val, 3 * (grid0.coords t 1).val + 1, 0]
    ∧ win0_2.index t = ![(grid0.coords t 0).val, 3 * (grid0.coords t 1).val + 2, 0]
    ∧ win0_3.index t = ![(grid0.coords t 0).val, 8, 0]
    ∧ win0_4.index t = ![1, 0, 0] ∧ win0_5.index t = ![1, 0, 1]
    ∧ win0_6.index t = ![1, 0, 0] ∧ win0_7.index t = ![1, 0, 0] ∧ win0_8.index t = ![1, 0, 0] ∧ win0_9.index t = ![1, 0, 0]
    ∧ win0_10.index t = ![1, 0, 0] ∧ win0_11.index t = ![1, 0, 0] ∧ win0_12.index t = ![1, 0, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0, 0]
    ∧ win0_16.index t = ![(grid0.coords t 0).val, (grid0.coords t 1).val, 0]
    ∧ win0_17.index t = ![(grid0.coords t 0).val, (grid0.coords t 1).val, 0] := by decide +kernel

/-- The body's test «this 256-row piece is the context's», at every grid point and piece. -/
theorem isCtx : ∀ t : Fin grid0.N,
    Scalar.cmpi .sge (Scalar.muli (Scalar.addi (Scalar.muli (BitVec.ofNat 32 (grid0.coords t 1).val) 3#32) 0#32) 256#32) 2048#32
        = BitVec.ofBool (decide (2048 ≤ 768 * (grid0.coords t 1).val + 0))
    ∧ Scalar.cmpi .sge (Scalar.muli (Scalar.addi (Scalar.muli (BitVec.ofNat 32 (grid0.coords t 1).val) 3#32) 1#32) 256#32) 2048#32
        = BitVec.ofBool (decide (2048 ≤ 768 * (grid0.coords t 1).val + 256))
    ∧ Scalar.cmpi .sge (Scalar.muli (Scalar.addi (Scalar.muli (BitVec.ofNat 32 (grid0.coords t 1).val) 3#32) 2#32) 256#32) 2048#32
        = BitVec.ofBool (decide (2048 ≤ 768 * (grid0.coords t 1).val + 512)) := by decide +kernel

/-- The modulation row a body loads for its own batch element, at every grid point. -/
theorem modOff : ∀ t : Fin grid0.N, k0_off1 (grid0.coords t) = ![0, (grid0.coords t 0).val, 0] := by decide +kernel

/-! ## The weight's copy, kept from the first point on -/

/-- The re-laid weight: its element is the layer's main weight's, transposed and its columns moved. -/
def cols (c : Dev nD) : Vec Ideal S1024x2816 .bf16 := fun i => m (c.tc.loc main_arg3) (ix3 1 (src (i 1)) (i 0))

/-- A load of 256 rows of the main weight. -/
theorem rd_w (c : Dev nD) (t : Fin cfg0.N) (o : Nat) (inb) (k : Fin 1024) (j : Fin 256) :
    View.ld (iblk m c 7 t) (Rect.unit ![0, o, 0] ![1, 256, 1024] inb) (ix3 0 j k)
      = m (c.tc.loc main_arg3) (ix3 1 ⟨o + j.val, by have : o + 256 ≤ 3344 := inb 1; omega⟩ k) := by
  obtain ⟨-, -, -, -, -, -, -, e, -⟩ := places t
  refine (View.ld_unit_apply_of _ _ _ _ _ (ix3 0 ⟨o + j.val, by have : o + 256 ≤ 3344 := inb 1; omega⟩ k) fun a => by fin_cases a <;> simp).trans ?_
  blk_ext [iblk, V, e]

/-- A piece of the copy holds the rows its columns are. -/
theorem col_eq (c : Dev nD) (t : Fin cfg0.N) (o : Nat) (inb) (k : Fin 1024) (j : Fin 256) (j' : Fin 2816) (h : o + j.val = (src j').val) :
    k0_pay2 (View.ld (iblk m c 7 t) (Rect.unit ![0, o, 0] ![1, 256, 1024] inb)) (ix2 k j) = cols m c (ix2 k j') := by
  rw [col_apply, rd_w]
  exact congrArg (fun q => m (c.tc.loc main_arg3) (ix3 1 q k)) (Fin.ext h)

/-- What the first point's body reads of the weight's copy: the elements its eleven stores have left. -/
theorem readW (c : Dev nD) (t : Fin cfg0.N) : (View.whole cc0_scratch0).readCov [
    ⟨Rect.unit ![0, 2560] ![1024, 256] inb_S1024x2816_S1024x256_0_2560, k0_pay13 (View.ld (iblk m c 7 t) (Rect.unit ![0, 3088, 0] ![1, 256, 1024] inb_S1x3344x1024_S1x256x1024_0_3088_0))⟩,
    ⟨Rect.unit ![0, 2304] ![1024, 256] inb_S1024x2816_S1024x256_0_2304, k0_pay12 (View.ld (iblk m c 7 t) (Rect.unit ![0, 2832, 0] ![1, 256, 1024] inb_S1x3344x1024_S1x256x1024_0_2832_0))⟩,
    ⟨Rect.unit ![0, 2048] ![1024, 256] inb_S1024x2816_S1024x256_0_2048, k0_pay11 (k0_pay10 (View.ld (iblk m c 7 t) (Rect.unit ![0, 2576, 0] ![1, 256, 1024] inb_S1x3344x1024_S1x256x1024_0_2576_0)))⟩,
    ⟨Rect.unit ![0, 1792] ![1024, 256] inb_S1024x2816_S1024x256_0_1792, k0_pay9 (View.ld (iblk m c 7 t) (Rect.unit ![0, 2320, 0] ![1, 256, 1024] inb_S1x3344x1024_S1x256x1024_0_2320_0))⟩,
    ⟨Rect.unit ![0, 1536] ![1024, 256] inb_S1024x2816_S1024x256_0_1536, k0_pay8 (View.ld (iblk m c 7 t) (Rect.unit ![0, 2064, 0] ![1, 256, 1024] inb_S1x3344x1024_S1x256x1024_0_2064_0))⟩,
    ⟨Rect.unit ![0, 1280] ![1024, 256] inb_S1024x2816_S1024x256_0_1280, k0_pay7 (View.ld (iblk m c 7 t) (Rect.unit ![0, 1808, 0] ![1, 256, 1024] inb_S1x3344x1024_S1x256x1024_0_1808_0))⟩,
    ⟨Rect.unit ![0, 1024] ![1024, 256] inb_S1024x2816_S1024x256_0_1024, k0_pay6 (View.ld (iblk m c 7 t) (Rect.unit ![0, 1552, 0] ![1, 256, 1024] inb_S1x3344x1024_S1x256x1024_0_1552_0))⟩,
    ⟨Rect.unit ![0, 768] ![1024, 256] inb_S1024x2816_S1024x256_0_768, k0_pay5 (View.ld (iblk m c 7 t) (Rect.unit ![0, 1296, 0] ![1, 256, 1024] inb_S1x3344x1024_S1x256x1024_0_1296_0))⟩,
    ⟨Rect.unit ![0, 512] ![1024, 256] inb_S1024x2816_S1024x256_0_512, k0_pay4 (View.ld (iblk m c 7 t) (Rect.unit ![0, 1040, 0] ![1, 256, 1024] inb_S1x3344x1024_S1x256x1024_0_1040_0))⟩,
    ⟨Rect.unit ![0, 256] ![1024, 256] inb_S1024x2816_S1024x256_0_256, k0_pay3 (View.ld (iblk m c 7 t) (Rect.unit ![0, 768, 0] ![1, 256, 1024] inb_S1x3344x1024_S1x256x1024_0_768_0))⟩,
    ⟨Rect.unit ![0, 0] ![1024, 256] inb_S1024x2816_S1024x256_0_0, k0_pay2 (View.ld (iblk m c 7 t) (Rect.unit ![0, 512, 0] ![1, 256, 1024] inb_S1x3344x1024_S1x256x1024_0_512_0))⟩] (Rect.unit ![0, 0] ![1024, 2816] (by decide)).toLoadRect = cols m c := by
  rw [View.readCov_eq_canon']
  funext y
  rw [show (Rect.unit (s := S1024x2816) ![0, 0] ![1024, 2816] (by decide)).toLoadRect.idx y = y from by
    funext a; fin_cases a <;> apply Fin.ext <;> simp [Rect.toLoadRect]]
  rw [show cols m c y = cols m c (ix2 ⟨(y 0).val, (y 0).isLt⟩ ⟨(y 1).val, (y 1).isLt⟩) from congrArg _ (by funext a; fin_cases a <;> rfl)]
  generalize hk : (⟨(y 0).val, (y 0).isLt⟩ : Fin 1024) = k
  generalize hj : (⟨(y 1).val, (y 1).isLt⟩ : Fin 2816) = j
  replace hk : k.val = (y 0).val := hk ▸ rfl
  replace hj : j.val = (y 1).val := hj ▸ rfl
  canon_tiles y h
  all_goals
    idx_vars y
    obtain rfl : y0 = k := Fin.ext (by omega)
    refine col_eq m c t _ _ y0 y1 j ?_
    unfold src
    split_ifs <;> simp <;> omega

/-- After a first point the weight's copy holds the layer's main weight, transposed. -/
theorem copied_first (c : Dev nD) (t : Fin cfg0.N) (h0 : t.val % 48 = 0) (y : S1024x2816.Idx) (k : Fin 1024) (j : Fin 2816) (hk : k.val = (y 0).val) (hj : j.val = (y 1).val) :
    (outsAt0 m c t.val t.isLt).2.2.2.2.2 y = cols m c (ix2 k j) := by
  rw [outsAt0_A m c t h0]
  dsimp only
  frame_out
  canon_tiles y h
  all_goals
    idx_vars y
    obtain rfl : y0 = k := Fin.ext (by omega)
    refine col_eq m c t _ _ y0 y1 j ?_
    unfold src
    split_ifs <;> simp <;> omega

/-- After every point the weight's copy holds the layer's main weight, transposed. -/
theorem copied (c : Dev nD) : ∀ (n : Nat) (hn : n < cfg0.N), (outsAt0 m c n hn).2.2.2.2.2 = cols m c := by
  intro n
  induction n using Nat.strong_induction_on with
  | _ n ih =>
    intro hn
    by_cases h0 : n % 48 = 0
    · funext y
      rw [show cols m c y = cols m c (ix2 ⟨(y 0).val, (y 0).isLt⟩ ⟨(y 1).val, (y 1).isLt⟩) from congrArg _ (by funext a; fin_cases a <;> rfl)]
      exact copied_first m c ⟨n, hn⟩ h0 y _ _ rfl rfl
    · have := outsAt0_B m c ⟨n, hn⟩ h0
      dsimp only at this
      rw [this]
      dsimp only
      exact ih (n - 1) (by omega) _

/-! ## What the body reads, at an element -/

section
variable (c : Dev nD) (t : Fin cfg0.N) (b : Fin 16) (p : Fin 2304) (r : Fin 256) (hb : b.val = (grid0.coords t 0).val)
include hb

/-- The first 256 token rows of the point. -/
theorem rd_x0 (hp : p.val = 768 * (grid0.coords t 1).val + 0 + r.val) (k : Fin 1024) :
    iblk m c 0 t (ix3 0 r k) = m (c.tc.loc main_arg0) (ix3 b p k) := by
  obtain ⟨e, -⟩ := places t
  blk_ext [iblk, V, e]

/-- The second 256 token rows of the point. -/
theorem rd_x1 (hp : p.val = 768 * (grid0.coords t 1).val + 256 + r.val) (k : Fin 1024) :
    iblk m c 1 t (ix3 0 r k) = m (c.tc.loc main_arg0) (ix3 b p k) := by
  obtain ⟨-, e, -⟩ := places t
  blk_ext [iblk, V, e]

/-- The third 256 token rows of the point. -/
theorem rd_x2 (hp : p.val = 768 * (grid0.coords t 1).val + 512 + r.val) (k : Fin 1024) :
    iblk m c 2 t (ix3 0 r k) = m (c.tc.loc main_arg0) (ix3 b p k) := by
  obtain ⟨-, -, e, -⟩ := places t
  blk_ext [iblk, V, e]

/-- The context's 256 token rows. -/
theorem rd_ctx (hp : p.val = 2048 + r.val) (k : Fin 1024) :
    iblk m c 3 t (ix3 0 r k) = m (c.tc.loc main_arg0) (ix3 b p k) := by
  obtain ⟨-, -, -, e, -⟩ := places t
  blk_ext [iblk, V, e]
end

section
variable (c : Dev nD) (t : Fin cfg0.N) (o : Fin 3 → Nat) (inb : ∀ a, o a + S1x1x1024.size a ≤ S1x24x1024.size a) (q : Fin 24) (ho : o = ![0, q.val, 0])
include ho

/-- A load of one row of the shift. -/
theorem rd_sh (k : Fin 1024) : View.ld (iblk m c 4 t) (Rect.unit o ![1, 1, 1024] inb) (ix3 0 0 k)
    = m (c.tc.loc main_arg1) (ix3 1 q (modCol 0 (by decide) k)) := by
  obtain ⟨-, -, -, -, e, -⟩ := places t
  refine (View.ld_unit_apply_of _ _ _ _ _ (ix3 0 q k) fun a => by subst ho; fin_cases a <;> simp).trans ?_
  blk_ext [iblk, V, e, modCol]

/-- A load of one row of the scale. -/
theorem rd_sc (k : Fin 1024) : View.ld (iblk m c 5 t) (Rect.unit o ![1, 1, 1024] inb) (ix3 0 0 k)
    = m (c.tc.loc main_arg1) (ix3 1 q (modCol 1 (by decide) k)) := by
  obtain ⟨-, -, -, -, -, e, -⟩ := places t
  refine (View.ld_unit_apply_of _ _ _ _ _ (ix3 0 q k) fun a => by subst ho; fin_cases a <;> simp).trans ?_
  blk_ext [iblk, V, e, modCol]
end

/-- A load of one tap of the convolution. -/
theorem rd_tap (c : Dev nD) (t : Fin cfg0.N) (q : Fin 8) (inb) (j : Fin 256) :
    View.ld (iblk m c 9 t) (Rect.unit ![0, q.val, 0] ![1, 1, 256] inb) (ix3 0 0 j) = m (c.tc.loc main_arg5) (ix3 1 q j) := by
  obtain ⟨-, -, -, -, -, -, -, -, -, e, -⟩ := places t
  refine (View.ld_unit_apply_of _ _ _ _ _ (ix3 0 q j) fun a => by fin_cases a <;> simp).trans ?_
  blk_ext [iblk, V, e]

/-- The layer's other weights, at every point: their blocks are layer 1 of the whole stacks. -/
theorem rd_weights (c : Dev nD) (t : Fin cfg0.N) : (∀ k : Fin 1024, iblk m c 6 t (ix3 0 0 k) = m (c.tc.loc main_arg2) (ix3 1 0 k))
    ∧ (∀ (q : Fin 528) (k : Fin 1024), iblk m c 8 t (ix3 0 q k) = m (c.tc.loc main_arg4) (ix3 1 q k))
    ∧ (∀ j : Fin 256, iblk m c 10 t (ix3 0 0 j) = m (c.tc.loc main_arg6) (ix3 1 0 j))
    ∧ (∀ (s : Fin 128) (q : Fin 512), iblk m c 11 t (ix3 0 s q) = m (c.tc.loc main_arg7) (ix3 1 s q))
    ∧ (∀ (s : Fin 128) (j : Fin 256), iblk m c 12 t (ix3 0 s j) = m (c.tc.loc main_arg8) (ix3 1 s j)) := by
  obtain ⟨-, -, -, -, -, -, e6, -, e8, -, e10, e11, e12, -⟩ := places t
  refine ⟨fun k => ?_, fun q k => ?_, fun j => ?_, fun s q => ?_, fun s j => ?_⟩
  · blk_ext [iblk, V, e6]
  · blk_ext [iblk, V, e8]
  · blk_ext [iblk, V, e10]
  · blk_ext [iblk, V, e11]
  · blk_ext [iblk, V, e12]

/-- Layer 1's modulated rows of a batch element, of the run's own arguments. -/
def H (c : Dev nD) (b : Fin 16) : Fin 2304 → Row := hid 1 (m (c.tc.loc main_arg0)) (m (c.tc.loc main_arg1)) (m (c.tc.loc main_arg2)) b

/-- The modulated rows of the piece at `o`, over what the body loads. -/
theorem hb_eq (c : Dev nD) (t : Fin cfg0.N) (b : Fin 16) (hb' : b.val = (grid0.coords t 0).val) (o : Nat) (ho : o + 256 ≤ 2304) (h256 : o % 256 = 0)
    (xa : Vec Ideal S1x256x1024 .f32) (hx : ∀ (r : Fin 256) (k : Fin 1024), xa (ix3 0 r k) = m (c.tc.loc main_arg0) (ix3 b ⟨o + r.val, by omega⟩ k))
    (inbc inbt) (r : Fin 256) (k : Fin 1024) :
    hb (BitVec.ofBool (decide (2048 ≤ o))) (iblk m c 3 t) xa (iblk m c 6 t)
      (View.ld (iblk m c 5 t) (Rect.unit ![0, 16, 0] ![1, 1, 1024] inbc)) (View.ld (iblk m c 5 t) (Rect.unit (k0_off1 (grid0.coords t)) ![1, 1, 1024] inbt))
      (View.ld (iblk m c 4 t) (Rect.unit ![0, 16, 0] ![1, 1, 1024] inbc)) (View.ld (iblk m c 4 t) (Rect.unit (k0_off1 (grid0.coords t)) ![1, 1, 1024] inbt))
      (ix2 r k) = H m c b ⟨o + r.val, by omega⟩ k := by
  obtain ⟨hn, -⟩ := rd_weights m c t
  rw [hb_apply]
  unfold H hid
  by_cases hc : 2048 ≤ o
  · have hr : modRow b ⟨o + r.val, by omega⟩ = 16 := if_pos (by show 2048 ≤ o + r.val; omega)
    have hctx := rd_ctx m c t b ⟨o + r.val, by omega⟩ r hb' (by show o + r.val = 2048 + r.val; omega)
    simp only [decide_eq_true hc, select_ofBool, if_true, hr, hn, hctx, rd_sc m c t _ inbc 16 rfl, rd_sh m c t _ inbc 16 rfl]
  · have hr : modRow b ⟨o + r.val, by omega⟩ = ⟨b.val, by omega⟩ := if_neg (by show ¬ 2048 ≤ o + r.val; omega)
    have hof : k0_off1 (grid0.coords t) = ![0, b.val, 0] := hb' ▸ modOff t
    simp only [decide_eq_false hc, select_ofBool, Bool.false_eq_true, if_false, hr, hn, hx, rd_sc m c t _ inbt ⟨b.val, by omega⟩ hof,
      rd_sh m c t _ inbt ⟨b.val, by omega⟩ hof]

/-! ## A piece over the modulated rows -/

section
variable (c : Dev nD) (t : Fin cfg0.N) (b : Fin 16) (o : Nat) (ho : o + 256 ≤ 2304) (h : FVec Ideal S256x1024 .bf16)
  (hh : ∀ (r : Fin 256) (k : Fin 1024), h (ix2 r k) = H m c b ⟨o + r.val, by omega⟩ k)
include hh

/-- The first result's piece. -/
theorem pml_eq (r : Fin 256) (j : Fin 1536) : k0_pay59 h (cols m c) (ix3 0 r j)
    = pmlR 1 (m (c.tc.loc main_arg0)) (m (c.tc.loc main_arg1)) (m (c.tc.loc main_arg2)) (m (c.tc.loc main_arg3)) (ix3 b ⟨o + r.val, by omega⟩ j) := by
  rw [pml_apply]
  simp only [hh]
  rfl

/-- The second result's piece. -/
theorem mix_eq (h256 : o % 256 = 0) (i0 i1 i2) (r : Fin 256) (j : Fin 512) :
    mixPiece (BitVec.ofBool (decide (2048 ≤ o))) (k0_pay68 (k0_pay58 h (cols m c))) (View.ld (iblk m c 9 t) (Rect.unit ![0, 0, 0] ![1, 1, 256] i0))
      (View.ld (iblk m c 9 t) (Rect.unit ![0, 1, 0] ![1, 1, 256] i1)) (View.ld (iblk m c 9 t) (Rect.unit ![0, 2, 0] ![1, 1, 256] i2))
      (iblk m c 10 t) (iblk m c 12 t) (iblk m c 11 t) (ix3 0 r j)
    = mixR 1 (m (c.tc.loc main_arg0)) (m (c.tc.loc main_arg1)) (m (c.tc.loc main_arg2)) (m (c.tc.loc main_arg3)) (m (c.tc.loc main_arg5))
        (m (c.tc.loc main_arg6)) (m (c.tc.loc main_arg7)) (m (c.tc.loc main_arg8)) (ix3 b ⟨o + r.val, by omega⟩ j) := by
  obtain ⟨-, -, hgn, hgw, hgb⟩ := rd_weights m c t
  rw [show decide (2048 ≤ o) = decide (2048 ≤ o + r.val) from decide_eq_decide.mpr (by omega)]
  have hl : ∀ (r : Fin 256) (i : Fin 1280), k0_pay68 (k0_pay58 h (cols m c)) (ix2 r i)
      = projAt 1 (m (c.tc.loc main_arg0)) (m (c.tc.loc main_arg1)) (m (c.tc.loc main_arg2)) (m (c.tc.loc main_arg3)) b
          (tok o ho r) (locRow i) := by
    intro r i
    refine (loc_apply h (cols m c) r i).trans ?_
    have e : src ⟨1536 + i.val, by omega⟩ = locRow i := by
      unfold src locRow; rw [if_neg (by show ¬ 1536 + i.val < 512; omega)]; exact Fin.ext (by simp; omega)
    simp only [hh, projAt, proj, ← e]
    rfl
  refine (mix_apply _ _ _ _ _ _ _ _ o ho h256 hl r j).trans ?_
  simp only [hgn, hgw, hgb]
  unfold mixR
  congr 1
  funext q j
  fin_cases q
  exacts [rd_tap m c t 0 i0 j, rd_tap m c t 1 i1 j, rd_tap m c t 2 i2 j]

/-- The key-and-gate product of the piece. -/
theorem kg_eq (q : Fin 528) (r : Fin 256) : k0_pay60 h (iblk m c 8 t) (ix2 q r)
    = proj (H m c b) (fun q k => m (c.tc.loc main_arg4) (ix3 1 q k)) ⟨o + r.val, by omega⟩ q := by
  obtain ⟨-, hwk, -⟩ := rd_weights m c t
  rw [kg_apply]
  simp only [hh, hwk, proj]
  exact Finset.sum_congr rfl fun k _ => mul_comm _ _

/-- The third result's piece, its first 128 tokens. -/
theorem kt_left_eq (k : Fin 18) (hk : k.val * 128 = o) (q : Fin 512) (s : Fin 128) : k0_pay61 h (iblk m c 8 t) (ix4 0 0 q s)
    = ktR 1 (m (c.tc.loc main_arg0)) (m (c.tc.loc main_arg1)) (m (c.tc.loc main_arg2)) (m (c.tc.loc main_arg4)) (ix4 b k q s) := by
  subst hk
  rw [kt_left, kg_eq m c t b _ ho h hh]
  rfl

/-- The third result's piece, its last 128 tokens. -/
theorem kt_right_eq (k : Fin 18) (hk : k.val * 128 = o + 128) (q : Fin 512) (s : Fin 128) : k0_pay65 (k0_pay60 h (iblk m c 8 t)) (ix4 0 0 q s)
    = ktR 1 (m (c.tc.loc main_arg0)) (m (c.tc.loc main_arg1)) (m (c.tc.loc main_arg2)) (m (c.tc.loc main_arg4)) (ix4 b k q s) := by
  rw [kt_right, kg_eq m c t b _ ho h hh]
  exact congrArg (fun p => proj (H m c b) (fun q k => m (c.tc.loc main_arg4) (ix3 1 q k)) p ⟨q.val, by omega⟩ * Ideal.ofBits .f32 0x3DB504F3#32)
    (Fin.ext (by show o + (128 + s.val) = k.val * 128 + s.val; omega))

/-- A gate's element from its place in the piece. -/
theorem gate_of (wo : Nat) (hw : wo + 8 ≤ 528) (g : Fin 144) (q : Fin 8) (s : Fin 128) (r : Fin 256) (hq : g.val % 8 = q.val)
    (hr : g.val / 8 * 128 + s.val = o + r.val) : k0_pay60 h (iblk m c 8 t) (ix2 ⟨wo + q.val, by omega⟩ r)
    = gateAt (H m c b) (fun q k => m (c.tc.loc main_arg4) (ix3 1 q k)) wo hw g s := by
  rw [kg_eq m c t b o ho h hh]
  unfold gateAt
  congr 1
  · exact Fin.ext hr.symm
  · exact Fin.ext (by show wo + q.val = wo + g.val % 8; omega)
end

/-! ## The five results -/

section
variable (c : Dev nD) (t : Fin cfg0.N)

/-- The first result's block, at an element. -/
theorem out13 (y : S1x768x1536.Idx) (b : Fin 16) (p : Fin 2304) (j : Fin 1536) (hp : p.val = 768 * (grid0.coords t 1).val + (y 1).val) (hj : j.val = (y 2).val) (hb' : b.val = (grid0.coords t 0).val) :
    (outsAt0 m c t.val t.isLt).1 y
      = pmlR 1 (m (c.tc.loc main_arg0)) (m (c.tc.loc main_arg1)) (m (c.tc.loc main_arg2)) (m (c.tc.loc main_arg3)) (ix3 b p j) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t) (fun r k => rd_x0 m c t b _ r hb' rfl k)
  have k1 := hb_eq m c t b hb' (768 * (grid0.coords t 1).val + 256) (by omega) (by omega) (iblk m c 1 t) (fun r k => rd_x1 m c t b _ r hb' rfl k)
  have k2 := hb_eq m c t b hb' (768 * (grid0.coords t 1).val + 512) (by omega) (by omega) (iblk m c 2 t) (fun r k => rd_x2 m c t b _ r hb' rfl k)
  by_cases h0 : t.val % 48 = 0
  on_goal 1 => rw [outsAt0_A m c t h0]; dsimp only; frame_out; erw [readW]
  on_goal 2 => rw [outsAt0_B m c t h0]; dsimp only; frame_out; rw [read_unread_whole, copied]
  all_goals
    rw [pml_first, pml_second, hb_first, hb_second, e0, e1, show k0_pay31 = hb from rfl, e2]
    canon_tiles y h
  all_goals
    idx_vars y
    obtain rfl : y0 = 0 := by omega
    obtain rfl : y2 = j := Fin.ext (by omega)
  · have hy : y1.val < 256 := y1.isLt
    have hlt : 768 * (grid0.coords t 1).val + 512 + y1.val < 2304 := by omega
    obtain rfl : p = ⟨_, hlt⟩ := Fin.ext (by show p.val = 768 * (grid0.coords t 1).val + 512 + y1.val; omega)
    exact pml_eq m c b _ (by omega) _ (k2 _ _) y1 y2
  · have hy : y1.val < 256 := y1.isLt
    have hlt : 768 * (grid0.coords t 1).val + 256 + y1.val < 2304 := by omega
    obtain rfl : p = ⟨_, hlt⟩ := Fin.ext (by show p.val = 768 * (grid0.coords t 1).val + 256 + y1.val; omega)
    exact pml_eq m c b _ (by omega) _ (k1 _ _) y1 y2
  · have hy : y1.val < 256 := y1.isLt
    have hlt : 768 * (grid0.coords t 1).val + 0 + y1.val < 2304 := by omega
    obtain rfl : p = ⟨_, hlt⟩ := Fin.ext (by show p.val = 768 * (grid0.coords t 1).val + 0 + y1.val; omega)
    exact pml_eq m c b _ (by omega) _ (k0 _ _) y1 y2
  · have hy : y1.val < 256 := y1.isLt
    have hlt : 768 * (grid0.coords t 1).val + 512 + y1.val < 2304 := by omega
    obtain rfl : p = ⟨_, hlt⟩ := Fin.ext (by show p.val = 768 * (grid0.coords t 1).val + 512 + y1.val; omega)
    exact pml_eq m c b _ (by omega) _ (k2 _ _) y1 y2
  · have hy : y1.val < 256 := y1.isLt
    have hlt : 768 * (grid0.coords t 1).val + 256 + y1.val < 2304 := by omega
    obtain rfl : p = ⟨_, hlt⟩ := Fin.ext (by show p.val = 768 * (grid0.coords t 1).val + 256 + y1.val; omega)
    exact pml_eq m c b _ (by omega) _ (k1 _ _) y1 y2
  · have hy : y1.val < 256 := y1.isLt
    have hlt : 768 * (grid0.coords t 1).val + 0 + y1.val < 2304 := by omega
    obtain rfl : p = ⟨_, hlt⟩ := Fin.ext (by show p.val = 768 * (grid0.coords t 1).val + 0 + y1.val; omega)
    exact pml_eq m c b _ (by omega) _ (k0 _ _) y1 y2

/-- The second result's block, at an element. -/
theorem out14 (y : S1x768x512.Idx) (b : Fin 16) (p : Fin 2304) (j : Fin 512) (hp : p.val = 768 * (grid0.coords t 1).val + (y 1).val) (hj : j.val = (y 2).val) (hb' : b.val = (grid0.coords t 0).val) :
    (outsAt0 m c t.val t.isLt).2.1 y
      = mixR 1 (m (c.tc.loc main_arg0)) (m (c.tc.loc main_arg1)) (m (c.tc.loc main_arg2)) (m (c.tc.loc main_arg3)) (m (c.tc.loc main_arg5)) (m (c.tc.loc main_arg6)) (m (c.tc.loc main_arg7)) (m (c.tc.loc main_arg8)) (ix3 b p j) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t) (fun r k => rd_x0 m c t b _ r hb' rfl k)
  have k1 := hb_eq m c t b hb' (768 * (grid0.coords t 1).val + 256) (by omega) (by omega) (iblk m c 1 t) (fun r k => rd_x1 m c t b _ r hb' rfl k)
  have k2 := hb_eq m c t b hb' (768 * (grid0.coords t 1).val + 512) (by omega) (by omega) (iblk m c 2 t) (fun r k => rd_x2 m c t b _ r hb' rfl k)
  by_cases h0 : t.val % 48 = 0
  on_goal 1 => rw [outsAt0_A m c t h0]; dsimp only; frame_out; erw [readW]
  on_goal 2 => rw [outsAt0_B m c t h0]; dsimp only; frame_out; rw [read_unread_whole, copied]
  all_goals
    rw [mix_first, mix_second, mix_third, hb_first, hb_second, e0, e1, show k0_pay31 = hb from rfl, e2]
    canon_tiles y h
  all_goals
    idx_vars y
    obtain rfl : y0 = 0 := by omega
    obtain rfl : y2 = j := Fin.ext (by omega)
  · have hy : y1.val < 256 := y1.isLt
    have hlt : 768 * (grid0.coords t 1).val + 512 + y1.val < 2304 := by omega
    obtain rfl : p = ⟨_, hlt⟩ := Fin.ext (by show p.val = 768 * (grid0.coords t 1).val + 512 + y1.val; omega)
    exact mix_eq m c t b _ (by omega) _ (k2 _ _) (by omega) _ _ _ y1 y2
  · have hy : y1.val < 256 := y1.isLt
    have hlt : 768 * (grid0.coords t 1).val + 256 + y1.val < 2304 := by omega
    obtain rfl : p = ⟨_, hlt⟩ := Fin.ext (by show p.val = 768 * (grid0.coords t 1).val + 256 + y1.val; omega)
    exact mix_eq m c t b _ (by omega) _ (k1 _ _) (by omega) _ _ _ y1 y2
  · have hy : y1.val < 256 := y1.isLt
    have hlt : 768 * (grid0.coords t 1).val + 0 + y1.val < 2304 := by omega
    obtain rfl : p = ⟨_, hlt⟩ := Fin.ext (by show p.val = 768 * (grid0.coords t 1).val + 0 + y1.val; omega)
    exact mix_eq m c t b _ (by omega) _ (k0 _ _) (by omega) _ _ _ y1 y2
  · have hy : y1.val < 256 := y1.isLt
    have hlt : 768 * (grid0.coords t 1).val + 512 + y1.val < 2304 := by omega
    obtain rfl : p = ⟨_, hlt⟩ := Fin.ext (by show p.val = 768 * (grid0.coords t 1).val + 512 + y1.val; omega)
    exact mix_eq m c t b _ (by omega) _ (k2 _ _) (by omega) _ _ _ y1 y2
  · have hy : y1.val < 256 := y1.isLt
    have hlt : 768 * (grid0.coords t 1).val + 256 + y1.val < 2304 := by omega
    obtain rfl : p = ⟨_, hlt⟩ := Fin.ext (by show p.val = 768 * (grid0.coords t 1).val + 256 + y1.val; omega)
    exact mix_eq m c t b _ (by omega) _ (k1 _ _) (by omega) _ _ _ y1 y2
  · have hy : y1.val < 256 := y1.isLt
    have hlt : 768 * (grid0.coords t 1).val + 0 + y1.val < 2304 := by omega
    obtain rfl : p = ⟨_, hlt⟩ := Fin.ext (by show p.val = 768 * (grid0.coords t 1).val + 0 + y1.val; omega)
    exact mix_eq m c t b _ (by omega) _ (k0 _ _) (by omega) _ _ _ y1 y2

/-- The third result's block, at an element. -/
theorem out15 (y : S1x6x512x128.Idx) (b : Fin 16) (k : Fin 18) (q : Fin 512) (s : Fin 128) (hk : k.val = 6 * (grid0.coords t 1).val + (y 1).val) (hq : q.val = (y 2).val) (hs : s.val = (y 3).val) (hb' : b.val = (grid0.coords t 0).val) :
    (outsAt0 m c t.val t.isLt).2.2.1 y
      = ktR 1 (m (c.tc.loc main_arg0)) (m (c.tc.loc main_arg1)) (m (c.tc.loc main_arg2)) (m (c.tc.loc main_arg4)) (ix4 b k q s) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t) (fun r k => rd_x0 m c t b _ r hb' rfl k)
  have k1 := hb_eq m c t b hb' (768 * (grid0.coords t 1).val + 256) (by omega) (by omega) (iblk m c 1 t) (fun r k => rd_x1 m c t b _ r hb' rfl k)
  have k2 := hb_eq m c t b hb' (768 * (grid0.coords t 1).val + 512) (by omega) (by omega) (iblk m c 2 t) (fun r k => rd_x2 m c t b _ r hb' rfl k)
  by_cases h0 : t.val % 48 = 0
  on_goal 1 => rw [outsAt0_A m c t h0]; dsimp only; frame_out
  on_goal 2 => rw [outsAt0_B m c t h0]; dsimp only; frame_out
  all_goals
    rw [kt_left_first, kt_left_second, kt_right_first, kt_right_second, hb_first, hb_second, e0, e1, show k0_pay31 = hb from rfl, e2]
    canon_tiles y h
  all_goals
    idx_vars y
    obtain rfl : y0 = 0 := by omega
    obtain rfl : y1 = 0 := by omega
    obtain rfl : y2 = q := Fin.ext (by omega)
    obtain rfl : y3 = s := Fin.ext (by omega)
  · exact kt_right_eq m c t b _ (by omega) _ (k2 _ _) k (by omega) y2 y3
  · exact kt_left_eq m c t b _ (by omega) _ (k2 _ _) k (by omega) y2 y3
  · exact kt_right_eq m c t b _ (by omega) _ (k1 _ _) k (by omega) y2 y3
  · exact kt_left_eq m c t b _ (by omega) _ (k1 _ _) k (by omega) y2 y3
  · exact kt_right_eq m c t b _ (by omega) _ (k0 _ _) k (by omega) y2 y3
  · exact kt_left_eq m c t b _ (by omega) _ (k0 _ _) k (by omega) y2 y3
  · exact kt_right_eq m c t b _ (by omega) _ (k2 _ _) k (by omega) y2 y3
  · exact kt_left_eq m c t b _ (by omega) _ (k2 _ _) k (by omega) y2 y3
  · exact kt_right_eq m c t b _ (by omega) _ (k1 _ _) k (by omega) y2 y3
  · exact kt_left_eq m c t b _ (by omega) _ (k1 _ _) k (by omega) y2 y3
  · exact kt_right_eq m c t b _ (by omega) _ (k0 _ _) k (by omega) y2 y3
  · exact kt_left_eq m c t b _ (by omega) _ (k0 _ _) k (by omega) y2 y3

/-- The fourth result's block, at an element. -/
theorem out16 (y : S1x48x128.Idx) (b : Fin 16) (g : Fin 144) (s : Fin 128) (hg : g.val = 48 * (grid0.coords t 1).val + (y 1).val) (hs : s.val = (y 2).val) (hb' : b.val = (grid0.coords t 0).val) :
    (outsAt0 m c t.val t.isLt).2.2.2.1 y
      = giR 1 (m (c.tc.loc main_arg0)) (m (c.tc.loc main_arg1)) (m (c.tc.loc main_arg2)) (m (c.tc.loc main_arg4)) (ix3 b g s) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t) (fun r k => rd_x0 m c t b _ r hb' rfl k)
  have k1 := hb_eq m c t b hb' (768 * (grid0.coords t 1).val + 256) (by omega) (by omega) (iblk m c 1 t) (fun r k => rd_x1 m c t b _ r hb' rfl k)
  have k2 := hb_eq m c t b hb' (768 * (grid0.coords t 1).val + 512) (by omega) (by omega) (iblk m c 2 t) (fun r k => rd_x2 m c t b _ r hb' rfl k)
  by_cases h0 : t.val % 48 = 0
  on_goal 1 => rw [outsAt0_A m c t h0]; dsimp only; frame_out
  on_goal 2 => rw [outsAt0_B m c t h0]; dsimp only; frame_out
  all_goals
    rw [gi_left_first, gi_left_second, gi_right_first, gi_right_second, hb_first, hb_second, e0, e1, show k0_pay31 = hb from rfl, e2]
    canon_tiles y h
  all_goals
    idx_vars y
    obtain rfl : y0 = 0 := by omega
    obtain rfl : y2 = s := Fin.ext (by omega)
  · exact (gi_right _ _ _).trans (gate_of m c t b _ (by omega) _ (k2 _ _) 512 (by decide) g y1 y2 _ (by omega) (by show _ = _ + (128 + y2.val); omega))
  · exact (gi_left _ _ _ _).trans (gate_of m c t b _ (by omega) _ (k2 _ _) 512 (by decide) g y1 y2 _ (by omega) (by show _ = _ + y2.val; omega))
  · exact (gi_right _ _ _).trans (gate_of m c t b _ (by omega) _ (k1 _ _) 512 (by decide) g y1 y2 _ (by omega) (by show _ = _ + (128 + y2.val); omega))
  · exact (gi_left _ _ _ _).trans (gate_of m c t b _ (by omega) _ (k1 _ _) 512 (by decide) g y1 y2 _ (by omega) (by show _ = _ + y2.val; omega))
  · exact (gi_right _ _ _).trans (gate_of m c t b _ (by omega) _ (k0 _ _) 512 (by decide) g y1 y2 _ (by omega) (by show _ = _ + (128 + y2.val); omega))
  · exact (gi_left _ _ _ _).trans (gate_of m c t b _ (by omega) _ (k0 _ _) 512 (by decide) g y1 y2 _ (by omega) (by show _ = _ + y2.val; omega))
  · exact (gi_right _ _ _).trans (gate_of m c t b _ (by omega) _ (k2 _ _) 512 (by decide) g y1 y2 _ (by omega) (by show _ = _ + (128 + y2.val); omega))
  · exact (gi_left _ _ _ _).trans (gate_of m c t b _ (by omega) _ (k2 _ _) 512 (by decide) g y1 y2 _ (by omega) (by show _ = _ + y2.val; omega))
  · exact (gi_right _ _ _).trans (gate_of m c t b _ (by omega) _ (k1 _ _) 512 (by decide) g y1 y2 _ (by omega) (by show _ = _ + (128 + y2.val); omega))
  · exact (gi_left _ _ _ _).trans (gate_of m c t b _ (by omega) _ (k1 _ _) 512 (by decide) g y1 y2 _ (by omega) (by show _ = _ + y2.val; omega))
  · exact (gi_right _ _ _).trans (gate_of m c t b _ (by omega) _ (k0 _ _) 512 (by decide) g y1 y2 _ (by omega) (by show _ = _ + (128 + y2.val); omega))
  · exact (gi_left _ _ _ _).trans (gate_of m c t b _ (by omega) _ (k0 _ _) 512 (by decide) g y1 y2 _ (by omega) (by show _ = _ + y2.val; omega))

/-- The fifth result's block, at an element. -/
theorem out17 (y : S1x48x128.Idx) (b : Fin 16) (g : Fin 144) (s : Fin 128) (hg : g.val = 48 * (grid0.coords t 1).val + (y 1).val) (hs : s.val = (y 2).val) (hb' : b.val = (grid0.coords t 0).val) :
    (outsAt0 m c t.val t.isLt).2.2.2.2.1 y
      = gfR 1 (m (c.tc.loc main_arg0)) (m (c.tc.loc main_arg1)) (m (c.tc.loc main_arg2)) (m (c.tc.loc main_arg4)) (ix3 b g s) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t) (fun r k => rd_x0 m c t b _ r hb' rfl k)
  have k1 := hb_eq m c t b hb' (768 * (grid0.coords t 1).val + 256) (by omega) (by omega) (iblk m c 1 t) (fun r k => rd_x1 m c t b _ r hb' rfl k)
  have k2 := hb_eq m c t b hb' (768 * (grid0.coords t 1).val + 512) (by omega) (by omega) (iblk m c 2 t) (fun r k => rd_x2 m c t b _ r hb' rfl k)
  by_cases h0 : t.val % 48 = 0
  on_goal 1 => rw [outsAt0_A m c t h0]; dsimp only; frame_out
  on_goal 2 => rw [outsAt0_B m c t h0]; dsimp only; frame_out
  all_goals
    rw [gf_left_first, gf_left_second, gf_right_first, gf_right_second, hb_first, hb_second, e0, e1, show k0_pay31 = hb from rfl, e2]
    canon_tiles y h
  all_goals
    idx_vars y
    obtain rfl : y0 = 0 := by omega
    obtain rfl : y2 = s := Fin.ext (by omega)
  · exact (gf_right _ _ _).trans (gate_of m c t b _ (by omega) _ (k2 _ _) 520 (by decide) g y1 y2 _ (by omega) (by show _ = _ + (128 + y2.val); omega))
  · exact (gf_left _ _ _).trans (gate_of m c t b _ (by omega) _ (k2 _ _) 520 (by decide) g y1 y2 _ (by omega) (by show _ = _ + y2.val; omega))
  · exact (gf_right _ _ _).trans (gate_of m c t b _ (by omega) _ (k1 _ _) 520 (by decide) g y1 y2 _ (by omega) (by show _ = _ + (128 + y2.val); omega))
  · exact (gf_left _ _ _).trans (gate_of m c t b _ (by omega) _ (k1 _ _) 520 (by decide) g y1 y2 _ (by omega) (by show _ = _ + y2.val; omega))
  · exact (gf_right _ _ _).trans (gate_of m c t b _ (by omega) _ (k0 _ _) 520 (by decide) g y1 y2 _ (by omega) (by show _ = _ + (128 + y2.val); omega))
  · exact (gf_left _ _ _).trans (gate_of m c t b _ (by omega) _ (k0 _ _) 520 (by decide) g y1 y2 _ (by omega) (by show _ = _ + y2.val; omega))
  · exact (gf_right _ _ _).trans (gate_of m c t b _ (by omega) _ (k2 _ _) 520 (by decide) g y1 y2 _ (by omega) (by show _ = _ + (128 + y2.val); omega))
  · exact (gf_left _ _ _).trans (gate_of m c t b _ (by omega) _ (k2 _ _) 520 (by decide) g y1 y2 _ (by omega) (by show _ = _ + y2.val; omega))
  · exact (gf_right _ _ _).trans (gate_of m c t b _ (by omega) _ (k1 _ _) 520 (by decide) g y1 y2 _ (by omega) (by show _ = _ + (128 + y2.val); omega))
  · exact (gf_left _ _ _).trans (gate_of m c t b _ (by omega) _ (k1 _ _) 520 (by decide) g y1 y2 _ (by omega) (by show _ = _ + y2.val; omega))
  · exact (gf_right _ _ _).trans (gate_of m c t b _ (by omega) _ (k0 _ _) 520 (by decide) g y1 y2 _ (by omega) (by show _ = _ + (128 + y2.val); omega))
  · exact (gf_left _ _ _).trans (gate_of m c t b _ (by omega) _ (k0 _ _) 520 (by decide) g y1 y2 _ (by omega) (by show _ = _ + y2.val; omega))

end

section
variable (c : Dev nD)

/-- The first result's array after the run. -/
theorem arr13 : (dats m 0 c).arrAt 13 cfg0.N = pmlR 1 (m (c.tc.loc main_arg0)) (m (c.tc.loc main_arg1)) (m (c.tc.loc main_arg2)) (m (c.tc.loc main_arg3)) := by
  refine (dats m 0 c).arrAt_eq_of_covers 13 _ (by decide +kernel) fun t hf y => ?_
  obtain ⟨-, -, -, -, -, -, -, -, -, -, -, -, -, e13, -⟩ := places t
  blk_simp
  rw [after0_13]
  refine (out13 m c t _ _ _ _ ?_ ?_ ?_).trans (congrArg _ (funext fun a => by fin_cases a <;> rfl))
  all_goals blk_simp [e13]
  all_goals first | rfl | exact congrArg₂ (· + ·) (Nat.mul_comm _ _) rfl

/-- The second result's array after the run. -/
theorem arr14 : (dats m 0 c).arrAt 14 cfg0.N = mixR 1 (m (c.tc.loc main_arg0)) (m (c.tc.loc main_arg1)) (m (c.tc.loc main_arg2)) (m (c.tc.loc main_arg3)) (m (c.tc.loc main_arg5)) (m (c.tc.loc main_arg6)) (m (c.tc.loc main_arg7)) (m (c.tc.loc main_arg8)) := by
  refine (dats m 0 c).arrAt_eq_of_covers 14 _ (by decide +kernel) fun t hf y => ?_
  obtain ⟨-, -, -, -, -, -, -, -, -, -, -, -, -, -, e14, -⟩ := places t
  blk_simp
  rw [after0_14]
  refine (out14 m c t _ _ _ _ ?_ ?_ ?_).trans (congrArg _ (funext fun a => by fin_cases a <;> rfl))
  all_goals blk_simp [e14]
  all_goals first | rfl | exact congrArg₂ (· + ·) (Nat.mul_comm _ _) rfl

/-- The third result's array after the run. -/
theorem arr15 : (dats m 0 c).arrAt 15 cfg0.N = ktR 1 (m (c.tc.loc main_arg0)) (m (c.tc.loc main_arg1)) (m (c.tc.loc main_arg2)) (m (c.tc.loc main_arg4)) := by
  refine (dats m 0 c).arrAt_eq_of_covers 15 _ (by decide +kernel) fun t hf y => ?_
  obtain ⟨-, -, -, -, -, -, -, -, -, -, -, -, -, -, -, e15, -⟩ := places t
  blk_simp
  rw [after0_15]
  refine (out15 m c t _ _ _ _ _ ?_ ?_ ?_ ?_).trans (congrArg _ (funext fun a => by fin_cases a <;> rfl))
  all_goals blk_simp [e15]
  all_goals first | rfl | exact congrArg₂ (· + ·) (Nat.mul_comm _ _) rfl

/-- The fourth result's array after the run. -/
theorem arr16 : (dats m 0 c).arrAt 16 cfg0.N = giR 1 (m (c.tc.loc main_arg0)) (m (c.tc.loc main_arg1)) (m (c.tc.loc main_arg2)) (m (c.tc.loc main_arg4)) := by
  refine (dats m 0 c).arrAt_eq_of_covers 16 _ (by decide +kernel) fun t hf y => ?_
  obtain ⟨-, -, -, -, -, -, -, -, -, -, -, -, -, -, -, -, e16, -⟩ := places t
  blk_simp
  rw [after0_16]
  refine (out16 m c t _ _ _ _ ?_ ?_ ?_).trans (congrArg _ (funext fun a => by fin_cases a <;> rfl))
  all_goals blk_simp [e16]
  all_goals first | rfl | exact congrArg₂ (· + ·) (Nat.mul_comm _ _) rfl

/-- The fifth result's array after the run. -/
theorem arr17 : (dats m 0 c).arrAt 17 cfg0.N = gfR 1 (m (c.tc.loc main_arg0)) (m (c.tc.loc main_arg1)) (m (c.tc.loc main_arg2)) (m (c.tc.loc main_arg4)) := by
  refine (dats m 0 c).arrAt_eq_of_covers 17 _ (by decide +kernel) fun t hf y => ?_
  obtain ⟨-, -, -, -, -, -, -, -, -, -, -, -, -, -, -, -, -, e17⟩ := places t
  blk_simp
  rw [after0_17]
  refine (out17 m c t _ _ _ _ ?_ ?_ ?_).trans (congrArg _ (funext fun a => by fin_cases a <;> rfl))
  all_goals blk_simp [e17]
  all_goals first | rfl | exact congrArg₂ (· + ·) (Nat.mul_comm _ _) rfl

end

end Cert.InProjIdeal.Hand

end
-- ==== Proof.InProj.Reference.lean ====
/- What the reference of the input projection leaves in its five results: at every element the projection's formulas (Formula.lean),
   read stage by stage. -/
module

public import proofs.«01_k».proof.Proof.Gen.InProjRefIdeal.Read
public import proofs.«01_k».proof.Proof.InProj.Formula
public import Idealize.ShloMosaic.Lib.Pointwise

@[expose] public section

set_option maxRecDepth 16384

noncomputable section

namespace Cert.InProjRefIdeal.Hand

open Cert.Rows Cert.InProjRefIdeal Cert.InProjRefIdeal.Gen Cert.InProjRefIdeal.Read Idealize.ShloMosaic Idealize.ShloMosaic.TcCoe
open Cert.InProjIdeal.Hand

variable (x0 : (⟨S16x2304x1024, .f32⟩ : BufTy).Contents (Elt Ideal)) (x1 : (⟨S4x24x6144, .f32⟩ : BufTy).Contents (Elt Ideal))
  (x2 : (⟨S4x1x1024, .f32⟩ : BufTy).Contents (Elt Ideal)) (x3 : (⟨S4x3344x1024, .bf16⟩ : BufTy).Contents (Elt Ideal))
  (x4 : (⟨S4x528x1024, .bf16⟩ : BufTy).Contents (Elt Ideal)) (x5 : (⟨S4x8x256, .f32⟩ : BufTy).Contents (Elt Ideal))
  (x6 : (⟨S4x1x256, .f32⟩ : BufTy).Contents (Elt Ideal)) (x7 : (⟨S4x128x512, .bf16⟩ : BufTy).Contents (Elt Ideal))
  (x8 : (⟨S4x128x256, .f32⟩ : BufTy).Contents (Elt Ideal))

/-- The modulation vectors laid out per token: a token's row of the table. -/
theorem mods_apply (b : Fin 16) (p : Fin 2304) (k : Fin 6144) : val_main_v16 (F := Ideal) x1 (ix3 b p k) = x1 (ix3 1 (modRow b p) k) := by
  unfold modRow
  by_cases hc : 2048 ≤ p.val
  · rw [if_pos hc]
    pointwise [val_main_v16, val_main_v15, val_main_v14, val_main_v13, val_main_v12, val_main_v11, val_main_v10, val_main_v9]
    exact dif_neg (by omega)
  · rw [if_neg hc]
    pointwise [val_main_v16, val_main_v15, val_main_v14, val_main_v13, val_main_v12, val_main_v11, val_main_v10, val_main_v9]
    exact dif_pos (by omega)

/-- The normalised and modulated row. -/
theorem hid_apply (b : Fin 16) (p : Fin 2304) (k : Fin 1024) : val_main_v35 (F := Ideal) x0 x1 x2 (ix3 b p k) = hid 1 x0 x1 x2 b p k := by
  unfold hid modulated unitRow
  simp only [← mods_apply]
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_cst, val_main_cst_0, val_main_cst_1, val_main_cst_2, modCol]

/-- The product with the main weight. -/
theorem main_apply (b : Fin 16) (p : Fin 2304) (q : Fin 3344) : val_main_v36 (F := Ideal) x0 x1 x2 x3 (ix3 b p q) = projAt 1 x0 x1 x2 x3 b p q := by
  unfold projAt proj
  simp only [← hid_apply]
  unfold val_main_v36
  generalize val_main_v35 (F := Ideal) x0 x1 x2 = h
  pointwise [val_main_v6, val_main_v1, val_main_v0]

/-- The product with the weight of the keys and gates. -/
theorem kg_apply (b : Fin 16) (p : Fin 2304) (q : Fin 528) : val_main_v40 (F := Ideal) x0 x1 x2 x4 (ix3 b p q)
    = proj (hid 1 x0 x1 x2 b) (fun q k => x4 (ix3 1 q k)) p q := by
  unfold proj
  simp only [← hid_apply]
  unfold val_main_v40
  generalize val_main_v35 (F := Ideal) x0 x1 x2 = h
  pointwise [val_main_v7, val_main_v3, val_main_v2]

/-- The first result at an element. -/
theorem pml_apply (b : Fin 16) (p : Fin 2304) (j : Fin 1536) : val_main_v105 (F := Ideal) x0 x1 x2 x3 (ix3 b p j) = pmlR 1 x0 x1 x2 x3 (ix3 b p j) := by
  unfold pmlR
  refine Eq.trans ?_ (main_apply x0 x1 x2 x3 b p _)
  unfold val_main_v105 val_main_v39 val_main_v38 val_main_v37 src
  generalize val_main_v36 (F := Ideal) x0 x1 x2 x3 = P
  pointwise []
  split_ifs with h
  all_goals exact congrArg P (congrArg (ix3 b p) (Fin.ext (by simp; omega)))

/-- The third result at an element. -/
theorem kt_apply (b : Fin 16) (t : Fin 18) (q : Fin 512) (s : Fin 128) : val_main_v107 (F := Ideal) x0 x1 x2 x4 (ix4 b t q s)
    = ktR 1 x0 x1 x2 x4 (ix4 b t q s) := by
  unfold ktR keyAt
  refine Eq.trans ?_ (congrArg (· * _) (kg_apply x0 x1 x2 x4 b _ _))
  unfold val_main_v107 val_main_v45 val_main_v43 val_main_v42 val_main_v41
  generalize val_main_v40 (F := Ideal) x0 x1 x2 x4 = P
  pointwise [val_main_v44, val_main_cst_3]

/-- The fourth result at an element. -/
theorem gi_apply (b : Fin 16) (g : Fin 144) (s : Fin 128) : val_main_v47 (F := Ideal) x0 x1 x2 x4 (ix3 b g s) = giR 1 x0 x1 x2 x4 (ix3 b g s) := by
  unfold giR gateAt
  refine Eq.trans ?_ (kg_apply x0 x1 x2 x4 b _ _)
  unfold val_main_v47 val_main_v46 val_main_v42 val_main_v41
  generalize val_main_v40 (F := Ideal) x0 x1 x2 x4 = P
  pointwise []

/-- The fifth result at an element. -/
theorem gf_apply (b : Fin 16) (g : Fin 144) (s : Fin 128) : val_main_v49 (F := Ideal) x0 x1 x2 x4 (ix3 b g s) = gfR 1 x0 x1 x2 x4 (ix3 b g s) := by
  unfold gfR gateAt
  refine Eq.trans ?_ (kg_apply x0 x1 x2 x4 b _ _)
  unfold val_main_v49 val_main_v48 val_main_v42 val_main_v41
  generalize val_main_v40 (F := Ideal) x0 x1 x2 x4 = P
  pointwise []

/-! ## The second result -/

/-- The gated input of the convolution. -/
theorem zin_apply (b : Fin 16) (p : Fin 2304) (j : Fin 256) : val_main_v52 (F := Ideal) x0 x1 x2 x3 (ix3 b p j) = zin (projAt 1 x0 x1 x2 x3 b) p j := by
  unfold zin
  simp only [← main_apply]
  unfold val_main_v52 val_main_v51 val_main_v50
  generalize val_main_v36 (F := Ideal) x0 x1 x2 x3 = P
  pointwise []

/-- The convolution's input one token before. -/
theorem before_apply (b : Fin 16) (p : Fin 2304) (j : Fin 256) : val_main_v61 (F := Ideal) x0 x1 x2 x3 (ix3 b p j)
    = before (projAt 1 x0 x1 x2 x3 b) p j := by
  unfold before
  simp only [← zin_apply]
  unfold val_main_v61 val_main_v60 val_main_v59 val_main_v58 val_main_v57 val_main_v56 val_main_v55 val_main_v54 val_main_v53
  generalize val_main_v52 (F := Ideal) x0 x1 x2 x3 = z
  pointwise [val_main_cst_4, val_main_cst_5]
  have e : begins p ↔ p.val < 2048 ∧ p.val % 64 = 0 ∨ p.val = 2048 := by unfold begins; split_ifs <;> omega
  by_cases hb : begins p
  · have hc := e.mp hb
    refine Eq.trans ?_ (if_pos hb).symm
    split_ifs <;> first | rfl | omega
  · have hc := mt e.mpr hb
    refine Eq.trans ?_ (if_neg hb).symm
    split_ifs
    all_goals first
      | omega
      | (refine congrArg z (congrFun (congrArg (ix3 b) (Fin.ext ?_)) j); dsimp only; omega)

/-- The convolution's input one token after. -/
theorem after_apply (b : Fin 16) (p : Fin 2304) (j : Fin 256) : val_main_v65 (F := Ideal) x0 x1 x2 x3 (ix3 b p j)
    = after (projAt 1 x0 x1 x2 x3 b) p j := by
  unfold after
  simp only [← zin_apply]
  unfold val_main_v65 val_main_v64 val_main_v63 val_main_v62 val_main_v57 val_main_v56 val_main_v55 val_main_v54 val_main_v53
  generalize val_main_v52 (F := Ideal) x0 x1 x2 x3 = z
  pointwise [val_main_cst_4, val_main_cst_5]
  have e : ends p ↔ p.val < 2048 ∧ p.val % 64 = 63 ∨ p.val = 2303 := by unfold ends; split_ifs <;> omega
  by_cases hb : ends p
  · have hc := e.mp hb
    refine Eq.trans ?_ (dif_pos hb).symm
    split_ifs <;> first | rfl | omega
  · have hc := mt e.mpr hb
    refine Eq.trans ?_ (dif_neg hb).symm
    split_ifs
    all_goals first
      | omega
      | (refine congrArg z (congrFun (congrArg (ix3 b) (Fin.ext ?_)) j); dsimp only; omega)

/-- The gated convolution. -/
theorem conv_apply (b : Fin 16) (p : Fin 2304) (j : Fin 256) : val_main_v100 (F := Ideal) x0 x1 x2 x3 x5 (ix3 b p j)
    = convAt (projAt 1 x0 x1 x2 x3 b) (fun q j => x5 (ix3 1 ⟨q.val, by omega⟩ j)) p j := by
  unfold convAt
  simp only [← zin_apply, ← before_apply, ← after_apply, ← main_apply]
  unfold val_main_v100 val_main_v99 val_main_v76 val_main_v75 val_main_v72 val_main_v71 val_main_v68
  generalize val_main_v36 (F := Ideal) x0 x1 x2 x3 = P
  generalize val_main_v52 (F := Ideal) x0 x1 x2 x3 = z
  generalize val_main_v61 (F := Ideal) x0 x1 x2 x3 = zb
  generalize val_main_v65 (F := Ideal) x0 x1 x2 x3 = za
  pointwise [val_main_v74, val_main_v73, val_main_v70, val_main_v69, val_main_v67, val_main_v66]

/-- The normalised row of 256. -/
theorem vrow_apply (b : Fin 16) (p : Fin 2304) (j : Fin 256) : val_main_v90 (F := Ideal) x0 x1 x2 x3 x6 (ix3 b p j)
    = vAt (projAt 1 x0 x1 x2 x3 b) (fun j => x6 (ix3 1 0 j)) p j := by
  unfold vAt
  simp only [← main_apply]
  unfold val_main_v90 val_main_v88 val_main_v87 val_main_v86 val_main_v85 val_main_v83 val_main_v81 val_main_v80 val_main_v79 val_main_v77
  generalize val_main_v36 (F := Ideal) x0 x1 x2 x3 = P
  pointwise [val_main_v89, val_main_v84, val_main_v82, val_main_v78, val_main_cst_6, val_main_cst_7, val_main_cst_8]

/-- The product over the tokens of a chunk, with its bias. -/
theorem tokens_apply (b : Fin 16) (p : Fin 2304) (j : Fin 256) : val_main_v103 (F := Ideal) x0 x1 x2 x3 x6 x7 x8 (ix3 b p j)
    = gmAt (projAt 1 x0 x1 x2 x3 b) (fun j => x6 (ix3 1 0 j)) (fun s q => x7 (ix3 1 s q)) (fun s j => x8 (ix3 1 s j)) p j := by
  unfold gmAt
  simp only [← vrow_apply, ← main_apply]
  unfold val_main_v103 val_main_v102 val_main_v101 val_main_v98 val_main_v94 val_main_v93 val_main_v92 val_main_v91
  generalize val_main_v36 (F := Ideal) x0 x1 x2 x3 = P
  generalize val_main_v90 (F := Ideal) x0 x1 x2 x3 x6 = v
  pointwise [val_main_v97, val_main_v96, val_main_v95, val_main_v8, val_main_v5, val_main_v4]
  rw [add_comm (x8 _)]
  exact congrArg (_ * ·) (congrArg (· + _) (Finset.sum_congr rfl fun k _ => mul_comm _ _))

/-- The second result at an element. -/
theorem mix_apply (b : Fin 16) (p : Fin 2304) (j : Fin 512) : val_main_v106 (F := Ideal) x0 x1 x2 x3 x5 x6 x7 x8 (ix3 b p j)
    = mixR 1 x0 x1 x2 x3 x5 x6 x7 x8 (ix3 b p j) := by
  unfold mixR mixAt
  unfold val_main_v106 val_main_v104
  generalize hu : val_main_v100 (F := Ideal) x0 x1 x2 x3 x5 = u
  generalize hv : val_main_v103 (F := Ideal) x0 x1 x2 x3 x6 x7 x8 = v
  pointwise []
  by_cases h : j.val < 256
  · rw [dif_pos h, dif_pos h]
    exact (congrFun hu _).symm.trans (conv_apply x0 x1 x2 x3 x5 b p _)
  · rw [dif_neg h, dif_neg h]
    exact (congrFun hv _).symm.trans (tokens_apply x0 x1 x2 x3 x6 x7 x8 b p _)

/-! ## The five arrays -/

/-- The first result, of the arguments. -/
theorem pml_eq : val_main_v105 (F := Ideal) x0 x1 x2 x3 = pmlR 1 x0 x1 x2 x3 := by
  funext i
  have e : i = ix3 (i 0) (i 1) (i 2) := funext fun a => by fin_cases a <;> rfl
  rw [e]
  exact pml_apply x0 x1 x2 x3 (i 0) (i 1) (i 2)

/-- The second result, of the arguments. -/
theorem mix_eq : val_main_v106 (F := Ideal) x0 x1 x2 x3 x5 x6 x7 x8 = mixR 1 x0 x1 x2 x3 x5 x6 x7 x8 := by
  funext i
  have e : i = ix3 (i 0) (i 1) (i 2) := funext fun a => by fin_cases a <;> rfl
  rw [e]
  exact mix_apply x0 x1 x2 x3 x5 x6 x7 x8 (i 0) (i 1) (i 2)

/-- The third result, of the arguments. -/
theorem kt_eq : val_main_v107 (F := Ideal) x0 x1 x2 x4 = ktR 1 x0 x1 x2 x4 := by
  funext i
  have e : i = ix4 (i 0) (i 1) (i 2) (i 3) := funext fun a => by fin_cases a <;> rfl
  rw [e]
  exact kt_apply x0 x1 x2 x4 (i 0) (i 1) (i 2) (i 3)

/-- The fourth result, of the arguments. -/
theorem gi_eq : val_main_v47 (F := Ideal) x0 x1 x2 x4 = giR 1 x0 x1 x2 x4 := by
  funext i
  have e : i = ix3 (i 0) (i 1) (i 2) := funext fun a => by fin_cases a <;> rfl
  rw [e]
  exact gi_apply x0 x1 x2 x4 (i 0) (i 1) (i 2)

/-- The fifth result, of the arguments. -/
theorem gf_eq : val_main_v49 (F := Ideal) x0 x1 x2 x4 = gfR 1 x0 x1 x2 x4 := by
  funext i
  have e : i = ix3 (i 0) (i 1) (i 2) := funext fun a => by fin_cases a <;> rfl
  rw [e]
  exact gf_apply x0 x1 x2 x4 (i 0) (i 1) (i 2)

end Cert.InProjRefIdeal.Hand

end
-- ==== Proof.Ada.Table.lean ====
/- The table of modulations as a formula of the call's arguments. -/
module

public import Idealize.ShloMosaic.Lib.Pointwise

@[expose] public section

noncomputable section

namespace Cert.Ada.Formula

open Idealize.ShloMosaic

/-- Entry `n` of condition `r`'s row in layer `l`: `silu` of the condition times the layer's weight, plus its bias. -/
def entry (cc : (⟨2, ![24, 1024]⟩ : Shape).Idx → EReal) (w : (⟨3, ![4, 1024, 6144]⟩ : Shape).Idx → EReal)
    (b : (⟨2, ![4, 6144]⟩ : Shape).Idx → EReal) (l : Fin 4) (r : Fin 24) (n : Fin 6144) : EReal :=
  (∑ k, cc (ix2 r k) * Ideal.logistic (cc (ix2 r k)) * w (ix3 l k n)) + b (ix2 l n)

/-- The whole table. -/
def table (cc : (⟨2, ![24, 1024]⟩ : Shape).Idx → EReal) (w : (⟨3, ![4, 1024, 6144]⟩ : Shape).Idx → EReal)
    (b : (⟨2, ![4, 6144]⟩ : Shape).Idx → EReal) : (⟨3, ![4, 24, 6144]⟩ : Shape).Idx → EReal :=
  fun i => entry cc w b (i 0) (i 1) (i 2)

end Cert.Ada.Formula

end
-- ==== Proof.Ada.Value.lean ====
/- What the kernel's run leaves in the table of modulations: the formula of the arguments (Table.lean). -/
module

public import proofs.«01_k».proof.Proof.Gen.AdaIdeal.Value
public import proofs.«01_k».proof.Proof.Ada.Table
public import Idealize.ShloMosaic.Lib.Pipeline.ValueKit

@[expose] public section

set_option maxRecDepth 16384

noncomputable section

namespace Cert.AdaIdeal.Hand

open Cert.Ada.Formula Cert.AdaIdeal Cert.AdaIdeal.Gen Idealize.ShloMosaic Idealize.ShloMosaic.TcCoe Idealize.SL.Sem

variable (m : (ℓ : Loc nD τ sig) → Buf (Elt Ideal) ℓ)

/-- Where each window's block lies, at every grid point. -/
theorem places : ∀ t : Fin grid0.N,
    win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] := by decide +kernel

/-- The biases as the region finds them: the argument with an axis of length one put in. -/
theorem bias_eq (c : Dev nD) : V m c main_v0 = shapeCast S4x1x6144 (m (c.tc.loc main_arg2)) shapeCasts_S4x6144_S4x1x6144 := rfl

section
variable (c : Dev nD) (t : Fin cfg0.N) (l : Fin 4) (n : Fin 6144) (q : Fin 1536)
  (hl : l.val = (grid0.coords t 0).val) (hn : n.val = 1536 * (grid0.coords t 1).val + q.val)

/-- The conditions. -/
theorem rd_cc (r : Fin 24) (k : Fin 1024) : iblk m c 0 t (ix2 r k) = m (c.tc.loc main_arg0) (ix2 r k) := by
  obtain ⟨e, -⟩ := places t
  blk_ext [iblk, V, e]

include hl hn

/-- The layer's weight, 1536 columns of it. -/
theorem rd_w (k : Fin 1024) : iblk m c 1 t (ix3 0 k q) = m (c.tc.loc main_arg1) (ix3 l k n) := by
  obtain ⟨-, e, -⟩ := places t
  blk_ext [iblk, V, e]

/-- The layer's bias, 1536 entries of it. -/
theorem rd_b : iblk m c 2 t (ix3 0 0 q) = m (c.tc.loc main_arg2) (ix2 l n) := by
  obtain ⟨-, -, e, -⟩ := places t
  refine Eq.trans (b := V m c main_v0 (ix3 l 0 n)) ?_ ?_
  · blk_ext [iblk, e]
  · rw [bias_eq]
    refine shapeCast_apply _ _ _ (ix2 l n) ?_
    rw [Shape.rowMajor_val_two, Shape.rowMajor_val_three]
    show l.val * 6144 + n.val = (l.val * 1 + 0) * 6144 + n.val
    omega

end

/-- The stored vector at an element, from the blocks the body reads. -/
theorem pay_apply (cc : Vec Ideal S24x1024 .f32) (w : Vec Ideal S1x1024x1536 .f32) (b : Vec Ideal S1x1x1536 .f32) (r : Fin 24) (q : Fin 1536) :
    k0_pay1 cc w b (ix3 0 r q) = (∑ k, cc (ix2 r k) * Ideal.logistic (cc (ix2 r k)) * w (ix3 0 k q)) + b (ix3 0 0 q) := by
  unfold k0_pay1
  pointwise

/-- What a body leaves in the output's block, at an element, is the table's entry at the element's place. -/
theorem out_apply (c : Dev nD) (t : Fin cfg0.N) (y : S1x24x1536.Idx) (l : Fin 4) (r : Fin 24) (n : Fin 6144)
    (hl : l.val = (grid0.coords t 0).val) (hr : r.val = (y 1).val) (hn : n.val = 1536 * (grid0.coords t 1).val + (y 2).val) :
    out0_3 (iblk m c 0 t) (iblk m c 1 t) (iblk m c 2 t) y
      = entry (m (c.tc.loc main_arg0)) (m (c.tc.loc main_arg1)) (m (c.tc.loc main_arg2)) l r n := by
  frame_out
  idx_vars y
  obtain rfl : y0 = 0 := by omega
  obtain rfl : y1 = r := Fin.ext (by omega)
  rw [pay_apply, rd_b m c t l n y2 hl hn]
  simp only [rd_cc m c t, rd_w m c t l n y2 hl hn]
  rfl

/-- The kernel's result array after the run. -/
theorem arr_eq (c : Dev nD) : (dats m 0 c).arrAt 3 cfg0.N = table (m (c.tc.loc main_arg0)) (m (c.tc.loc main_arg1)) (m (c.tc.loc main_arg2)) := by
  refine (dats m 0 c).arrAt_eq_of_covers 3 _ (by decide +kernel) fun t hf y => ?_
  obtain ⟨-, -, -, e3⟩ := places t
  blk_simp
  rw [after0_3]
  refine out_apply m c t _ _ _ _ ?_ ?_ ?_
  all_goals blk_simp [e3]
  all_goals first | rfl | omega

end Cert.AdaIdeal.Hand

end
-- ==== Proof.Ada.Reference.lean ====
/- What the reference of the table of modulations leaves in its result: the formula of the arguments (Table.lean). -/
module

public import proofs.«01_k».proof.Proof.Gen.AdaRefIdeal.Read
public import proofs.«01_k».proof.Proof.Ada.Table
public import Idealize.ShloMosaic.Lib.Pointwise

@[expose] public section

set_option maxRecDepth 16384

noncomputable section

namespace Cert.AdaRefIdeal.Hand

open Cert.Ada.Formula Cert.AdaRefIdeal Cert.AdaRefIdeal.Gen Cert.AdaRefIdeal.Read Idealize.ShloMosaic Idealize.ShloMosaic.TcCoe

variable (x0 : (⟨S24x1024, .f32⟩ : BufTy).Contents (Elt Ideal)) (x1 : (⟨S4x1024x6144, .f32⟩ : BufTy).Contents (Elt Ideal))
  (x2 : (⟨S4x6144, .f32⟩ : BufTy).Contents (Elt Ideal))

/-- `silu` of the conditions, at an element. -/
theorem silu_apply (r : Fin 24) (k : Fin 1024) : val_main_v0 (F := Ideal) x0 (ix2 r k) = x0 (ix2 r k) * Ideal.logistic (x0 (ix2 r k)) := by
  unfold val_main_v0 val_main_call0_v5 val_main_call0_v3 val_main_call0_v1 val_main_call0_v0 Ideal.logistic
  pointwise [val_main_call0_v4, val_main_call0_v2, val_main_call0_cst, val_main_call0_cst_0]

/-- The reference's result at an element is the formula's entry. -/
theorem entry_apply (l : Fin 4) (r : Fin 24) (n : Fin 6144) : val_main_v5 (F := Ideal) x0 x1 x2 (ix3 l r n) = entry x0 x1 x2 l r n := by
  have h : entry x0 x1 x2 l r n = (∑ k, x1 (ix3 l k n) * val_main_v0 (F := Ideal) x0 (ix2 r k)) + x2 (ix2 l n) :=
    congrArg (· + x2 (ix2 l n)) (Finset.sum_congr rfl fun k _ => by rw [silu_apply]; exact mul_comm _ _)
  rw [h]
  clear h
  unfold val_main_v5 val_main_v2 val_main_v1
  generalize val_main_v0 (F := Ideal) x0 = h
  pointwise [val_main_v4, val_main_v3]

/-- The reference's result is the table. -/
theorem table_eq : val_main_v5 (F := Ideal) x0 x1 x2 = table x0 x1 x2 := by
  funext i
  refine Eq.trans (congrArg _ (funext fun a => ?_)) (entry_apply x0 x1 x2 (i 0) (i 1) (i 2))
  fin_cases a <;> rfl

end Cert.AdaRefIdeal.Hand

end
-- ==== Proof.OutFfnFirst.Join.lean ====
/- The tokens of the first layer as one array: the latents, then the context. -/
module

public import Idealize.ShloMosaic.Lib.Pointwise

@[expose] public section

noncomputable section

namespace Cert.Rows

open Idealize.ShloMosaic

/-- The latents' 2048 tokens of each batch element followed by the context's 256. -/
def joined (x : (⟨3, ![16, 2048, 1024]⟩ : Shape).Idx → EReal) (ctx : (⟨3, ![16, 256, 1024]⟩ : Shape).Idx → EReal) :
    (⟨3, ![16, 2304, 1024]⟩ : Shape).Idx → EReal :=
  fun i => if h : (i 1).val < 2048 then x (ix3 (i 0) ⟨(i 1).val, h⟩ (i 2))
    else ctx (ix3 (i 0) ⟨(i 1).val - 2048, by have : (i 1).val < 2304 := (i 1).isLt; omega⟩ (i 2))

variable (x : (⟨3, ![16, 2048, 1024]⟩ : Shape).Idx → EReal) (ctx : (⟨3, ![16, 256, 1024]⟩ : Shape).Idx → EReal)
  (b : Fin 16) (p : Fin 2304) (k : Fin 1024)

/-- A token below 2048 is a latent's. -/
theorem joined_latent (q : Fin 2048) (hq : p.val = q.val) : joined x ctx (ix3 b p k) = x (ix3 b q k) := by
  have h : p.val < 2048 := by omega
  exact (dif_pos h).trans (congrArg (fun q => x (ix3 b q k)) (Fin.ext hq))

/-- A token from 2048 on is the context's. -/
theorem joined_context (r : Fin 256) (hr : p.val = 2048 + r.val) : joined x ctx (ix3 b p k) = ctx (ix3 b r k) := by
  have h : ¬ p.val < 2048 := by omega
  exact (dif_neg h).trans (congrArg (fun r => ctx (ix3 b r k)) (Fin.ext (by show p.val - 2048 = r.val; omega)))

end Cert.Rows

end
-- ==== Proof.OutFfnFirst.Value.lean ====
/- What the kernel's run leaves in the result of the second half of the first layer: at every batch element and token the
   row formula of the arguments (Proof/Rows.lean). -/
module

public import proofs.«01_k».proof.Proof.Gen.OutFfnFirstIdeal.Value
public import proofs.«01_k».proof.Proof.Rows
public import proofs.«01_k».proof.Proof.OutFfnFirst.Join
public import Idealize.ShloMosaic.Lib.Pipeline.ValueKit

@[expose] public section

set_option maxRecDepth 16384

noncomputable section

namespace Cert.OutFfnFirstIdeal.Hand

open Cert.Rows (modRow modCol G joined joined_latent joined_context)
open Cert.OutFfnFirstIdeal Cert.OutFfnFirstIdeal.Gen Idealize.ShloMosaic Idealize.ShloMosaic.TcCoe Idealize.SL.Sem

variable (m : (ℓ : Loc nD τ sig) → Buf (Elt Ideal) ℓ)

/-- Where each window's block lies, at every grid point. -/
theorem places : ∀ t : Fin grid0.N,
    win0_0.index t = ![(grid0.coords t 0).val, 3 * (grid0.coords t 1).val, 0]
    ∧ win0_1.index t = ![(grid0.coords t 0).val, 3 * (grid0.coords t 1).val + 1, 0]
    ∧ win0_2.index t = ![(grid0.coords t 0).val, min (3 * (grid0.coords t 1).val + 2) 7, 0]
    ∧ win0_3.index t = ![(grid0.coords t 0).val, 0, 0]
    ∧ win0_4.index t = ![(grid0.coords t 0).val, (grid0.coords t 1).val, 0]
    ∧ win0_5.index t = ![(grid0.coords t 0).val, (grid0.coords t 1).val, 0]
    ∧ win0_6.index t = ![0, 0, 2] ∧ win0_7.index t = ![0, 0, 3] ∧ win0_8.index t = ![0, 0, 4] ∧ win0_9.index t = ![0, 0, 5]
    ∧ win0_10.index t = ![0, 0, 0] ∧ win0_11.index t = ![0, 0, 0] ∧ win0_12.index t = ![0, 0, 0] ∧ win0_13.index t = ![0, 0, 0]
    ∧ win0_14.index t = ![0, 0, 0]
    ∧ win0_16.index t = ![(grid0.coords t 0).val, (grid0.coords t 1).val, 0] := by decide +kernel

/-- The body's test «this 256-row piece is the context's», at every grid point and piece. -/
theorem isCtx : ∀ t : Fin grid0.N,
    Scalar.cmpi .sge (Scalar.muli (Scalar.addi (Scalar.muli (BitVec.ofNat 32 (grid0.coords t 1).val) 3#32) 0#32) 256#32) 2048#32 = BitVec.ofBool false
    ∧ Scalar.cmpi .sge (Scalar.muli (Scalar.addi (Scalar.muli (BitVec.ofNat 32 (grid0.coords t 1).val) 3#32) 1#32) 256#32) 2048#32 = BitVec.ofBool false
    ∧ Scalar.cmpi .sge (Scalar.muli (Scalar.addi (Scalar.muli (BitVec.ofNat 32 (grid0.coords t 1).val) 3#32) 2#32) 256#32) 2048#32
        = BitVec.ofBool (decide ((grid0.coords t 1).val = 2)) := by decide +kernel

section
variable (i : grid0.Coords) (b : BitVec 1) (xa xc : Vec Ideal S1x256x1024 .f32) (ml : Vec Ideal S1x256x1024 .bf16) (mix : Vec Ideal S1x256x512 .bf16)
  (wo : Vec Ideal S1x512x1024 .bf16) (g1a g1c n sca scc sha shc : Vec Ideal S1x1x1024 .f32)
  (w1 w3 : Vec Ideal S1x1024x2816 .bf16) (g2a g2c : Vec Ideal S1x1x1024 .f32) (w2 : Vec Ideal S1x2816x1024 .bf16)

/-- The first piece's stored vector is the piece of Proof/Rows.lean. -/
theorem piece_first : k0_pay18 (k0_pay2 i xa xc ml mix wo g1a g1c) (k0_pay10 (k0_pay5
      (Scalar.cmpi .sge (Scalar.muli (Scalar.addi (Scalar.muli (BitVec.ofNat 32 (i 1).val) 3#32) 0#32) 256#32) 2048#32)
      (k0_pay2 i xa xc ml mix wo g1a g1c) (k0_pay3 i xa xc ml mix wo g1a g1c) k0_pay4 n sca scc sha shc) w1 w3)
      (k0_pay16 (Scalar.cmpi .sge (Scalar.muli (Scalar.addi (Scalar.muli (BitVec.ofNat 32 (i 1).val) 3#32) 0#32) 256#32) 2048#32) g2a g2c) (k0_pay17 w2)
    = Rows.tile (Scalar.cmpi .sge (Scalar.muli (Scalar.addi (Scalar.muli (BitVec.ofNat 32 (i 1).val) 3#32) 0#32) 256#32) 2048#32)
        xa xc ml mix wo g1a g1c n sca scc sha shc w1 w3 g2a g2c w2 := rfl

/-- The second piece's stored vector is the piece of Proof/Rows.lean. -/
theorem piece_second : k0_pay20 b (k0_pay7 b (k0_pay6 xa) xc ml mix wo g1a g1c) (k0_pay15 (k0_pay9 b
      (k0_pay8 b (k0_pay6 xa) xc ml mix wo g1a g1c n) sca scc sha shc) w1 w3) g2a g2c w2
    = Rows.tile b xa xc ml mix wo g1a g1c n sca scc sha shc w1 w3 g2a g2c w2 := rfl

/-- The third piece's stored vector is the piece of Proof/Rows.lean. -/
theorem piece_third : k0_pay1 b (k0_pay12 b (k0_pay11 xa) xc ml mix wo g1a g1c) (k0_pay19 (k0_pay14 b
      (k0_pay13 b (k0_pay11 xa) xc ml mix wo g1a g1c n) sca scc sha shc) w1 w3) g2a g2c w2
    = Rows.tile b xa xc ml mix wo g1a g1c n sca scc sha shc w1 w3 g2a g2c w2 := rfl
end

/-- The modulation row a body loads for its own batch element, at every grid point. -/
theorem modOff : ∀ t : Fin grid0.N, k0_off1 (grid0.coords t) = ![0, (grid0.coords t 0).val, 0] := by decide +kernel

/-- A select on a true bit takes its first operand. -/
theorem select_on (u v : EReal) : Scalar.select (BitVec.ofBool true) u v = u := rfl

/-- A select on a false bit takes its second operand. -/
theorem select_off (u v : EReal) : Scalar.select (BitVec.ofBool false) u v = v := rfl

/-! ## What the body reads, at an element -/

section
variable (c : Dev nD) (t : Fin cfg0.N) (b : Fin 16) (p : Fin 2304) (r : Fin 256) (hb : b.val = (grid0.coords t 0).val)
include hb

/-- The first 256 token rows of the point. -/
theorem rd_x0 (hp : p.val = 768 * (grid0.coords t 1).val + 0 + r.val) (hl : p.val < 2048) (k : Fin 1024) :
    iblk m c 0 t (ix3 0 r k) = joined (m (c.tc.loc main_arg0)) (m (c.tc.loc main_arg1)) (ix3 b p k) := by
  obtain ⟨e, -⟩ := places t
  rw [joined_latent _ _ b p k ⟨p.val, hl⟩ rfl]
  blk_ext [iblk, V, e]

/-- The second 256 token rows of the point. -/
theorem rd_x1 (hp : p.val = 768 * (grid0.coords t 1).val + 256 + r.val) (hl : p.val < 2048) (k : Fin 1024) :
    iblk m c 1 t (ix3 0 r k) = joined (m (c.tc.loc main_arg0)) (m (c.tc.loc main_arg1)) (ix3 b p k) := by
  obtain ⟨-, e, -⟩ := places t
  rw [joined_latent _ _ b p k ⟨p.val, hl⟩ rfl]
  blk_ext [iblk, V, e]

/-- The third 256 token rows of the point. -/
theorem rd_x2 (hp : p.val = 768 * (grid0.coords t 1).val + 512 + r.val) (hl : p.val < 2048) (k : Fin 1024) :
    iblk m c 2 t (ix3 0 r k) = joined (m (c.tc.loc main_arg0)) (m (c.tc.loc main_arg1)) (ix3 b p k) := by
  obtain ⟨-, -, e, -⟩ := places t
  rw [joined_latent _ _ b p k ⟨p.val, hl⟩ rfl]
  blk_ext [iblk, V, e]

/-- The context's 256 token rows. -/
theorem rd_ctx (hp : p.val = 2048 + r.val) (k : Fin 1024) :
    iblk m c 3 t (ix3 0 r k) = joined (m (c.tc.loc main_arg0)) (m (c.tc.loc main_arg1)) (ix3 b p k) := by
  obtain ⟨-, -, -, e, -⟩ := places t
  rw [joined_context _ _ b p k r hp]
  blk_ext [iblk, V, e]

/-- A load of 256 rows of the mLSTM half. -/
theorem rd_ml (o : Nat) (inb) (hp : p.val = 768 * (grid0.coords t 1).val + o + r.val) (k : Fin 1024) :
    View.ld (iblk m c 4 t) (Rect.unit ![0, o, 0] ![1, 256, 1024] inb) (ix3 0 r k) = m (c.tc.loc main_arg2) (ix3 b p k) := by
  obtain ⟨-, -, -, -, e, -⟩ := places t
  have := inb 1
  refine (View.ld_unit_apply_of _ _ _ _ _ (ix3 0 ⟨o + r.val, by have : o + 256 ≤ 768 := inb 1; omega⟩ k) fun a => by fin_cases a <;> simp).trans ?_
  blk_ext [iblk, V, e]

/-- A load of 256 rows of the mixing half. -/
theorem rd_mix (o : Nat) (inb) (hp : p.val = 768 * (grid0.coords t 1).val + o + r.val) (k : Fin 512) :
    View.ld (iblk m c 5 t) (Rect.unit ![0, o, 0] ![1, 256, 512] inb) (ix3 0 r k) = m (c.tc.loc main_arg3) (ix3 b p k) := by
  obtain ⟨-, -, -, -, -, e, -⟩ := places t
  refine (View.ld_unit_apply_of _ _ _ _ _ (ix3 0 ⟨o + r.val, by have : o + 256 ≤ 768 := inb 1; omega⟩ k) fun a => by fin_cases a <;> simp).trans ?_
  blk_ext [iblk, V, e]

end

section
variable (c : Dev nD) (t : Fin cfg0.N) (o : Fin 3 → Nat) (inb : ∀ a, o a + S1x1x1024.size a ≤ S1x24x1024.size a) (q : Fin 24) (ho : o = ![0, q.val, 0])
include ho

/-- A load of one row of the first gate. -/
theorem rd_g1 (k : Fin 1024) : View.ld (iblk m c 6 t) (Rect.unit o ![1, 1, 1024] inb) (ix3 0 0 k)
    = m (c.tc.loc main_arg4) (ix3 0 q (modCol 2 (by decide) k)) := by
  obtain ⟨-, -, -, -, -, -, e, -⟩ := places t
  refine (View.ld_unit_apply_of _ _ _ _ _ (ix3 0 q k) fun a => by subst ho; fin_cases a <;> simp).trans ?_
  blk_ext [iblk, V, e, modCol]

/-- A load of one row of the shift. -/
theorem rd_sh (k : Fin 1024) : View.ld (iblk m c 7 t) (Rect.unit o ![1, 1, 1024] inb) (ix3 0 0 k)
    = m (c.tc.loc main_arg4) (ix3 0 q (modCol 3 (by decide) k)) := by
  obtain ⟨-, -, -, -, -, -, -, e, -⟩ := places t
  refine (View.ld_unit_apply_of _ _ _ _ _ (ix3 0 q k) fun a => by subst ho; fin_cases a <;> simp).trans ?_
  blk_ext [iblk, V, e, modCol]

/-- A load of one row of the scale. -/
theorem rd_sc (k : Fin 1024) : View.ld (iblk m c 8 t) (Rect.unit o ![1, 1, 1024] inb) (ix3 0 0 k)
    = m (c.tc.loc main_arg4) (ix3 0 q (modCol 4 (by decide) k)) := by
  obtain ⟨-, -, -, -, -, -, -, -, e, -⟩ := places t
  refine (View.ld_unit_apply_of _ _ _ _ _ (ix3 0 q k) fun a => by subst ho; fin_cases a <;> simp).trans ?_
  blk_ext [iblk, V, e, modCol]

/-- A load of one row of the second gate. -/
theorem rd_g2 (k : Fin 1024) : View.ld (iblk m c 9 t) (Rect.unit o ![1, 1, 1024] inb) (ix3 0 0 k)
    = m (c.tc.loc main_arg4) (ix3 0 q (modCol 5 (by decide) k)) := by
  obtain ⟨-, -, -, -, -, -, -, -, -, e, -⟩ := places t
  refine (View.ld_unit_apply_of _ _ _ _ _ (ix3 0 q k) fun a => by subst ho; fin_cases a <;> simp).trans ?_
  blk_ext [iblk, V, e, modCol]

end

/-- The layer's weights, at every point: their blocks are layer 0 of the whole stacks. -/
theorem rd_weights (c : Dev nD) (t : Fin cfg0.N) : (∀ k : Fin 1024, iblk m c 10 t (ix3 0 0 k) = m (c.tc.loc main_arg5) (ix3 0 0 k))
    ∧ (∀ (k : Fin 512) (j : Fin 1024), iblk m c 11 t (ix3 0 k j) = m (c.tc.loc main_arg6) (ix3 0 k j))
    ∧ (∀ (k : Fin 1024) (f : Fin 2816), iblk m c 12 t (ix3 0 k f) = m (c.tc.loc main_arg7) (ix3 0 k f))
    ∧ (∀ (k : Fin 1024) (f : Fin 2816), iblk m c 13 t (ix3 0 k f) = m (c.tc.loc main_arg8) (ix3 0 k f))
    ∧ (∀ (f : Fin 2816) (j : Fin 1024), iblk m c 14 t (ix3 0 f j) = m (c.tc.loc main_arg9) (ix3 0 f j)) := by
  obtain ⟨-, -, -, -, -, -, -, -, -, -, e10, e11, e12, e13, e14, -⟩ := places t
  refine ⟨fun k => ?_, fun k j => ?_, fun k f => ?_, fun k f => ?_, fun f j => ?_⟩
  · blk_ext [iblk, V, e10]
  · blk_ext [iblk, V, e11]
  · blk_ext [iblk, V, e12]
  · blk_ext [iblk, V, e13]
  · blk_ext [iblk, V, e14]

/-- A piece over what the body loads is the result at the piece's place. -/
theorem tile_eq (c : Dev nD) (t : Fin cfg0.N) (b : Fin 16) (p : Fin 2304) (r : Fin 256) (hb : b.val = (grid0.coords t 0).val) (o : Nat)
    (hp : p.val = 768 * (grid0.coords t 1).val + o + r.val) (hd : 2048 ≤ p.val → p.val = 2048 + r.val)
    (xc : Vec Ideal S1x256x1024 .f32) (hx : p.val < 2048 → ∀ k, xc (ix3 0 r k) = joined (m (c.tc.loc main_arg0)) (m (c.tc.loc main_arg1)) (ix3 b p k))
    (inbl inbm inbc inbt) (j : Fin 1024) :
    Rows.tile (BitVec.ofBool (decide (2048 ≤ p.val))) (iblk m c 3 t) xc (View.ld (iblk m c 4 t) (Rect.unit ![0, o, 0] ![1, 256, 1024] inbl))
      (View.ld (iblk m c 5 t) (Rect.unit ![0, o, 0] ![1, 256, 512] inbm)) (iblk m c 11 t)
      (View.ld (iblk m c 6 t) (Rect.unit ![0, 16, 0] ![1, 1, 1024] inbc)) (View.ld (iblk m c 6 t) (Rect.unit (k0_off1 (grid0.coords t)) ![1, 1, 1024] inbt))
      (iblk m c 10 t)
      (View.ld (iblk m c 8 t) (Rect.unit ![0, 16, 0] ![1, 1, 1024] inbc)) (View.ld (iblk m c 8 t) (Rect.unit (k0_off1 (grid0.coords t)) ![1, 1, 1024] inbt))
      (View.ld (iblk m c 7 t) (Rect.unit ![0, 16, 0] ![1, 1, 1024] inbc)) (View.ld (iblk m c 7 t) (Rect.unit (k0_off1 (grid0.coords t)) ![1, 1, 1024] inbt))
      (iblk m c 12 t) (iblk m c 13 t)
      (View.ld (iblk m c 9 t) (Rect.unit ![0, 16, 0] ![1, 1, 1024] inbc)) (View.ld (iblk m c 9 t) (Rect.unit (k0_off1 (grid0.coords t)) ![1, 1, 1024] inbt))
      (iblk m c 14 t) (ix3 0 r j)
    = G 0 (joined (m (c.tc.loc main_arg0)) (m (c.tc.loc main_arg1))) (m (c.tc.loc main_arg2)) (m (c.tc.loc main_arg3)) (m (c.tc.loc main_arg4)) (m (c.tc.loc main_arg5))
      (m (c.tc.loc main_arg6)) (m (c.tc.loc main_arg7)) (m (c.tc.loc main_arg8)) (m (c.tc.loc main_arg9)) b p j := by
  obtain ⟨hn, hwo, hw1, hw3, hw2⟩ := rd_weights m c t
  rw [Rows.tile_apply]
  unfold G
  by_cases hc : 2048 ≤ p.val
  · have hr : modRow b p = 16 := if_pos hc
    simp only [decide_eq_true hc, select_on, hr]
    exact congrFun (Rows.row_congr (rd_ctx m c t b p r hb (hd hc)) (rd_ml m c t b p r hb o inbl hp) (rd_mix m c t b p r hb o inbm hp)
      (rd_g1 m c t _ inbc 16 rfl) (rd_sh m c t _ inbc 16 rfl) (rd_sc m c t _ inbc 16 rfl) (rd_g2 m c t _ inbc 16 rfl) hn hwo hw1 hw3 hw2) j
  · have hr : modRow b p = ⟨b.val, by omega⟩ := if_neg hc
    have ho : k0_off1 (grid0.coords t) = ![0, b.val, 0] := hb ▸ modOff t
    simp only [decide_eq_false hc, select_off, hr]
    exact congrFun (Rows.row_congr (hx (by omega)) (rd_ml m c t b p r hb o inbl hp) (rd_mix m c t b p r hb o inbm hp)
      (rd_g1 m c t _ inbt _ ho) (rd_sh m c t _ inbt _ ho) (rd_sc m c t _ inbt _ ho) (rd_g2 m c t _ inbt _ ho) hn hwo hw1 hw3 hw2) j

/-- What a body leaves in the output's block, at an element, is the result at the element's place. -/
theorem out_apply (c : Dev nD) (t : Fin cfg0.N) (y : S1x768x1024.Idx) (b : Fin 16) (p : Fin 2304) (j : Fin 1024)
    (hb : b.val = (grid0.coords t 0).val) (hp : p.val = 768 * (grid0.coords t 1).val + (y 1).val) (hj : j.val = (y 2).val) :
    outsAt0 m c t y = G 0 (joined (m (c.tc.loc main_arg0)) (m (c.tc.loc main_arg1))) (m (c.tc.loc main_arg2)) (m (c.tc.loc main_arg3)) (m (c.tc.loc main_arg4)) (m (c.tc.loc main_arg5))
      (m (c.tc.loc main_arg6)) (m (c.tc.loc main_arg7)) (m (c.tc.loc main_arg8)) (m (c.tc.loc main_arg9)) b p j := by
  obtain ⟨c0, c1, c2⟩ := isCtx t
  have ht : (grid0.coords t 1).val < 3 := (grid0.coords t 1).isLt
  unfold outsAt0
  frame_out
  canon_tiles y h
  all_goals
    idx_vars y
    obtain rfl : y0 = 0 := by omega
    obtain rfl : y2 = j := Fin.ext (by omega)
  · rw [piece_third, c2, show decide ((grid0.coords t 1).val = 2) = decide (2048 ≤ p.val) from decide_eq_decide.mpr (by omega)]
    exact tile_eq m c t b p y1 hb 512 (by omega) (by omega) _ (rd_x2 m c t b p y1 hb (by omega)) _ _ _ _ _
  · rw [piece_second, c1, ← decide_eq_false (p := 2048 ≤ p.val) (by omega)]
    exact tile_eq m c t b p y1 hb 256 (by omega) (by omega) _ (rd_x1 m c t b p y1 hb (by omega)) _ _ _ _ _
  · rw [piece_first, c0, ← decide_eq_false (p := 2048 ≤ p.val) (by omega)]
    exact tile_eq m c t b p y1 hb 0 (by omega) (by omega) _ (rd_x0 m c t b p y1 hb (by omega)) _ _ _ _ _

/-- The kernel's result array after the run. -/
theorem arr_eq (c : Dev nD) : (dats m 0 c).arrAt 16 cfg0.N = fun i => G 0 (joined (m (c.tc.loc main_arg0)) (m (c.tc.loc main_arg1))) (m (c.tc.loc main_arg2)) (m (c.tc.loc main_arg3))
    (m (c.tc.loc main_arg4)) (m (c.tc.loc main_arg5)) (m (c.tc.loc main_arg6)) (m (c.tc.loc main_arg7)) (m (c.tc.loc main_arg8)) (m (c.tc.loc main_arg9))
    (i 0) (i 1) (i 2) := by
  refine (dats m 0 c).arrAt_eq_of_covers 16 _ (by decide +kernel) fun t hf y => ?_
  obtain ⟨-, -, -, -, -, -, -, -, -, -, -, -, -, -, -, e16⟩ := places t
  blk_simp
  rw [after0_16]
  refine out_apply m c t _ _ _ _ ?_ ?_ ?_
  all_goals blk_simp [e16]
  omega

end Cert.OutFfnFirstIdeal.Hand

end
-- ==== Proof.OutFfnFirst.Reference.lean ====
/- What the reference of the first layer's second half leaves in its result: at every batch element and token the row formula
   (Proof/Rows.lean), read stage by stage. -/
module

public import proofs.«01_k».proof.Proof.Gen.OutFfnFirstRefIdeal.Read
public import proofs.«01_k».proof.Proof.Rows
public import proofs.«01_k».proof.Proof.OutFfnFirst.Join
public import Idealize.ShloMosaic.Lib.Pointwise

@[expose] public section

set_option maxRecDepth 16384

noncomputable section

namespace Cert.OutFfnFirstRefIdeal.Hand

open Cert.Rows Cert.OutFfnFirstRefIdeal Cert.OutFfnFirstRefIdeal.Gen Cert.OutFfnFirstRefIdeal.Read Idealize.ShloMosaic Idealize.ShloMosaic.TcCoe

variable (x0 : (⟨S16x2048x1024, .f32⟩ : BufTy).Contents (Elt Ideal)) (x1 : (⟨S16x256x1024, .f32⟩ : BufTy).Contents (Elt Ideal))
  (x2 : (⟨S16x2304x1024, .bf16⟩ : BufTy).Contents (Elt Ideal)) (x3 : (⟨S16x2304x512, .bf16⟩ : BufTy).Contents (Elt Ideal))
  (x4 : (⟨S4x24x6144, .f32⟩ : BufTy).Contents (Elt Ideal)) (x5 : (⟨S4x1x1024, .f32⟩ : BufTy).Contents (Elt Ideal))
  (x6 : (⟨S4x512x1024, .bf16⟩ : BufTy).Contents (Elt Ideal)) (x7 x8 : (⟨S4x1024x2816, .bf16⟩ : BufTy).Contents (Elt Ideal))
  (x9 : (⟨S4x2816x1024, .bf16⟩ : BufTy).Contents (Elt Ideal))

/-- The modulation vectors laid out per token: a token's row of the table. -/
theorem mods_apply (b : Fin 16) (p : Fin 2304) (k : Fin 6144) : val_main_v21 (F := Ideal) x4 (ix3 b p k) = x4 (ix3 0 (modRow b p) k) := by
  unfold modRow
  by_cases hc : 2048 ≤ p.val
  · rw [if_pos hc]
    pointwise [val_main_v21, val_main_v20, val_main_v19, val_main_v18, val_main_v17, val_main_v16, val_main_v15, val_main_v14]
    exact dif_neg (by omega)
  · rw [if_neg hc]
    pointwise [val_main_v21, val_main_v20, val_main_v19, val_main_v18, val_main_v17, val_main_v16, val_main_v15, val_main_v14]
    exact dif_pos (by omega)

/-- The latents and the context laid out one after the other. -/
theorem tokens_apply (b : Fin 16) (p : Fin 2304) (k : Fin 1024) : val_main_v28 (F := Ideal) x0 x1 (ix3 b p k) = joined x0 x1 (ix3 b p k) := by
  by_cases hc : 2048 ≤ p.val
  · rw [joined_context x0 x1 b p k ⟨p.val - 2048, by omega⟩ (by show p.val = 2048 + (p.val - 2048); omega)]
    pointwise [val_main_v28]
    exact dif_neg (by omega)
  · rw [joined_latent x0 x1 b p k ⟨p.val, by omega⟩ rfl]
    pointwise [val_main_v28]
    exact dif_pos (by omega)

/-- The residual row. -/
theorem resid_apply (b : Fin 16) (p : Fin 2304) (j : Fin 1024) : val_main_v34 (F := Ideal) x0 x1 x2 x3 x4 x6 (ix3 b p j)
    = resid (fun k => joined x0 x1 (ix3 b p k)) (fun k => x2 (ix3 b p k)) (fun k => x4 (ix3 0 (modRow b p) (modCol 2 (by decide) k)))
        (fun k => x3 (ix3 b p k)) (fun k j => x6 (ix3 0 k j)) j := by
  unfold resid
  simp only [← mods_apply, ← tokens_apply]
  unfold val_main_v34
  generalize val_main_v28 (F := Ideal) x0 x1 = xs
  pointwise [val_main_v33, val_main_v32, val_main_v31, val_main_v24, val_main_v10, val_main_v9, val_main_v8, val_main_v1, val_main_v0, modCol]

/-- The normalised and modulated row. -/
theorem modulated_apply (b : Fin 16) (p : Fin 2304) (j : Fin 1024) : val_main_v51 (F := Ideal) x0 x1 x2 x3 x4 x5 x6 (ix3 b p j)
    = modulated (fun k => val_main_v34 (F := Ideal) x0 x1 x2 x3 x4 x6 (ix3 b p k)) (fun k => x5 (ix3 0 0 k))
        (fun k => x4 (ix3 0 (modRow b p) (modCol 4 (by decide) k))) (fun k => x4 (ix3 0 (modRow b p) (modCol 3 (by decide) k))) j := by
  unfold val_main_v51 val_main_v50 val_main_v47 val_main_v44 val_main_v43 val_main_v42 val_main_v41 val_main_v39 val_main_v37 val_main_v36 val_main_v35
  generalize val_main_v34 (F := Ideal) x0 x1 x2 x3 x4 x6 = y
  unfold modulated unitRow
  simp only [← mods_apply]
  pointwise [val_main_v25, val_main_v26, val_main_v29, val_main_v30, val_main_v38, val_main_v40, val_main_v45, val_main_v46, val_main_v48, val_main_v49, val_main_cst, val_main_cst_0, val_main_cst_1, val_main_cst_2, modCol]

/-- The gated hidden row. -/
theorem hidden_apply (b : Fin 16) (p : Fin 2304) (f : Fin 2816) : val_main_v55 (F := Ideal) x0 x1 x2 x3 x4 x5 x6 x7 x8 (ix3 b p f)
    = Rows.hidden (fun k => val_main_v51 (F := Ideal) x0 x1 x2 x3 x4 x5 x6 (ix3 b p k)) (fun k f => x7 (ix3 0 k f)) (fun k f => x8 (ix3 0 k f)) f := by
  unfold val_main_v55 val_main_v54 val_main_v53 val_main_call0_v5 val_main_call0_v3 val_main_call0_v1 val_main_call0_v0 val_main_v52
  generalize val_main_v51 (F := Ideal) x0 x1 x2 x3 x4 x5 x6 = h
  unfold Rows.hidden Ideal.logistic
  pointwise [val_main_v12, val_main_v11, val_main_v5, val_main_v4, val_main_v3, val_main_v2, val_main_call0_v4, val_main_call0_v2, val_main_call0_cst, val_main_call0_cst_0]

/-- The reference's result at an element is the second half of layer 0 at that token. -/
theorem result_apply (b : Fin 16) (p : Fin 2304) (j : Fin 1024) : val_main_v58 (F := Ideal) x0 x1 x2 x3 x4 x5 x6 x7 x8 x9 (ix3 b p j)
    = G 0 (joined x0 x1) x2 x3 x4 x5 x6 x7 x8 x9 b p j := by
  have hX := fun k => resid_apply x0 x1 x2 x3 x4 x6 b p k
  have hH := fun k => modulated_apply x0 x1 x2 x3 x4 x5 x6 b p k
  have hA := fun f => hidden_apply x0 x1 x2 x3 x4 x5 x6 x7 x8 b p f
  simp only [hX] at hH
  simp only [hH] at hA
  unfold G row closed
  rw [← hX j]
  simp only [← hA]
  simp only [← mods_apply]
  unfold val_main_v58 val_main_v57 val_main_v56
  generalize val_main_v34 (F := Ideal) x0 x1 x2 x3 x4 x6 = y
  generalize val_main_v55 (F := Ideal) x0 x1 x2 x3 x4 x5 x6 x7 x8 = a
  pointwise [val_main_v27, val_main_v13, val_main_v7, val_main_v6, modCol]

end Cert.OutFfnFirstRefIdeal.Hand

end
-- ==== Proof.InProjFirst.Value.lean ====
/- What the kernel's run leaves in the five results of the first layer's input projection: at every element the formulas of the arguments
   (Proof/InProj/Formula.lean), the tokens the latents' and then the context's. -/
module

public import proofs.«01_k».proof.Proof.Gen.InProjFirstIdeal.Value
public import proofs.«01_k».proof.Proof.InProj.Pieces
public import proofs.«01_k».proof.Proof.InProj.Mix
public import proofs.«01_k».proof.Proof.OutFfnFirst.Join
public import Idealize.ShloMosaic.Lib.Pipeline.ValueKit
public import Idealize.ShloMosaic.Lib.Pipeline.ReadBack

@[expose] public section

set_option maxRecDepth 16384

noncomputable section

namespace Cert.InProjFirstIdeal.Hand

open Cert.Rows (Row modRow modCol joined joined_latent joined_context)
open Cert.InProjFirstIdeal Cert.InProjFirstIdeal.Gen Cert.InProjIdeal.Hand Idealize.ShloMosaic Idealize.ShloMosaic.TcCoe Idealize.SL.Sem

/-! ## The body's vectors

The body is that of the later layers' projection: each vector it makes of a piece is the one `InProj/Pieces.lean` and
`InProj/Mix.lean` read. -/

section
variable (b : BitVec 1) (xc xa : Vec Ideal S1x256x1024 .f32) (n scc sca shc sha : Vec Ideal S1x1x1024 .f32)

/-- The first piece's modulated rows. -/
theorem hb_first (i : grid0.Coords) : k0_pay17 (Scalar.cmpi .sge (Scalar.muli (Scalar.addi (Scalar.muli (BitVec.ofNat 32 (i 1).val) 3#32) 0#32) 256#32) 2048#32)
      (k0_pay14 i xc xa n) (k0_pay15 scc) (k0_pay16 sca) shc sha
    = hb (Scalar.cmpi .sge (Scalar.muli (Scalar.addi (Scalar.muli (BitVec.ofNat 32 (i 1).val) 3#32) 0#32) 256#32) 2048#32) xc xa n scc sca shc sha := rfl

/-- The second piece's modulated rows. -/
theorem hb_second (a : BitVec 32) : k0_pay19 (Scalar.cmpi .sge (Scalar.muli (Scalar.addi (Scalar.muli a 3#32) 1#32) 256#32) 2048#32)
      (k0_pay18 a xc xa n) scc sca shc sha
    = hb (Scalar.cmpi .sge (Scalar.muli (Scalar.addi (Scalar.muli a 3#32) 1#32) 256#32) 2048#32) xc xa n scc sca shc sha := rfl

end

section
variable (h : FVec Ideal S256x1024 .bf16) (w : Vec Ideal S1024x2816 .bf16) (wk : Vec Ideal S1x528x1024 .bf16)

/-! The pieces of the first result, of the keys and of the gates. -/

theorem pml_first : k0_pay21 h w = InProjIdeal.Gen.k0_pay59 h w := rfl
theorem pml_second : k0_pay33 h w = InProjIdeal.Gen.k0_pay59 h w := rfl
theorem pml_third : k0_pay59 h w = InProjIdeal.Gen.k0_pay59 h w := rfl
theorem kt_left_first : k0_pay24 (k0_pay23 h wk) = InProjIdeal.Gen.k0_pay61 h wk := rfl
theorem kt_left_second : k0_pay35 h wk = InProjIdeal.Gen.k0_pay61 h wk := rfl
theorem kt_left_third : k0_pay61 h wk = InProjIdeal.Gen.k0_pay61 h wk := rfl
theorem kt_right_first : k0_pay27 (k0_pay22 h wk) = InProjIdeal.Gen.k0_pay65 (InProjIdeal.Gen.k0_pay60 h wk) := rfl
theorem kt_right_second : k0_pay38 h wk = InProjIdeal.Gen.k0_pay65 (InProjIdeal.Gen.k0_pay60 h wk) := rfl
theorem kt_right_third : k0_pay65 (k0_pay60 h wk) = InProjIdeal.Gen.k0_pay65 (InProjIdeal.Gen.k0_pay60 h wk) := rfl
theorem gi_left_first : k0_pay25 (k0_pay22 h wk) = InProjIdeal.Gen.k0_pay63 (InProjIdeal.Gen.k0_pay62 h wk) := rfl
theorem gi_left_second : k0_pay36 h wk = InProjIdeal.Gen.k0_pay63 (InProjIdeal.Gen.k0_pay62 h wk) := rfl
theorem gi_left_third : k0_pay63 (k0_pay62 h wk) = InProjIdeal.Gen.k0_pay63 (InProjIdeal.Gen.k0_pay62 h wk) := rfl
theorem gi_right_first : k0_pay28 (k0_pay22 h wk) = InProjIdeal.Gen.k0_pay66 (InProjIdeal.Gen.k0_pay60 h wk) := rfl
theorem gi_right_second : k0_pay39 (k0_pay34 h wk) = InProjIdeal.Gen.k0_pay66 (InProjIdeal.Gen.k0_pay60 h wk) := rfl
theorem gi_right_third : k0_pay66 (k0_pay60 h wk) = InProjIdeal.Gen.k0_pay66 (InProjIdeal.Gen.k0_pay60 h wk) := rfl
theorem gf_left_first : k0_pay26 (k0_pay22 h wk) = InProjIdeal.Gen.k0_pay64 (InProjIdeal.Gen.k0_pay60 h wk) := rfl
theorem gf_left_second : k0_pay37 h wk = InProjIdeal.Gen.k0_pay64 (InProjIdeal.Gen.k0_pay60 h wk) := rfl
theorem gf_left_third : k0_pay64 (k0_pay60 h wk) = InProjIdeal.Gen.k0_pay64 (InProjIdeal.Gen.k0_pay60 h wk) := rfl
theorem gf_right_first : k0_pay29 (k0_pay22 h wk) = InProjIdeal.Gen.k0_pay67 (InProjIdeal.Gen.k0_pay60 h wk) := rfl
theorem gf_right_second : k0_pay40 (k0_pay34 h wk) = InProjIdeal.Gen.k0_pay67 (InProjIdeal.Gen.k0_pay60 h wk) := rfl
theorem gf_right_third : k0_pay67 (k0_pay60 h wk) = InProjIdeal.Gen.k0_pay67 (InProjIdeal.Gen.k0_pay60 h wk) := rfl
end

section
variable (b : BitVec 1) (c0 c1 c2 gn : Vec Ideal S1x1x256 .f32) (gb : Vec Ideal S1x128x256 .f32) (gw : Vec Ideal S1x128x512 .bf16)

/-- The first piece's stored vector. -/
theorem mix_first (h : FVec Ideal S256x1024 .bf16) (w : Vec Ideal S1024x2816 .bf16) :
    k0_pay57 (k0_pay47 (k0_pay43 (k0_pay30 (k0_pay20 h w))) (k0_pay44 (k0_pay30 (k0_pay20 h w))) (k0_pay45 b (k0_pay30 (k0_pay20 h w)))
        (k0_pay46 b (k0_pay30 (k0_pay20 h w)) c0) c1 c2) (k0_pay48 (k0_pay30 (k0_pay20 h w)))
      (k0_pay55 (k0_pay49 (k0_pay30 (k0_pay20 h w)) gn) k0_pay50 k0_pay51 k0_pay52 gb gw)
      (k0_pay56 (k0_pay49 (k0_pay30 (k0_pay20 h w)) gn) k0_pay50 k0_pay51 k0_pay52) gb gw
    = mixPiece b (InProjIdeal.Gen.k0_pay68 (InProjIdeal.Gen.k0_pay58 h w)) c0 c1 c2 gn gb gw := rfl

/-- The second piece's stored vector. -/
theorem mix_second (h : FVec Ideal S256x1024 .bf16) (w : Vec Ideal S1024x2816 .bf16) :
    k0_pay82 (k0_pay73 (k0_pay69 b) (Scalar.select b 255#32 63#32) (k0_pay70 (k0_pay41 (k0_pay32 h w))) (k0_pay71 (k0_pay41 (k0_pay32 h w)))
        (k0_pay72 b) 1#32 c0 c1 c2) (k0_pay74 (k0_pay41 (k0_pay32 h w))) (k0_pay77 (k0_pay75 (k0_pay41 (k0_pay32 h w))) (k0_pay76 gn)) k0_pay78 k0_pay79
      (k0_pay80 (k0_pay75 (k0_pay41 (k0_pay32 h w))) (k0_pay76 gn)) (k0_pay81 gb) gw gb gw
    = mixPiece b (InProjIdeal.Gen.k0_pay68 (InProjIdeal.Gen.k0_pay58 h w)) c0 c1 c2 gn gb gw := rfl

/-- The third piece's stored vector. -/
theorem mix_third (h : FVec Ideal S256x1024 .bf16) (w : Vec Ideal S1024x2816 .bf16) :
    k0_pay1 (k0_pay86 (k0_pay68 (k0_pay58 h w)) (k0_pay83 b) (Scalar.select b 255#32 63#32) (k0_pay84 (k0_pay68 (k0_pay58 h w)))
        (k0_pay85 (k0_pay68 (k0_pay58 h w))) c0 c1 c2) (k0_pay87 (k0_pay68 (k0_pay58 h w)))
      (k0_pay93 (k0_pay92 (k0_pay88 (k0_pay68 (k0_pay58 h w))) gn) gb gw)
      (k0_pay94 (k0_pay89 (k0_pay88 (k0_pay68 (k0_pay58 h w))) gn) k0_pay90 k0_pay91 gb gw)
    = mixPiece b (InProjIdeal.Gen.k0_pay68 (InProjIdeal.Gen.k0_pay58 h w)) c0 c1 c2 gn gb gw := rfl

end

variable (m : (ℓ : Loc nD τ sig) → Buf (Elt Ideal) ℓ)

/-- Where each window's block lies, at every grid point. -/
theorem places : ∀ t : Fin grid0.N,
    win0_0.index t = ![(grid0.coords t 0).val, 3 * (grid0.coords t 1).val, 0]
    ∧ win0_1.index t = ![(grid0.coords t 0).val, 3 * (grid0.coords t 1).val + 1, 0]
    ∧ win0_2.index t = ![(grid0.coords t 0).val, min (3 * (grid0.coords t 1).val + 2) 7, 0]
    ∧ win0_3.index t = ![(grid0.coords t 0).val, 0, 0]
    ∧ win0_4.index t = ![0, 0, 0] ∧ win0_5.index t = ![0, 0, 1]
    ∧ win0_6.index t = ![0, 0, 0] ∧ win0_7.index t = ![0, 0, 0] ∧ win0_8.index t = ![0, 0, 0] ∧ win0_9.index t = ![0, 0, 0]
    ∧ win0_10.index t = ![0, 0, 0] ∧ win0_11.index t = ![0, 0, 0] ∧ win0_12.index t = ![0, 0, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0, 0]
    ∧ win0_16.index t = ![(grid0.coords t 0).val, (grid0.coords t 1).val, 0]
    ∧ win0_17.index t = ![(grid0.coords t 0).val, (grid0.coords t 1).val, 0] := by decide +kernel

/-- The body's test «this 256-row piece is the context's», at every grid point and piece. -/
theorem isCtx : ∀ t : Fin grid0.N,
    Scalar.cmpi .sge (Scalar.muli (Scalar.addi (Scalar.muli (BitVec.ofNat 32 (grid0.coords t 1).val) 3#32) 0#32) 256#32) 2048#32
        = BitVec.ofBool (decide (2048 ≤ 768 * (grid0.coords t 1).val + 0))
    ∧ Scalar.cmpi .sge (Scalar.muli (Scalar.addi (Scalar.muli (BitVec.ofNat 32 (grid0.coords t 1).val) 3#32) 1#32) 256#32) 2048#32
        = BitVec.ofBool (decide (2048 ≤ 768 * (grid0.coords t 1).val + 256))
    ∧ Scalar.cmpi .sge (Scalar.muli (Scalar.addi (Scalar.muli (BitVec.ofNat 32 (grid0.coords t 1).val) 3#32) 2#32) 256#32) 2048#32
        = BitVec.ofBool (decide (2048 ≤ 768 * (grid0.coords t 1).val + 512)) := by decide +kernel

/-- The modulation row a body loads for its own batch element, at every grid point. -/
theorem modOff : ∀ t : Fin grid0.N, k0_off1 (grid0.coords t) = ![0, (grid0.coords t 0).val, 0] := by decide +kernel

/-! ## The weight's copy, kept from the first point on -/

/-- The re-laid weight: its element is the layer's main weight's, transposed and its columns moved. -/
def cols (c : Dev nD) : Vec Ideal S1024x2816 .bf16 := fun i => m (c.tc.loc main_arg4) (ix3 0 (src (i 1)) (i 0))

/-- A load of 256 rows of the main weight. -/
theorem rd_w (c : Dev nD) (t : Fin cfg0.N) (o : Nat) (inb) (k : Fin 1024) (j : Fin 256) :
    View.ld (iblk m c 7 t) (Rect.unit ![0, o, 0] ![1, 256, 1024] inb) (ix3 0 j k)
      = m (c.tc.loc main_arg4) (ix3 0 ⟨o + j.val, by have : o + 256 ≤ 3344 := inb 1; omega⟩ k) := by
  obtain ⟨-, -, -, -, -, -, -, e, -⟩ := places t
  refine (View.ld_unit_apply_of _ _ _ _ _ (ix3 0 ⟨o + j.val, by have : o + 256 ≤ 3344 := inb 1; omega⟩ k) fun a => by fin_cases a <;> simp).trans ?_
  blk_ext [iblk, V, e]

/-- A piece of the copy holds the rows its columns are. -/
theorem col_eq (c : Dev nD) (t : Fin cfg0.N) (o : Nat) (inb) (k : Fin 1024) (j : Fin 256) (j' : Fin 2816) (h : o + j.val = (src j').val) :
    k0_pay2 (View.ld (iblk m c 7 t) (Rect.unit ![0, o, 0] ![1, 256, 1024] inb)) (ix2 k j) = cols m c (ix2 k j') := by
  refine (col_apply _ _ _).trans ?_
  rw [rd_w]
  exact congrArg (fun q => m (c.tc.loc main_arg4) (ix3 0 q k)) (Fin.ext h)

/-- What the first point's body reads of the weight's copy: the elements its eleven stores have left. -/
theorem readW (c : Dev nD) (t : Fin cfg0.N) : (View.whole cc0_scratch0).readCov [
    ⟨Rect.unit ![0, 2560] ![1024, 256] inb_S1024x2816_S1024x256_0_2560, k0_pay13 (View.ld (iblk m c 7 t) (Rect.unit ![0, 3088, 0] ![1, 256, 1024] inb_S1x3344x1024_S1x256x1024_0_3088_0))⟩,
    ⟨Rect.unit ![0, 2304] ![1024, 256] inb_S1024x2816_S1024x256_0_2304, k0_pay12 (View.ld (iblk m c 7 t) (Rect.unit ![0, 2832, 0] ![1, 256, 1024] inb_S1x3344x1024_S1x256x1024_0_2832_0))⟩,
    ⟨Rect.unit ![0, 2048] ![1024, 256] inb_S1024x2816_S1024x256_0_2048, k0_pay11 (k0_pay10 (View.ld (iblk m c 7 t) (Rect.unit ![0, 2576, 0] ![1, 256, 1024] inb_S1x3344x1024_S1x256x1024_0_2576_0)))⟩,
    ⟨Rect.unit ![0, 1792] ![1024, 256] inb_S1024x2816_S1024x256_0_1792, k0_pay9 (View.ld (iblk m c 7 t) (Rect.unit ![0, 2320, 0] ![1, 256, 1024] inb_S1x3344x1024_S1x256x1024_0_2320_0))⟩,
    ⟨Rect.unit ![0, 1536] ![1024, 256] inb_S1024x2816_S1024x256_0_1536, k0_pay8 (View.ld (iblk m c 7 t) (Rect.unit ![0, 2064, 0] ![1, 256, 1024] inb_S1x3344x1024_S1x256x1024_0_2064_0))⟩,
    ⟨Rect.unit ![0, 1280] ![1024, 256] inb_S1024x2816_S1024x256_0_1280, k0_pay7 (View.ld (iblk m c 7 t) (Rect.unit ![0, 1808, 0] ![1, 256, 1024] inb_S1x3344x1024_S1x256x1024_0_1808_0))⟩,
    ⟨Rect.unit ![0, 1024] ![1024, 256] inb_S1024x2816_S1024x256_0_1024, k0_pay6 (View.ld (iblk m c 7 t) (Rect.unit ![0, 1552, 0] ![1, 256, 1024] inb_S1x3344x1024_S1x256x1024_0_1552_0))⟩,
    ⟨Rect.unit ![0, 768] ![1024, 256] inb_S1024x2816_S1024x256_0_768, k0_pay5 (View.ld (iblk m c 7 t) (Rect.unit ![0, 1296, 0] ![1, 256, 1024] inb_S1x3344x1024_S1x256x1024_0_1296_0))⟩,
    ⟨Rect.unit ![0, 512] ![1024, 256] inb_S1024x2816_S1024x256_0_512, k0_pay4 (View.ld (iblk m c 7 t) (Rect.unit ![0, 1040, 0] ![1, 256, 1024] inb_S1x3344x1024_S1x256x1024_0_1040_0))⟩,
    ⟨Rect.unit ![0, 256] ![1024, 256] inb_S1024x2816_S1024x256_0_256, k0_pay3 (View.ld (iblk m c 7 t) (Rect.unit ![0, 768, 0] ![1, 256, 1024] inb_S1x3344x1024_S1x256x1024_0_768_0))⟩,
    ⟨Rect.unit ![0, 0] ![1024, 256] inb_S1024x2816_S1024x256_0_0, k0_pay2 (View.ld (iblk m c 7 t) (Rect.unit ![0, 512, 0] ![1, 256, 1024] inb_S1x3344x1024_S1x256x1024_0_512_0))⟩] (Rect.unit ![0, 0] ![1024, 2816] (by decide)).toLoadRect = cols m c := by
  rw [View.readCov_eq_canon']
  funext y
  rw [show (Rect.unit (s := S1024x2816) ![0, 0] ![1024, 2816] (by decide)).toLoadRect.idx y = y from by
    funext a; fin_cases a <;> apply Fin.ext <;> simp [Rect.toLoadRect]]
  rw [show cols m c y = cols m c (ix2 ⟨(y 0).val, (y 0).isLt⟩ ⟨(y 1).val, (y 1).isLt⟩) from congrArg _ (by funext a; fin_cases a <;> rfl)]
  generalize hk : (⟨(y 0).val, (y 0).isLt⟩ : Fin 1024) = k
  generalize hj : (⟨(y 1).val, (y 1).isLt⟩ : Fin 2816) = j
  replace hk : k.val = (y 0).val := hk ▸ rfl
  replace hj : j.val = (y 1).val := hj ▸ rfl
  canon_tiles y h
  all_goals
    idx_vars y
    obtain rfl : y0 = k := Fin.ext (by omega)
    refine col_eq m c t _ _ y0 y1 j ?_
    unfold src
    split_ifs <;> simp <;> omega

/-- After a first point the weight's copy holds the layer's main weight, transposed. -/
theorem copied_first (c : Dev nD) (t : Fin cfg0.N) (h0 : t.val % 48 = 0) (y : S1024x2816.Idx) (k : Fin 1024) (j : Fin 2816) (hk : k.val = (y 0).val) (hj : j.val = (y 1).val) :
    (outsAt0 m c t.val t.isLt).2.2.2.2.2 y = cols m c (ix2 k j) := by
  rw [outsAt0_A m c t h0]
  dsimp only
  frame_out
  canon_tiles y h
  all_goals
    idx_vars y
    obtain rfl : y0 = k := Fin.ext (by omega)
    refine col_eq m c t _ _ y0 y1 j ?_
    unfold src
    split_ifs <;> simp <;> omega

/-- After every point the weight's copy holds the layer's main weight, transposed. -/
theorem copied (c : Dev nD) : ∀ (n : Nat) (hn : n < cfg0.N), (outsAt0 m c n hn).2.2.2.2.2 = cols m c := by
  intro n
  induction n using Nat.strong_induction_on with
  | _ n ih =>
    intro hn
    by_cases h0 : n % 48 = 0
    · funext y
      rw [show cols m c y = cols m c (ix2 ⟨(y 0).val, (y 0).isLt⟩ ⟨(y 1).val, (y 1).isLt⟩) from congrArg _ (by funext a; fin_cases a <;> rfl)]
      exact copied_first m c ⟨n, hn⟩ h0 y _ _ rfl rfl
    · have := outsAt0_B m c ⟨n, hn⟩ h0
      dsimp only at this
      rw [this]
      dsimp only
      exact ih (n - 1) (by omega) _

/-! ## What the body reads, at an element -/

section
variable (c : Dev nD) (t : Fin cfg0.N) (b : Fin 16) (p : Fin 2304) (r : Fin 256) (hb : b.val = (grid0.coords t 0).val)
include hb

/-- The first 256 token rows of the point. -/
theorem rd_x0 (hp : p.val = 768 * (grid0.coords t 1).val + 0 + r.val) (hl : p.val < 2048) (k : Fin 1024) :
    iblk m c 0 t (ix3 0 r k) = joined (m (c.tc.loc main_arg0)) (m (c.tc.loc main_arg1)) (ix3 b p k) := by
  obtain ⟨e, -⟩ := places t
  rw [joined_latent _ _ b p k ⟨p.val, hl⟩ rfl]
  blk_ext [iblk, V, e]

/-- The second 256 token rows of the point. -/
theorem rd_x1 (hp : p.val = 768 * (grid0.coords t 1).val + 256 + r.val) (hl : p.val < 2048) (k : Fin 1024) :
    iblk m c 1 t (ix3 0 r k) = joined (m (c.tc.loc main_arg0)) (m (c.tc.loc main_arg1)) (ix3 b p k) := by
  obtain ⟨-, e, -⟩ := places t
  rw [joined_latent _ _ b p k ⟨p.val, hl⟩ rfl]
  blk_ext [iblk, V, e]

/-- The third 256 token rows of the point. -/
theorem rd_x2 (hp : p.val = 768 * (grid0.coords t 1).val + 512 + r.val) (hl : p.val < 2048) (k : Fin 1024) :
    iblk m c 2 t (ix3 0 r k) = joined (m (c.tc.loc main_arg0)) (m (c.tc.loc main_arg1)) (ix3 b p k) := by
  obtain ⟨-, -, e, -⟩ := places t
  rw [joined_latent _ _ b p k ⟨p.val, hl⟩ rfl]
  blk_ext [iblk, V, e]

/-- The context's 256 token rows. -/
theorem rd_ctx (hp : p.val = 2048 + r.val) (k : Fin 1024) :
    iblk m c 3 t (ix3 0 r k) = joined (m (c.tc.loc main_arg0)) (m (c.tc.loc main_arg1)) (ix3 b p k) := by
  obtain ⟨-, -, -, e, -⟩ := places t
  rw [joined_context _ _ b p k r hp]
  blk_ext [iblk, V, e]
end

section
variable (c : Dev nD) (t : Fin cfg0.N) (o : Fin 3 → Nat) (inb : ∀ a, o a + S1x1x1024.size a ≤ S1x24x1024.size a) (q : Fin 24) (ho : o = ![0, q.val, 0])
include ho

/-- A load of one row of the shift. -/
theorem rd_sh (k : Fin 1024) : View.ld (iblk m c 4 t) (Rect.unit o ![1, 1, 1024] inb) (ix3 0 0 k)
    = m (c.tc.loc main_arg2) (ix3 0 q (modCol 0 (by decide) k)) := by
  obtain ⟨-, -, -, -, e, -⟩ := places t
  refine (View.ld_unit_apply_of _ _ _ _ _ (ix3 0 q k) fun a => by subst ho; fin_cases a <;> simp).trans ?_
  blk_ext [iblk, V, e, modCol]

/-- A load of one row of the scale. -/
theorem rd_sc (k : Fin 1024) : View.ld (iblk m c 5 t) (Rect.unit o ![1, 1, 1024] inb) (ix3 0 0 k)
    = m (c.tc.loc main_arg2) (ix3 0 q (modCol 1 (by decide) k)) := by
  obtain ⟨-, -, -, -, -, e, -⟩ := places t
  refine (View.ld_unit_apply_of _ _ _ _ _ (ix3 0 q k) fun a => by subst ho; fin_cases a <;> simp).trans ?_
  blk_ext [iblk, V, e, modCol]
end

/-- A load of one tap of the convolution. -/
theorem rd_tap (c : Dev nD) (t : Fin cfg0.N) (q : Fin 8) (inb) (j : Fin 256) :
    View.ld (iblk m c 9 t) (Rect.unit ![0, q.val, 0] ![1, 1, 256] inb) (ix3 0 0 j) = m (c.tc.loc main_arg6) (ix3 0 q j) := by
  obtain ⟨-, -, -, -, -, -, -, -, -, e, -⟩ := places t
  refine (View.ld_unit_apply_of _ _ _ _ _ (ix3 0 q j) fun a => by fin_cases a <;> simp).trans ?_
  blk_ext [iblk, V, e]

/-- The layer's other weights, at every point: their blocks are layer 0 of the whole stacks. -/
theorem rd_weights (c : Dev nD) (t : Fin cfg0.N) : (∀ k : Fin 1024, iblk m c 6 t (ix3 0 0 k) = m (c.tc.loc main_arg3) (ix3 0 0 k))
    ∧ (∀ (q : Fin 528) (k : Fin 1024), iblk m c 8 t (ix3 0 q k) = m (c.tc.loc main_arg5) (ix3 0 q k))
    ∧ (∀ j : Fin 256, iblk m c 10 t (ix3 0 0 j) = m (c.tc.loc main_arg7) (ix3 0 0 j))
    ∧ (∀ (s : Fin 128) (q : Fin 512), iblk m c 11 t (ix3 0 s q) = m (c.tc.loc main_arg8) (ix3 0 s q))
    ∧ (∀ (s : Fin 128) (j : Fin 256), iblk m c 12 t (ix3 0 s j) = m (c.tc.loc main_arg9) (ix3 0 s j)) := by
  obtain ⟨-, -, -, -, -, -, e6, -, e8, -, e10, e11, e12, -⟩ := places t
  refine ⟨fun k => ?_, fun q k => ?_, fun j => ?_, fun s q => ?_, fun s j => ?_⟩
  · blk_ext [iblk, V, e6]
  · blk_ext [iblk, V, e8]
  · blk_ext [iblk, V, e10]
  · blk_ext [iblk, V, e11]
  · blk_ext [iblk, V, e12]

/-- Layer 0's modulated rows of a batch element, of the run's own arguments. -/
def H (c : Dev nD) (b : Fin 16) : Fin 2304 → Row := hid 0 (joined (m (c.tc.loc main_arg0)) (m (c.tc.loc main_arg1))) (m (c.tc.loc main_arg2)) (m (c.tc.loc main_arg3)) b

/-- The modulated rows of the piece at `o`, over what the body loads. -/
theorem hb_eq (c : Dev nD) (t : Fin cfg0.N) (b : Fin 16) (hb' : b.val = (grid0.coords t 0).val) (o : Nat) (ho : o + 256 ≤ 2304) (h256 : o % 256 = 0)
    (xa : Vec Ideal S1x256x1024 .f32) (hx : o < 2048 → ∀ (r : Fin 256) (k : Fin 1024), xa (ix3 0 r k) = joined (m (c.tc.loc main_arg0)) (m (c.tc.loc main_arg1)) (ix3 b ⟨o + r.val, by omega⟩ k))
    (inbc inbt) (r : Fin 256) (k : Fin 1024) :
    hb (BitVec.ofBool (decide (2048 ≤ o))) (iblk m c 3 t) xa (iblk m c 6 t)
      (View.ld (iblk m c 5 t) (Rect.unit ![0, 16, 0] ![1, 1, 1024] inbc)) (View.ld (iblk m c 5 t) (Rect.unit (k0_off1 (grid0.coords t)) ![1, 1, 1024] inbt))
      (View.ld (iblk m c 4 t) (Rect.unit ![0, 16, 0] ![1, 1, 1024] inbc)) (View.ld (iblk m c 4 t) (Rect.unit (k0_off1 (grid0.coords t)) ![1, 1, 1024] inbt))
      (ix2 r k) = H m c b ⟨o + r.val, by omega⟩ k := by
  obtain ⟨hn, -⟩ := rd_weights m c t
  rw [hb_apply]
  unfold H hid
  by_cases hc : 2048 ≤ o
  · have hr : modRow b ⟨o + r.val, by omega⟩ = 16 := if_pos (by show 2048 ≤ o + r.val; omega)
    have hctx := rd_ctx m c t b ⟨o + r.val, by omega⟩ r hb' (by show o + r.val = 2048 + r.val; omega)
    simp only [decide_eq_true hc, select_ofBool, if_true, hr, hn, hctx, rd_sc m c t _ inbc 16 rfl, rd_sh m c t _ inbc 16 rfl]
  · have hr : modRow b ⟨o + r.val, by omega⟩ = ⟨b.val, by omega⟩ := if_neg (by show ¬ 2048 ≤ o + r.val; omega)
    have hof : k0_off1 (grid0.coords t) = ![0, b.val, 0] := hb' ▸ modOff t
    simp only [decide_eq_false hc, select_ofBool, Bool.false_eq_true, if_false, hr, hn, hx (by omega), rd_sc m c t _ inbt ⟨b.val, by omega⟩ hof,
      rd_sh m c t _ inbt ⟨b.val, by omega⟩ hof]

/-! ## A piece over the modulated rows -/

section
variable (c : Dev nD) (t : Fin cfg0.N) (b : Fin 16) (o : Nat) (ho : o + 256 ≤ 2304) (h : FVec Ideal S256x1024 .bf16)
  (hh : ∀ (r : Fin 256) (k : Fin 1024), h (ix2 r k) = H m c b ⟨o + r.val, by omega⟩ k)
include hh

/-- The first result's piece. -/
theorem pml_eq (r : Fin 256) (j : Fin 1536) : InProjIdeal.Gen.k0_pay59 h (cols m c) (ix3 0 r j)
    = pmlR 0 (joined (m (c.tc.loc main_arg0)) (m (c.tc.loc main_arg1))) (m (c.tc.loc main_arg2)) (m (c.tc.loc main_arg3)) (m (c.tc.loc main_arg4)) (ix3 b ⟨o + r.val, by omega⟩ j) := by
  rw [pml_apply]
  simp only [hh]
  rfl

/-- The second result's piece. -/
theorem mix_eq (h256 : o % 256 = 0) (i0 i1 i2) (r : Fin 256) (j : Fin 512) :
    mixPiece (BitVec.ofBool (decide (2048 ≤ o))) (InProjIdeal.Gen.k0_pay68 (InProjIdeal.Gen.k0_pay58 h (cols m c))) (View.ld (iblk m c 9 t) (Rect.unit ![0, 0, 0] ![1, 1, 256] i0))
      (View.ld (iblk m c 9 t) (Rect.unit ![0, 1, 0] ![1, 1, 256] i1)) (View.ld (iblk m c 9 t) (Rect.unit ![0, 2, 0] ![1, 1, 256] i2))
      (iblk m c 10 t) (iblk m c 12 t) (iblk m c 11 t) (ix3 0 r j)
    = mixR 0 (joined (m (c.tc.loc main_arg0)) (m (c.tc.loc main_arg1))) (m (c.tc.loc main_arg2)) (m (c.tc.loc main_arg3)) (m (c.tc.loc main_arg4)) (m (c.tc.loc main_arg6))
        (m (c.tc.loc main_arg7)) (m (c.tc.loc main_arg8)) (m (c.tc.loc main_arg9)) (ix3 b ⟨o + r.val, by omega⟩ j) := by
  obtain ⟨-, -, hgn, hgw, hgb⟩ := rd_weights m c t
  rw [show decide (2048 ≤ o) = decide (2048 ≤ o + r.val) from decide_eq_decide.mpr (by omega)]
  have hl : ∀ (r : Fin 256) (i : Fin 1280), InProjIdeal.Gen.k0_pay68 (InProjIdeal.Gen.k0_pay58 h (cols m c)) (ix2 r i)
      = projAt 0 (joined (m (c.tc.loc main_arg0)) (m (c.tc.loc main_arg1))) (m (c.tc.loc main_arg2)) (m (c.tc.loc main_arg3)) (m (c.tc.loc main_arg4)) b
          (tok o ho r) (locRow i) := by
    intro r i
    refine (loc_apply h (cols m c) r i).trans ?_
    have e : src ⟨1536 + i.val, by omega⟩ = locRow i := by
      unfold src locRow; rw [if_neg (by show ¬ 1536 + i.val < 512; omega)]; exact Fin.ext (by simp; omega)
    simp only [hh, projAt, proj, ← e]
    rfl
  refine (mix_apply _ _ _ _ _ _ _ _ o ho h256 hl r j).trans ?_
  simp only [hgn, hgw, hgb]
  unfold mixR
  congr 1
  funext q j
  fin_cases q
  exacts [rd_tap m c t 0 i0 j, rd_tap m c t 1 i1 j, rd_tap m c t 2 i2 j]

/-- The key-and-gate product of the piece. -/
theorem kg_eq (q : Fin 528) (r : Fin 256) : InProjIdeal.Gen.k0_pay60 h (iblk m c 8 t) (ix2 q r)
    = proj (H m c b) (fun q k => m (c.tc.loc main_arg5) (ix3 0 q k)) ⟨o + r.val, by omega⟩ q := by
  obtain ⟨-, hwk, -⟩ := rd_weights m c t
  rw [kg_apply]
  simp only [hh, hwk, proj]
  exact Finset.sum_congr rfl fun k _ => mul_comm _ _

/-- The third result's piece, its first 128 tokens. -/
theorem kt_left_eq (k : Fin 18) (hk : k.val * 128 = o) (q : Fin 512) (s : Fin 128) : InProjIdeal.Gen.k0_pay61 h (iblk m c 8 t) (ix4 0 0 q s)
    = ktR 0 (joined (m (c.tc.loc main_arg0)) (m (c.tc.loc main_arg1))) (m (c.tc.loc main_arg2)) (m (c.tc.loc main_arg3)) (m (c.tc.loc main_arg5)) (ix4 b k q s) := by
  subst hk
  rw [kt_left, kg_eq m c t b _ ho h hh]
  rfl

/-- The third result's piece, its last 128 tokens. -/
theorem kt_right_eq (k : Fin 18) (hk : k.val * 128 = o + 128) (q : Fin 512) (s : Fin 128) : InProjIdeal.Gen.k0_pay65 (InProjIdeal.Gen.k0_pay60 h (iblk m c 8 t)) (ix4 0 0 q s)
    = ktR 0 (joined (m (c.tc.loc main_arg0)) (m (c.tc.loc main_arg1))) (m (c.tc.loc main_arg2)) (m (c.tc.loc main_arg3)) (m (c.tc.loc main_arg5)) (ix4 b k q s) := by
  rw [kt_right, kg_eq m c t b _ ho h hh]
  exact congrArg (fun p => proj (H m c b) (fun q k => m (c.tc.loc main_arg5) (ix3 0 q k)) p ⟨q.val, by omega⟩ * Ideal.ofBits .f32 0x3DB504F3#32)
    (Fin.ext (by show o + (128 + s.val) = k.val * 128 + s.val; omega))

/-- A gate's element from its place in the piece. -/
theorem gate_of (wo : Nat) (hw : wo + 8 ≤ 528) (g : Fin 144) (q : Fin 8) (s : Fin 128) (r : Fin 256) (hq : g.val % 8 = q.val)
    (hr : g.val / 8 * 128 + s.val = o + r.val) : InProjIdeal.Gen.k0_pay60 h (iblk m c 8 t) (ix2 ⟨wo + q.val, by omega⟩ r)
    = gateAt (H m c b) (fun q k => m (c.tc.loc main_arg5) (ix3 0 q k)) wo hw g s := by
  rw [kg_eq m c t b o ho h hh]
  unfold gateAt
  congr 1
  · exact Fin.ext hr.symm
  · exact Fin.ext (by show wo + q.val = wo + g.val % 8; omega)
end

/-! ## The five results -/

section
variable (c : Dev nD) (t : Fin cfg0.N)

/-- The first result's block, at an element. -/
theorem out13 (y : S1x768x1536.Idx) (b : Fin 16) (p : Fin 2304) (j : Fin 1536) (hp : p.val = 768 * (grid0.coords t 1).val + (y 1).val) (hj : j.val = (y 2).val) (hb' : b.val = (grid0.coords t 0).val) :
    (outsAt0 m c t.val t.isLt).1 y
      = pmlR 0 (joined (m (c.tc.loc main_arg0)) (m (c.tc.loc main_arg1))) (m (c.tc.loc main_arg2)) (m (c.tc.loc main_arg3)) (m (c.tc.loc main_arg4)) (ix3 b p j) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t)
    (fun hl r k => rd_x0 m c t b _ r hb' rfl (by show 768 * (grid0.coords t 1).val + 0 + r.val < 2048; omega) k)
  have k1 := hb_eq m c t b hb' (768 * (grid0.coords t 1).val + 256) (by omega) (by omega) (iblk m c 1 t)
    (fun hl r k => rd_x1 m c t b _ r hb' rfl (by show 768 * (grid0.coords t 1).val + 256 + r.val < 2048; omega) k)
  have k2 := hb_eq m c t b hb' (768 * (grid0.coords t 1).val + 512) (by omega) (by omega) (iblk m c 2 t)
    (fun hl r k => rd_x2 m c t b _ r hb' rfl (by show 768 * (grid0.coords t 1).val + 512 + r.val < 2048; omega) k)
  by_cases h0 : t.val % 48 = 0
  on_goal 1 => rw [outsAt0_A m c t h0]; dsimp only; frame_out; erw [readW]
  on_goal 2 => rw [outsAt0_B m c t h0]; dsimp only; frame_out; rw [read_unread_whole, copied]
  all_goals
    rw [pml_first, pml_second, pml_third, hb_first, hb_second, e0, e1, show k0_pay31 = hb from rfl, e2]
    canon_tiles y h
  all_goals
    idx_vars y
    obtain rfl : y0 = 0 := by omega
    obtain rfl : y2 = j := Fin.ext (by omega)
  · have hy : y1.val < 256 := y1.isLt
    have hlt : 768 * (grid0.coords t 1).val + 512 + y1.val < 2304 := by omega
    obtain rfl : p = ⟨_, hlt⟩ := Fin.ext (by show p.val = 768 * (grid0.coords t 1).val + 512 + y1.val; omega)
    exact pml_eq m c b _ (by omega) _ (k2 _ _) y1 y2
  · have hy : y1.val < 256 := y1.isLt
    have hlt : 768 * (grid0.coords t 1).val + 256 + y1.val < 2304 := by omega
    obtain rfl : p = ⟨_, hlt⟩ := Fin.ext (by show p.val = 768 * (grid0.coords t 1).val + 256 + y1.val; omega)
    exact pml_eq m c b _ (by omega) _ (k1 _ _) y1 y2
  · have hy : y1.val < 256 := y1.isLt
    have hlt : 768 * (grid0.coords t 1).val + 0 + y1.val < 2304 := by omega
    obtain rfl : p = ⟨_, hlt⟩ := Fin.ext (by show p.val = 768 * (grid0.coords t 1).val + 0 + y1.val; omega)
    exact pml_eq m c b _ (by omega) _ (k0 _ _) y1 y2
  · have hy : y1.val < 256 := y1.isLt
    have hlt : 768 * (grid0.coords t 1).val + 512 + y1.val < 2304 := by omega
    obtain rfl : p = ⟨_, hlt⟩ := Fin.ext (by show p.val = 768 * (grid0.coords t 1).val + 512 + y1.val; omega)
    exact pml_eq m c b _ (by omega) _ (k2 _ _) y1 y2
  · have hy : y1.val < 256 := y1.isLt
    have hlt : 768 * (grid0.coords t 1).val + 256 + y1.val < 2304 := by omega
    obtain rfl : p = ⟨_, hlt⟩ := Fin.ext (by show p.val = 768 * (grid0.coords t 1).val + 256 + y1.val; omega)
    exact pml_eq m c b _ (by omega) _ (k1 _ _) y1 y2
  · have hy : y1.val < 256 := y1.isLt
    have hlt : 768 * (grid0.coords t 1).val + 0 + y1.val < 2304 := by omega
    obtain rfl : p = ⟨_, hlt⟩ := Fin.ext (by show p.val = 768 * (grid0.coords t 1).val + 0 + y1.val; omega)
    exact pml_eq m c b _ (by omega) _ (k0 _ _) y1 y2

/-- The second result's block, at an element. -/
theorem out14 (y : S1x768x512.Idx) (b : Fin 16) (p : Fin 2304) (j : Fin 512) (hp : p.val = 768 * (grid0.coords t 1).val + (y 1).val) (hj : j.val = (y 2).val) (hb' : b.val = (grid0.coords t 0).val) :
    (outsAt0 m c t.val t.isLt).2.1 y
      = mixR 0 (joined (m (c.tc.loc main_arg0)) (m (c.tc.loc main_arg1))) (m (c.tc.loc main_arg2)) (m (c.tc.loc main_arg3)) (m (c.tc.loc main_arg4)) (m (c.tc.loc main_arg6)) (m (c.tc.loc main_arg7)) (m (c.tc.loc main_arg8)) (m (c.tc.loc main_arg9)) (ix3 b p j) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t)
    (fun hl r k => rd_x0 m c t b _ r hb' rfl (by show 768 * (grid0.coords t 1).val + 0 + r.val < 2048; omega) k)
  have k1 := hb_eq m c t b hb' (768 * (grid0.coords t 1).val + 256) (by omega) (by omega) (iblk m c 1 t)
    (fun hl r k => rd_x1 m c t b _ r hb' rfl (by show 768 * (grid0.coords t 1).val + 256 + r.val < 2048; omega) k)
  have k2 := hb_eq m c t b hb' (768 * (grid0.coords t 1).val + 512) (by omega) (by omega) (iblk m c 2 t)
    (fun hl r k => rd_x2 m c t b _ r hb' rfl (by show 768 * (grid0.coords t 1).val + 512 + r.val < 2048; omega) k)
  by_cases h0 : t.val % 48 = 0
  on_goal 1 => rw [outsAt0_A m c t h0]; dsimp only; frame_out; erw [readW]
  on_goal 2 => rw [outsAt0_B m c t h0]; dsimp only; frame_out; rw [read_unread_whole, copied]
  all_goals
    rw [mix_first, mix_second, mix_third, hb_first, hb_second, e0, e1, show k0_pay31 = hb from rfl, e2]
    canon_tiles y h
  all_goals
    idx_vars y
    obtain rfl : y0 = 0 := by omega
    obtain rfl : y2 = j := Fin.ext (by omega)
  · have hy : y1.val < 256 := y1.isLt
    have hlt : 768 * (grid0.coords t 1).val + 512 + y1.val < 2304 := by omega
    obtain rfl : p = ⟨_, hlt⟩ := Fin.ext (by show p.val = 768 * (grid0.coords t 1).val + 512 + y1.val; omega)
    exact mix_eq m c t b _ (by omega) _ (k2 _ _) (by omega) _ _ _ y1 y2
  · have hy : y1.val < 256 := y1.isLt
    have hlt : 768 * (grid0.coords t 1).val + 256 + y1.val < 2304 := by omega
    obtain rfl : p = ⟨_, hlt⟩ := Fin.ext (by show p.val = 768 * (grid0.coords t 1).val + 256 + y1.val; omega)
    exact mix_eq m c t b _ (by omega) _ (k1 _ _) (by omega) _ _ _ y1 y2
  · have hy : y1.val < 256 := y1.isLt
    have hlt : 768 * (grid0.coords t 1).val + 0 + y1.val < 2304 := by omega
    obtain rfl : p = ⟨_, hlt⟩ := Fin.ext (by show p.val = 768 * (grid0.coords t 1).val + 0 + y1.val; omega)
    exact mix_eq m c t b _ (by omega) _ (k0 _ _) (by omega) _ _ _ y1 y2
  · have hy : y1.val < 256 := y1.isLt
    have hlt : 768 * (grid0.coords t 1).val + 512 + y1.val < 2304 := by omega
    obtain rfl : p = ⟨_, hlt⟩ := Fin.ext (by show p.val = 768 * (grid0.coords t 1).val + 512 + y1.val; omega)
    exact mix_eq m c t b _ (by omega) _ (k2 _ _) (by omega) _ _ _ y1 y2
  · have hy : y1.val < 256 := y1.isLt
    have hlt : 768 * (grid0.coords t 1).val + 256 + y1.val < 2304 := by omega
    obtain rfl : p = ⟨_, hlt⟩ := Fin.ext (by show p.val = 768 * (grid0.coords t 1).val + 256 + y1.val; omega)
    exact mix_eq m c t b _ (by omega) _ (k1 _ _) (by omega) _ _ _ y1 y2
  · have hy : y1.val < 256 := y1.isLt
    have hlt : 768 * (grid0.coords t 1).val + 0 + y1.val < 2304 := by omega
    obtain rfl : p = ⟨_, hlt⟩ := Fin.ext (by show p.val = 768 * (grid0.coords t 1).val + 0 + y1.val; omega)
    exact mix_eq m c t b _ (by omega) _ (k0 _ _) (by omega) _ _ _ y1 y2

/-- The third result's block, at an element. -/
theorem out15 (y : S1x6x512x128.Idx) (b : Fin 16) (k : Fin 18) (q : Fin 512) (s : Fin 128) (hk : k.val = 6 * (grid0.coords t 1).val + (y 1).val) (hq : q.val = (y 2).val) (hs : s.val = (y 3).val) (hb' : b.val = (grid0.coords t 0).val) :
    (outsAt0 m c t.val t.isLt).2.2.1 y
      = ktR 0 (joined (m (c.tc.loc main_arg0)) (m (c.tc.loc main_arg1))) (m (c.tc.loc main_arg2)) (m (c.tc.loc main_arg3)) (m (c.tc.loc main_arg5)) (ix4 b k q s) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t)
    (fun hl r k => rd_x0 m c t b _ r hb' rfl (by show 768 * (grid0.coords t 1).val + 0 + r.val < 2048; omega) k)
  have k1 := hb_eq m c t b hb' (768 * (grid0.coords t 1).val + 256) (by omega) (by omega) (iblk m c 1 t)
    (fun hl r k => rd_x1 m c t b _ r hb' rfl (by show 768 * (grid0.coords t 1).val + 256 + r.val < 2048; omega) k)
  have k2 := hb_eq m c t b hb' (768 * (grid0.coords t 1).val + 512) (by omega) (by omega) (iblk m c 2 t)
    (fun hl r k => rd_x2 m c t b _ r hb' rfl (by show 768 * (grid0.coords t 1).val + 512 + r.val < 2048; omega) k)
  by_cases h0 : t.val % 48 = 0
  on_goal 1 => rw [outsAt0_A m c t h0]; dsimp only; frame_out
  on_goal 2 => rw [outsAt0_B m c t h0]; dsimp only; frame_out
  all_goals
    rw [kt_left_first, kt_left_second, kt_left_third, kt_right_first, kt_right_second, kt_right_third, hb_first, hb_second, e0, e1, show k0_pay31 = hb from rfl, e2]
    canon_tiles y h
  all_goals
    idx_vars y
    obtain rfl : y0 = 0 := by omega
    obtain rfl : y1 = 0 := by omega
    obtain rfl : y2 = q := Fin.ext (by omega)
    obtain rfl : y3 = s := Fin.ext (by omega)
  · exact kt_right_eq m c t b _ (by omega) _ (k2 _ _) k (by omega) y2 y3
  · exact kt_left_eq m c t b _ (by omega) _ (k2 _ _) k (by omega) y2 y3
  · exact kt_right_eq m c t b _ (by omega) _ (k1 _ _) k (by omega) y2 y3
  · exact kt_left_eq m c t b _ (by omega) _ (k1 _ _) k (by omega) y2 y3
  · exact kt_right_eq m c t b _ (by omega) _ (k0 _ _) k (by omega) y2 y3
  · exact kt_left_eq m c t b _ (by omega) _ (k0 _ _) k (by omega) y2 y3
  · exact kt_right_eq m c t b _ (by omega) _ (k2 _ _) k (by omega) y2 y3
  · exact kt_left_eq m c t b _ (by omega) _ (k2 _ _) k (by omega) y2 y3
  · exact kt_right_eq m c t b _ (by omega) _ (k1 _ _) k (by omega) y2 y3
  · exact kt_left_eq m c t b _ (by omega) _ (k1 _ _) k (by omega) y2 y3
  · exact kt_right_eq m c t b _ (by omega) _ (k0 _ _) k (by omega) y2 y3
  · exact kt_left_eq m c t b _ (by omega) _ (k0 _ _) k (by omega) y2 y3

/-- The fourth result's block, at an element. -/
theorem out16 (y : S1x48x128.Idx) (b : Fin 16) (g : Fin 144) (s : Fin 128) (hg : g.val = 48 * (grid0.coords t 1).val + (y 1).val) (hs : s.val = (y 2).val) (hb' : b.val = (grid0.coords t 0).val) :
    (outsAt0 m c t.val t.isLt).2.2.2.1 y
      = giR 0 (joined (m (c.tc.loc main_arg0)) (m (c.tc.loc main_arg1))) (m (c.tc.loc main_arg2)) (m (c.tc.loc main_arg3)) (m (c.tc.loc main_arg5)) (ix3 b g s) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t)
    (fun hl r k => rd_x0 m c t b _ r hb' rfl (by show 768 * (grid0.coords t 1).val + 0 + r.val < 2048; omega) k)
  have k1 := hb_eq m c t b hb' (768 * (grid0.coords t 1).val + 256) (by omega) (by omega) (iblk m c 1 t)
    (fun hl r k => rd_x1 m c t b _ r hb' rfl (by show 768 * (grid0.coords t 1).val + 256 + r.val < 2048; omega) k)
  have k2 := hb_eq m c t b hb' (768 * (grid0.coords t 1).val + 512) (by omega) (by omega) (iblk m c 2 t)
    (fun hl r k => rd_x2 m c t b _ r hb' rfl (by show 768 * (grid0.coords t 1).val + 512 + r.val < 2048; omega) k)
  by_cases h0 : t.val % 48 = 0
  on_goal 1 => rw [outsAt0_A m c t h0]; dsimp only; frame_out
  on_goal 2 => rw [outsAt0_B m c t h0]; dsimp only; frame_out
  all_goals
    rw [gi_left_first, gi_left_second, gi_left_third, gi_right_first, gi_right_second, gi_right_third, hb_first, hb_second, e0, e1, show k0_pay31 = hb from rfl, e2]
    canon_tiles y h
  all_goals
    idx_vars y
    obtain rfl : y0 = 0 := by omega
    obtain rfl : y2 = s := Fin.ext (by omega)
  · exact (gi_right _ _ _).trans (gate_of m c t b _ (by omega) _ (k2 _ _) 512 (by decide) g y1 y2 _ (by omega) (by show _ = _ + (128 + y2.val); omega))
  · exact (gi_left _ _ _ _).trans (gate_of m c t b _ (by omega) _ (k2 _ _) 512 (by decide) g y1 y2 _ (by omega) (by show _ = _ + y2.val; omega))
  · exact (gi_right _ _ _).trans (gate_of m c t b _ (by omega) _ (k1 _ _) 512 (by decide) g y1 y2 _ (by omega) (by show _ = _ + (128 + y2.val); omega))
  · exact (gi_left _ _ _ _).trans (gate_of m c t b _ (by omega) _ (k1 _ _) 512 (by decide) g y1 y2 _ (by omega) (by show _ = _ + y2.val; omega))
  · exact (gi_right _ _ _).trans (gate_of m c t b _ (by omega) _ (k0 _ _) 512 (by decide) g y1 y2 _ (by omega) (by show _ = _ + (128 + y2.val); omega))
  · exact (gi_left _ _ _ _).trans (gate_of m c t b _ (by omega) _ (k0 _ _) 512 (by decide) g y1 y2 _ (by omega) (by show _ = _ + y2.val; omega))
  · exact (gi_right _ _ _).trans (gate_of m c t b _ (by omega) _ (k2 _ _) 512 (by decide) g y1 y2 _ (by omega) (by show _ = _ + (128 + y2.val); omega))
  · exact (gi_left _ _ _ _).trans (gate_of m c t b _ (by omega) _ (k2 _ _) 512 (by decide) g y1 y2 _ (by omega) (by show _ = _ + y2.val; omega))
  · exact (gi_right _ _ _).trans (gate_of m c t b _ (by omega) _ (k1 _ _) 512 (by decide) g y1 y2 _ (by omega) (by show _ = _ + (128 + y2.val); omega))
  · exact (gi_left _ _ _ _).trans (gate_of m c t b _ (by omega) _ (k1 _ _) 512 (by decide) g y1 y2 _ (by omega) (by show _ = _ + y2.val; omega))
  · exact (gi_right _ _ _).trans (gate_of m c t b _ (by omega) _ (k0 _ _) 512 (by decide) g y1 y2 _ (by omega) (by show _ = _ + (128 + y2.val); omega))
  · exact (gi_left _ _ _ _).trans (gate_of m c t b _ (by omega) _ (k0 _ _) 512 (by decide) g y1 y2 _ (by omega) (by show _ = _ + y2.val; omega))

/-- The fifth result's block, at an element. -/
theorem out17 (y : S1x48x128.Idx) (b : Fin 16) (g : Fin 144) (s : Fin 128) (hg : g.val = 48 * (grid0.coords t 1).val + (y 1).val) (hs : s.val = (y 2).val) (hb' : b.val = (grid0.coords t 0).val) :
    (outsAt0 m c t.val t.isLt).2.2.2.2.1 y
      = gfR 0 (joined (m (c.tc.loc main_arg0)) (m (c.tc.loc main_arg1))) (m (c.tc.loc main_arg2)) (m (c.tc.loc main_arg3)) (m (c.tc.loc main_arg5)) (ix3 b g s) := by
  obtain ⟨e0, e1, e2⟩ := isCtx t
  have ht : (grid0.coords t 1).val < 3 := (grid0.coords t 1).isLt
  have k0 := hb_eq m c t b hb' (768 * (grid0.coords t 1).val + 0) (by omega) (by omega) (iblk m c 0 t)
    (fun hl r k => rd_x0 m c t b _ r hb' rfl (by show 768 * (grid0.coords t 1).val + 0 + r.val < 2048; omega) k)
  have k1 := hb_eq m c t b hb' (768 * (grid0.coords t 1).val + 256) (by omega) (by omega) (iblk m c 1 t)
    (fun hl r k => rd_x1 m c t b _ r hb' rfl (by show 768 * (grid0.coords t 1).val + 256 + r.val < 2048; omega) k)
  have k2 := hb_eq m c t b hb' (768 * (grid0.coords t 1).val + 512) (by omega) (by omega) (iblk m c 2 t)
    (fun hl r k => rd_x2 m c t b _ r hb' rfl (by show 768 * (grid0.coords t 1).val + 512 + r.val < 2048; omega) k)
  by_cases h0 : t.val % 48 = 0
  on_goal 1 => rw [outsAt0_A m c t h0]; dsimp only; frame_out
  on_goal 2 => rw [outsAt0_B m c t h0]; dsimp only; frame_out
  all_goals
    rw [gf_left_first, gf_left_second, gf_left_third, gf_right_first, gf_right_second, gf_right_third, hb_first, hb_second, e0, e1, show k0_pay31 = hb from rfl, e2]
    canon_tiles y h
  all_goals
    idx_vars y
    obtain rfl : y0 = 0 := by omega
    obtain rfl : y2 = s := Fin.ext (by omega)
  · exact (gf_right _ _ _).trans (gate_of m c t b _ (by omega) _ (k2 _ _) 520 (by decide) g y1 y2 _ (by omega) (by show _ = _ + (128 + y2.val); omega))
  · exact (gf_left _ _ _).trans (gate_of m c t b _ (by omega) _ (k2 _ _) 520 (by decide) g y1 y2 _ (by omega) (by show _ = _ + y2.val; omega))
  · exact (gf_right _ _ _).trans (gate_of m c t b _ (by omega) _ (k1 _ _) 520 (by decide) g y1 y2 _ (by omega) (by show _ = _ + (128 + y2.val); omega))
  · exact (gf_left _ _ _).trans (gate_of m c t b _ (by omega) _ (k1 _ _) 520 (by decide) g y1 y2 _ (by omega) (by show _ = _ + y2.val; omega))
  · exact (gf_right _ _ _).trans (gate_of m c t b _ (by omega) _ (k0 _ _) 520 (by decide) g y1 y2 _ (by omega) (by show _ = _ + (128 + y2.val); omega))
  · exact (gf_left _ _ _).trans (gate_of m c t b _ (by omega) _ (k0 _ _) 520 (by decide) g y1 y2 _ (by omega) (by show _ = _ + y2.val; omega))
  · exact (gf_right _ _ _).trans (gate_of m c t b _ (by omega) _ (k2 _ _) 520 (by decide) g y1 y2 _ (by omega) (by show _ = _ + (128 + y2.val); omega))
  · exact (gf_left _ _ _).trans (gate_of m c t b _ (by omega) _ (k2 _ _) 520 (by decide) g y1 y2 _ (by omega) (by show _ = _ + y2.val; omega))
  · exact (gf_right _ _ _).trans (gate_of m c t b _ (by omega) _ (k1 _ _) 520 (by decide) g y1 y2 _ (by omega) (by show _ = _ + (128 + y2.val); omega))
  · exact (gf_left _ _ _).trans (gate_of m c t b _ (by omega) _ (k1 _ _) 520 (by decide) g y1 y2 _ (by omega) (by show _ = _ + y2.val; omega))
  · exact (gf_right _ _ _).trans (gate_of m c t b _ (by omega) _ (k0 _ _) 520 (by decide) g y1 y2 _ (by omega) (by show _ = _ + (128 + y2.val); omega))
  · exact (gf_left _ _ _).trans (gate_of m c t b _ (by omega) _ (k0 _ _) 520 (by decide) g y1 y2 _ (by omega) (by show _ = _ + y2.val; omega))

end

section
variable (c : Dev nD)

/-- The first result's array after the run. -/
theorem arr13 : (dats m 0 c).arrAt 13 cfg0.N = pmlR 0 (joined (m (c.tc.loc main_arg0)) (m (c.tc.loc main_arg1))) (m (c.tc.loc main_arg2)) (m (c.tc.loc main_arg3)) (m (c.tc.loc main_arg4)) := by
  refine (dats m 0 c).arrAt_eq_of_covers 13 _ (by decide +kernel) fun t hf y => ?_
  obtain ⟨-, -, -, -, -, -, -, -, -, -, -, -, -, e13, -⟩ := places t
  blk_simp
  rw [after0_13]
  refine (out13 m c t _ _ _ _ ?_ ?_ ?_).trans (congrArg _ (funext fun a => by fin_cases a <;> rfl))
  all_goals blk_simp [e13]
  all_goals first | rfl | exact congrArg₂ (· + ·) (Nat.mul_comm _ _) rfl

/-- The second result's array after the run. -/
theorem arr14 : (dats m 0 c).arrAt 14 cfg0.N = mixR 0 (joined (m (c.tc.loc main_arg0)) (m (c.tc.loc main_arg1))) (m (c.tc.loc main_arg2)) (m (c.tc.loc main_arg3)) (m (c.tc.loc main_arg4)) (m (c.tc.loc main_arg6)) (m (c.tc.loc main_arg7)) (m (c.tc.loc main_arg8)) (m (c.tc.loc main_arg9)) := by
  refine (dats m 0 c).arrAt_eq_of_covers 14 _ (by decide +kernel) fun t hf y => ?_
  obtain ⟨-, -, -, -, -, -, -, -, -, -, -, -, -, -, e14, -⟩ := places t
  blk_simp
  rw [after0_14]
  refine (out14 m c t _ _ _ _ ?_ ?_ ?_).trans (congrArg _ (funext fun a => by fin_cases a <;> rfl))
  all_goals blk_simp [e14]
  all_goals first | rfl | exact congrArg₂ (· + ·) (Nat.mul_comm _ _) rfl

/-- The third result's array after the run. -/
theorem arr15 : (dats m 0 c).arrAt 15 cfg0.N = ktR 0 (joined (m (c.tc.loc main_arg0)) (m (c.tc.loc main_arg1))) (m (c.tc.loc main_arg2)) (m (c.tc.loc main_arg3)) (m (c.tc.loc main_arg5)) := by
  refine (dats m 0 c).arrAt_eq_of_covers 15 _ (by decide +kernel) fun t hf y => ?_
  obtain ⟨-, -, -, -, -, -, -, -, -, -, -, -, -, -, -, e15, -⟩ := places t
  blk_simp
  rw [after0_15]
  refine (out15 m c t _ _ _ _ _ ?_ ?_ ?_ ?_).trans (congrArg _ (funext fun a => by fin_cases a <;> rfl))
  all_goals blk_simp [e15]
  all_goals first | rfl | exact congrArg₂ (· + ·) (Nat.mul_comm _ _) rfl

/-- The fourth result's array after the run. -/
theorem arr16 : (dats m 0 c).arrAt 16 cfg0.N = giR 0 (joined (m (c.tc.loc main_arg0)) (m (c.tc.loc main_arg1))) (m (c.tc.loc main_arg2)) (m (c.tc.loc main_arg3)) (m (c.tc.loc main_arg5)) := by
  refine (dats m 0 c).arrAt_eq_of_covers 16 _ (by decide +kernel) fun t hf y => ?_
  obtain ⟨-, -, -, -, -, -, -, -, -, -, -, -, -, -, -, -, e16, -⟩ := places t
  blk_simp
  rw [after0_16]
  refine (out16 m c t _ _ _ _ ?_ ?_ ?_).trans (congrArg _ (funext fun a => by fin_cases a <;> rfl))
  all_goals blk_simp [e16]
  all_goals first | rfl | exact congrArg₂ (· + ·) (Nat.mul_comm _ _) rfl

/-- The fifth result's array after the run. -/
theorem arr17 : (dats m 0 c).arrAt 17 cfg0.N = gfR 0 (joined (m (c.tc.loc main_arg0)) (m (c.tc.loc main_arg1))) (m (c.tc.loc main_arg2)) (m (c.tc.loc main_arg3)) (m (c.tc.loc main_arg5)) := by
  refine (dats m 0 c).arrAt_eq_of_covers 17 _ (by decide +kernel) fun t hf y => ?_
  obtain ⟨-, -, -, -, -, -, -, -, -, -, -, -, -, -, -, -, -, e17⟩ := places t
  blk_simp
  rw [after0_17]
  refine (out17 m c t _ _ _ _ ?_ ?_ ?_).trans (congrArg _ (funext fun a => by fin_cases a <;> rfl))
  all_goals blk_simp [e17]
  all_goals first | rfl | exact congrArg₂ (· + ·) (Nat.mul_comm _ _) rfl

end

end Cert.InProjFirstIdeal.Hand

end
-- ==== Proof.InProjFirst.Reference.lean ====
/- What the reference of the first layer's input projection leaves in its five results: at every element the projection's formulas (Formula.lean),
   read stage by stage. -/
module

public import proofs.«01_k».proof.Proof.Gen.InProjFirstRefIdeal.Read
public import proofs.«01_k».proof.Proof.InProj.Formula
public import proofs.«01_k».proof.Proof.OutFfnFirst.Join
public import Idealize.ShloMosaic.Lib.Pointwise

@[expose] public section

set_option maxRecDepth 16384

noncomputable section

namespace Cert.InProjFirstRefIdeal.Hand

open Cert.Rows Cert.InProjFirstRefIdeal Cert.InProjFirstRefIdeal.Gen Cert.InProjFirstRefIdeal.Read Idealize.ShloMosaic Idealize.ShloMosaic.TcCoe
open Cert.InProjIdeal.Hand

variable (x0 : (⟨S16x2048x1024, .f32⟩ : BufTy).Contents (Elt Ideal)) (x1 : (⟨S16x256x1024, .f32⟩ : BufTy).Contents (Elt Ideal))
  (x2 : (⟨S4x24x6144, .f32⟩ : BufTy).Contents (Elt Ideal))
  (x3 : (⟨S4x1x1024, .f32⟩ : BufTy).Contents (Elt Ideal)) (x4 : (⟨S4x3344x1024, .bf16⟩ : BufTy).Contents (Elt Ideal))
  (x5 : (⟨S4x528x1024, .bf16⟩ : BufTy).Contents (Elt Ideal)) (x6 : (⟨S4x8x256, .f32⟩ : BufTy).Contents (Elt Ideal))
  (x7 : (⟨S4x1x256, .f32⟩ : BufTy).Contents (Elt Ideal)) (x8 : (⟨S4x128x512, .bf16⟩ : BufTy).Contents (Elt Ideal))
  (x9 : (⟨S4x128x256, .f32⟩ : BufTy).Contents (Elt Ideal))

/-- The modulation vectors laid out per token: a token's row of the table. -/
theorem mods_apply (b : Fin 16) (p : Fin 2304) (k : Fin 6144) : val_main_v17 (F := Ideal) x2 (ix3 b p k) = x2 (ix3 0 (modRow b p) k) := by
  unfold modRow
  by_cases hc : 2048 ≤ p.val
  · rw [if_pos hc]
    pointwise [val_main_v17, val_main_v16, val_main_v15, val_main_v14, val_main_v13, val_main_v12, val_main_v11, val_main_v10]
    exact dif_neg (by omega)
  · rw [if_neg hc]
    pointwise [val_main_v17, val_main_v16, val_main_v15, val_main_v14, val_main_v13, val_main_v12, val_main_v11, val_main_v10]
    exact dif_pos (by omega)

/-- The latents and the context laid out one after the other. -/
theorem joined_apply (b : Fin 16) (p : Fin 2304) (k : Fin 1024) : val_main_v0 (F := Ideal) x0 x1 (ix3 b p k) = joined x0 x1 (ix3 b p k) := by
  by_cases hc : 2048 ≤ p.val
  · rw [joined_context x0 x1 b p k ⟨p.val - 2048, by omega⟩ (by show p.val = 2048 + (p.val - 2048); omega)]
    pointwise [val_main_v0]
    exact dif_neg (by omega)
  · rw [joined_latent x0 x1 b p k ⟨p.val, by omega⟩ rfl]
    pointwise [val_main_v0]
    exact dif_pos (by omega)

/-- The normalised and modulated row. -/
theorem hid_apply (b : Fin 16) (p : Fin 2304) (k : Fin 1024) : val_main_v36 (F := Ideal) x0 x1 x2 x3 (ix3 b p k) = hid 0 (joined x0 x1) x2 x3 b p k := by
  unfold hid modulated unitRow
  simp only [← mods_apply, ← joined_apply]
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_v18,
    val_main_cst, val_main_cst_0, val_main_cst_1, val_main_cst_2, modCol]

/-- The product with the main weight. -/
theorem main_apply (b : Fin 16) (p : Fin 2304) (q : Fin 3344) : val_main_v37 (F := Ideal) x0 x1 x2 x3 x4 (ix3 b p q) = projAt 0 (joined x0 x1) x2 x3 x4 b p q := by
  unfold projAt proj
  simp only [← hid_apply]
  unfold val_main_v37
  generalize val_main_v36 (F := Ideal) x0 x1 x2 x3 = h
  pointwise [val_main_v7, val_main_v2, val_main_v1]

/-- The product with the weight of the keys and gates. -/
theorem kg_apply (b : Fin 16) (p : Fin 2304) (q : Fin 528) : val_main_v41 (F := Ideal) x0 x1 x2 x3 x5 (ix3 b p q)
    = proj (hid 0 (joined x0 x1) x2 x3 b) (fun q k => x5 (ix3 0 q k)) p q := by
  unfold proj
  simp only [← hid_apply]
  unfold val_main_v41
  generalize val_main_v36 (F := Ideal) x0 x1 x2 x3 = h
  pointwise [val_main_v8, val_main_v4, val_main_v3]

/-- The first result at an element. -/
theorem pml_apply (b : Fin 16) (p : Fin 2304) (j : Fin 1536) : val_main_v106 (F := Ideal) x0 x1 x2 x3 x4 (ix3 b p j) = pmlR 0 (joined x0 x1) x2 x3 x4 (ix3 b p j) := by
  unfold pmlR
  refine Eq.trans ?_ (main_apply x0 x1 x2 x3 x4 b p _)
  unfold val_main_v106 val_main_v40 val_main_v39 val_main_v38 src
  generalize val_main_v37 (F := Ideal) x0 x1 x2 x3 x4 = P
  pointwise []
  split_ifs with h
  all_goals exact congrArg P (congrArg (ix3 b p) (Fin.ext (by simp; omega)))

/-- A product with the keys' weight, re-laid to the third result's layout and scaled, at an element. -/
theorem kt_stage (P : FVec Ideal S16x2304x528 .f32) (b : Fin 16) (t : Fin 18) (q : Fin 512) (s : Fin 128) :
    truncf (F := Ideal) .bf16 (mulf (F := Ideal) (extractStridedSlice S16x18x512x128 ![0, 0, 0, 0] (transpose S16x18x528x128 [0, 1, 3, 2]
      (shapeCast S16x18x128x528 P shapeCasts_S16x2304x528_S16x18x128x528) transposes_S16x18x128x528_S16x18x528x128_0_1_3_2)
      slices_S16x18x528x128_S16x18x512x128_0_0_0_0) (val_main_v45 (F := Ideal))) bitsLt_bf16_f32 (ix4 b t q s)
    = P (ix3 b ⟨t.val * 128 + s.val, by omega⟩ ⟨q.val, by omega⟩) * Ideal.ofBits .f32 0x3DB504F3#32 := by
  pointwise [val_main_v45, val_main_cst_3]

/-- The third result at an element. -/
theorem kt_apply (b : Fin 16) (t : Fin 18) (q : Fin 512) (s : Fin 128) : val_main_v108 (F := Ideal) x0 x1 x2 x3 x5 (ix4 b t q s)
    = ktR 0 (joined x0 x1) x2 x3 x5 (ix4 b t q s) := by
  unfold ktR keyAt
  refine Eq.trans ?_ (congrArg (· * _) (kg_apply x0 x1 x2 x3 x5 b _ _))
  unfold val_main_v108 val_main_v46 val_main_v44 val_main_v43 val_main_v42
  generalize val_main_v41 (F := Ideal) x0 x1 x2 x3 x5 = P
  exact kt_stage P b t q s

/-- The fourth result at an element. -/
theorem gi_apply (b : Fin 16) (g : Fin 144) (s : Fin 128) : val_main_v48 (F := Ideal) x0 x1 x2 x3 x5 (ix3 b g s) = giR 0 (joined x0 x1) x2 x3 x5 (ix3 b g s) := by
  unfold giR gateAt
  refine Eq.trans ?_ (kg_apply x0 x1 x2 x3 x5 b _ _)
  unfold val_main_v48 val_main_v47 val_main_v43 val_main_v42
  generalize val_main_v41 (F := Ideal) x0 x1 x2 x3 x5 = P
  pointwise []

/-- The fifth result at an element. -/
theorem gf_apply (b : Fin 16) (g : Fin 144) (s : Fin 128) : val_main_v50 (F := Ideal) x0 x1 x2 x3 x5 (ix3 b g s) = gfR 0 (joined x0 x1) x2 x3 x5 (ix3 b g s) := by
  unfold gfR gateAt
  refine Eq.trans ?_ (kg_apply x0 x1 x2 x3 x5 b _ _)
  unfold val_main_v50 val_main_v49 val_main_v43 val_main_v42
  generalize val_main_v41 (F := Ideal) x0 x1 x2 x3 x5 = P
  pointwise []

/-! ## The second result -/

/-- The gated input of the convolution. -/
theorem zin_apply (b : Fin 16) (p : Fin 2304) (j : Fin 256) : val_main_v53 (F := Ideal) x0 x1 x2 x3 x4 (ix3 b p j) = zin (projAt 0 (joined x0 x1) x2 x3 x4 b) p j := by
  unfold zin
  simp only [← main_apply]
  unfold val_main_v53 val_main_v52 val_main_v51
  generalize val_main_v37 (F := Ideal) x0 x1 x2 x3 x4 = P
  pointwise []

/-- The convolution's input one token before. -/
theorem before_apply (b : Fin 16) (p : Fin 2304) (j : Fin 256) : val_main_v62 (F := Ideal) x0 x1 x2 x3 x4 (ix3 b p j)
    = before (projAt 0 (joined x0 x1) x2 x3 x4 b) p j := by
  unfold before
  simp only [← zin_apply]
  unfold val_main_v62 val_main_v61 val_main_v60 val_main_v59 val_main_v58 val_main_v57 val_main_v56 val_main_v55 val_main_v54
  generalize val_main_v53 (F := Ideal) x0 x1 x2 x3 x4 = z
  pointwise [val_main_cst_4, val_main_cst_5]
  have e : begins p ↔ p.val < 2048 ∧ p.val % 64 = 0 ∨ p.val = 2048 := by unfold begins; split_ifs <;> omega
  by_cases hb : begins p
  · have hc := e.mp hb
    refine Eq.trans ?_ (if_pos hb).symm
    split_ifs <;> first | rfl | omega
  · have hc := mt e.mpr hb
    refine Eq.trans ?_ (if_neg hb).symm
    split_ifs
    all_goals first
      | omega
      | (refine congrArg z (congrFun (congrArg (ix3 b) (Fin.ext ?_)) j); dsimp only; omega)

/-- The convolution's input one token after. -/
theorem after_apply (b : Fin 16) (p : Fin 2304) (j : Fin 256) : val_main_v66 (F := Ideal) x0 x1 x2 x3 x4 (ix3 b p j)
    = after (projAt 0 (joined x0 x1) x2 x3 x4 b) p j := by
  unfold after
  simp only [← zin_apply]
  unfold val_main_v66 val_main_v65 val_main_v64 val_main_v63 val_main_v58 val_main_v57 val_main_v56 val_main_v55 val_main_v54
  generalize val_main_v53 (F := Ideal) x0 x1 x2 x3 x4 = z
  pointwise [val_main_cst_4, val_main_cst_5]
  have e : ends p ↔ p.val < 2048 ∧ p.val % 64 = 63 ∨ p.val = 2303 := by unfold ends; split_ifs <;> omega
  by_cases hb : ends p
  · have hc := e.mp hb
    refine Eq.trans ?_ (dif_pos hb).symm
    split_ifs <;> first | rfl | omega
  · have hc := mt e.mpr hb
    refine Eq.trans ?_ (dif_neg hb).symm
    split_ifs
    all_goals first
      | omega
      | (refine congrArg z (congrFun (congrArg (ix3 b) (Fin.ext ?_)) j); dsimp only; omega)

/-- The gated convolution. -/
theorem conv_apply (b : Fin 16) (p : Fin 2304) (j : Fin 256) : val_main_v101 (F := Ideal) x0 x1 x2 x3 x4 x6 (ix3 b p j)
    = convAt (projAt 0 (joined x0 x1) x2 x3 x4 b) (fun q j => x6 (ix3 0 ⟨q.val, by omega⟩ j)) p j := by
  unfold convAt
  simp only [← zin_apply, ← before_apply, ← after_apply, ← main_apply]
  unfold val_main_v101 val_main_v100 val_main_v77 val_main_v76 val_main_v73 val_main_v72 val_main_v69
  generalize val_main_v37 (F := Ideal) x0 x1 x2 x3 x4 = P
  generalize val_main_v53 (F := Ideal) x0 x1 x2 x3 x4 = z
  generalize val_main_v62 (F := Ideal) x0 x1 x2 x3 x4 = zb
  generalize val_main_v66 (F := Ideal) x0 x1 x2 x3 x4 = za
  pointwise [val_main_v75, val_main_v74, val_main_v71, val_main_v70, val_main_v68, val_main_v67]

/-- The normalised row of 256. -/
theorem vrow_apply (b : Fin 16) (p : Fin 2304) (j : Fin 256) : val_main_v91 (F := Ideal) x0 x1 x2 x3 x4 x7 (ix3 b p j)
    = vAt (projAt 0 (joined x0 x1) x2 x3 x4 b) (fun j => x7 (ix3 0 0 j)) p j := by
  unfold vAt
  simp only [← main_apply]
  unfold val_main_v91 val_main_v89 val_main_v88 val_main_v87 val_main_v86 val_main_v84 val_main_v82 val_main_v81 val_main_v80 val_main_v78
  generalize val_main_v37 (F := Ideal) x0 x1 x2 x3 x4 = P
  pointwise [val_main_v90, val_main_v85, val_main_v83, val_main_v79, val_main_cst_6, val_main_cst_7, val_main_cst_8]

/-- The gated product over the tokens of a chunk, with its bias, of any projection and any rows, at an element. -/
theorem tokens_stage (P : FVec Ideal S16x2304x3344 .f32) (v : FVec Ideal S16x2304x256 .f32) (b : Fin 16) (p : Fin 2304) (j : Fin 256) :
    mulf (F := Ideal) (φ := .f32) (extractStridedSlice S16x2304x256 ![0, 0, 2832] P slices_S16x2304x3344_S16x2304x256_0_0_2832)
      (shapeCast S16x2304x256 (addf (F := Ideal) (φ := .f32) (shapeCast S16x18x128x256 (transpose S16x18x128x4x64 [1, 2, 4, 0, 3]
          (Host.dotGeneral (F := Ideal) (φ₁ := .f32) (φ₂ := .f32) dot_S16x18x128x4x64_S128x4x128_S4x16x18x64x128_2_2_014_0_3_1 none
            (shapeCast S16x18x128x4x64 v shapeCasts_S16x2304x256_S16x18x128x4x64) (val_main_v9 (F := Ideal) x8))
          transposes_S4x16x18x64x128_S16x18x128x4x64_1_2_4_0_3) shapeCasts_S16x18x128x4x64_S16x18x128x256) (val_main_v98 (F := Ideal) x9))
        shapeCasts_S16x18x128x256_S16x2304x256) (ix3 b p j)
    = P (ix3 b p ⟨2832 + j.val, by omega⟩) * (x9 (ix3 0 ⟨p.val % 128, by omega⟩ j)
      + ∑ s : Fin 128, x8 (ix3 0 ⟨p.val % 128, by omega⟩ ⟨j.val / 64 * 128 + s.val, by omega⟩) * v (ix3 b ⟨p.val / 128 * 128 + s.val, by omega⟩ j)) := by
  pointwise [val_main_v98, val_main_v97, val_main_v96, val_main_v9, val_main_v6, val_main_v5]
  rw [add_comm (x9 _)]
  exact congrArg (_ * ·) (congrArg (· + _) (Finset.sum_congr rfl fun k _ => mul_comm _ _))

/-- The product over the tokens of a chunk, with its bias. -/
theorem tokens_apply (b : Fin 16) (p : Fin 2304) (j : Fin 256) : val_main_v104 (F := Ideal) x0 x1 x2 x3 x4 x7 x8 x9 (ix3 b p j)
    = gmAt (projAt 0 (joined x0 x1) x2 x3 x4 b) (fun j => x7 (ix3 0 0 j)) (fun s q => x8 (ix3 0 s q)) (fun s j => x9 (ix3 0 s j)) p j := by
  unfold gmAt
  simp only [← vrow_apply, ← main_apply]
  unfold val_main_v104 val_main_v103 val_main_v102 val_main_v99 val_main_v95 val_main_v94 val_main_v93 val_main_v92
  generalize val_main_v37 (F := Ideal) x0 x1 x2 x3 x4 = P
  generalize val_main_v91 (F := Ideal) x0 x1 x2 x3 x4 x7 = v
  exact tokens_stage x8 x9 P v b p j

/-- The second result at an element. -/
theorem mix_apply (b : Fin 16) (p : Fin 2304) (j : Fin 512) : val_main_v107 (F := Ideal) x0 x1 x2 x3 x4 x6 x7 x8 x9 (ix3 b p j)
    = mixR 0 (joined x0 x1) x2 x3 x4 x6 x7 x8 x9 (ix3 b p j) := by
  unfold mixR mixAt
  unfold val_main_v107 val_main_v105
  generalize hu : val_main_v101 (F := Ideal) x0 x1 x2 x3 x4 x6 = u
  generalize hv : val_main_v104 (F := Ideal) x0 x1 x2 x3 x4 x7 x8 x9 = v
  pointwise []
  by_cases h : j.val < 256
  · rw [dif_pos h, dif_pos h]
    exact (congrFun hu _).symm.trans (conv_apply x0 x1 x2 x3 x4 x6 b p _)
  · rw [dif_neg h, dif_neg h]
    exact (congrFun hv _).symm.trans (tokens_apply x0 x1 x2 x3 x4 x7 x8 x9 b p _)

/-! ## The five arrays -/

/-- The first result, of the arguments. -/
theorem pml_eq : val_main_v106 (F := Ideal) x0 x1 x2 x3 x4 = pmlR 0 (joined x0 x1) x2 x3 x4 := by
  funext i
  have e : i = ix3 (i 0) (i 1) (i 2) := funext fun a => by fin_cases a <;> rfl
  rw [e]
  exact pml_apply x0 x1 x2 x3 x4 (i 0) (i 1) (i 2)

/-- The second result, of the arguments. -/
theorem mix_eq : val_main_v107 (F := Ideal) x0 x1 x2 x3 x4 x6 x7 x8 x9 = mixR 0 (joined x0 x1) x2 x3 x4 x6 x7 x8 x9 := by
  funext i
  have e : i = ix3 (i 0) (i 1) (i 2) := funext fun a => by fin_cases a <;> rfl
  rw [e]
  exact mix_apply x0 x1 x2 x3 x4 x6 x7 x8 x9 (i 0) (i 1) (i 2)

/-- The third result, of the arguments. -/
theorem kt_eq : val_main_v108 (F := Ideal) x0 x1 x2 x3 x5 = ktR 0 (joined x0 x1) x2 x3 x5 := by
  funext i
  have e : i = ix4 (i 0) (i 1) (i 2) (i 3) := funext fun a => by fin_cases a <;> rfl
  rw [e]
  exact kt_apply x0 x1 x2 x3 x5 (i 0) (i 1) (i 2) (i 3)

/-- The fourth result, of the arguments. -/
theorem gi_eq : val_main_v48 (F := Ideal) x0 x1 x2 x3 x5 = giR 0 (joined x0 x1) x2 x3 x5 := by
  funext i
  have e : i = ix3 (i 0) (i 1) (i 2) := funext fun a => by fin_cases a <;> rfl
  rw [e]
  exact gi_apply x0 x1 x2 x3 x5 (i 0) (i 1) (i 2)

/-- The fifth result, of the arguments. -/
theorem gf_eq : val_main_v50 (F := Ideal) x0 x1 x2 x3 x5 = gfR 0 (joined x0 x1) x2 x3 x5 := by
  funext i
  have e : i = ix3 (i 0) (i 1) (i 2) := funext fun a => by fin_cases a <;> rfl
  rw [e]
  exact gf_apply x0 x1 x2 x3 x5 (i 0) (i 1) (i 2)

end Cert.InProjFirstRefIdeal.Hand

end
-- ==== Proof.lean ====
/- The certificate: the frames of every program, and the value claims of the table of modulations and of a layer's
   first and second half, each put together from the kernel's arrays (Value.lean of the call) and the reference's
   (Reference.lean of the call). -/
module

public import proofs.«01_k».proof.Defs
public import proofs.«01_k».proof.Proof.Mlstm.Frame
public import proofs.«01_k».proof.Proof.MlstmI.Frame
public import proofs.«01_k».proof.Proof.Gen.OutFfn.Frame
public import proofs.«01_k».proof.Proof.OutFfn.Value
public import proofs.«01_k».proof.Proof.OutFfn.Reference
public import proofs.«01_k».proof.Proof.Gen.OutFfnLast.Frame
public import proofs.«01_k».proof.Proof.OutFfnLast.Value
public import proofs.«01_k».proof.Proof.OutFfnLast.Reference
public import proofs.«01_k».proof.Proof.Gen.InProj.Frame
public import proofs.«01_k».proof.Proof.InProj.Value
public import proofs.«01_k».proof.Proof.InProj.Reference
public import proofs.«01_k».proof.Proof.Gen.Ada.Frame
public import proofs.«01_k».proof.Proof.Ada.Value
public import proofs.«01_k».proof.Proof.Ada.Reference
public import proofs.«01_k».proof.Proof.Gen.OutFfnFirst.Frame
public import proofs.«01_k».proof.Proof.OutFfnFirst.Value
public import proofs.«01_k».proof.Proof.OutFfnFirst.Reference
public import proofs.«01_k».proof.Proof.Gen.InProjFirst.Frame
public import proofs.«01_k».proof.Proof.InProjFirst.Value
public import proofs.«01_k».proof.Proof.InProjFirst.Reference
public import Idealize.ShloMosaic.Adequacy
public import Idealize.ShloMosaic.Init

@[expose] public section

noncomputable section

namespace Cert.Proof

open Idealize.ShloMosaic Idealize.SL.Sem Idealize.ShloMosaic.TcCoe

/-- The reference of a middle layer's second half keeps its arguments; it declares no semaphore. -/
theorem frame_outFfnRef : Cert.quiescent_OutFfnRefIdeal := fun m ρ _ =>
  (θ_run Cert.OutFfnRefIdeal.defs _ _).mono (fun r h => ⟨fun c => (h c).2, sem_eq_zero_of_no_sems (by decide) r.2⟩)
    (Cert.OutFfnRefIdeal.Value.run (F := Ideal) m ρ)

/-- The reference of the last layer's second half keeps its arguments; it declares no semaphore. -/
theorem frame_outFfnLastRef : Cert.quiescent_OutFfnLastRefIdeal := fun m ρ _ =>
  (θ_run Cert.OutFfnLastRefIdeal.defs _ _).mono (fun r h => ⟨fun c => (h c).2, sem_eq_zero_of_no_sems (by decide) r.2⟩)
    (Cert.OutFfnLastRefIdeal.Value.run (F := Ideal) m ρ)

/-- The reference of the input projection keeps its arguments; it declares no semaphore. -/
theorem frame_inProjRef : Cert.quiescent_InProjRefIdeal := fun m ρ _ =>
  (θ_run Cert.InProjRefIdeal.defs _ _).mono
    (fun r h => ⟨fun c => (h c).2.2.2.2.2, sem_eq_zero_of_no_sems (by decide) r.2⟩) (Cert.InProjRefIdeal.Value.run (F := Ideal) m ρ)

/-- The reference of the table of modulations keeps its arguments; it declares no semaphore. -/
theorem frame_adaRef : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The reference of the first layer's second half keeps its arguments; it declares no semaphore. -/
theorem frame_outFfnFirstRef : Cert.quiescent_OutFfnFirstRefIdeal := fun m ρ _ =>
  (θ_run Cert.OutFfnFirstRefIdeal.defs _ _).mono (fun r h => ⟨fun c => (h c).2, sem_eq_zero_of_no_sems (by decide) r.2⟩)
    (Cert.OutFfnFirstRefIdeal.Value.run (F := Ideal) m ρ)

/-- The reference of the first layer's input projection keeps its arguments; it declares no semaphore. -/
theorem frame_inProjFirstRef : Cert.quiescent_InProjFirstRefIdeal := fun m ρ _ =>
  (θ_run Cert.InProjFirstRefIdeal.defs _ _).mono
    (fun r h => ⟨fun c => (h c).2.2.2.2.2, sem_eq_zero_of_no_sems (by decide) r.2⟩) (Cert.InProjFirstRefIdeal.Value.run (F := Ideal) m ρ)

section
open Cert.OutFfnRefIdeal

/-- The reference of a middle layer's second half, as one array: at every element the row formula of layer 1. -/
theorem outFfnRef_eq (m : (ℓ : Loc nD τ sig) → Buf (Elt Ideal) ℓ) (c : Dev nD) : Value.res_main_v57 m c = fun i =>
    Cert.Rows.G 1 (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) (i 0) (i 1) (i 2) := by
  rw [Read.val_main_v57_eq]
  funext i
  refine Eq.trans (congrArg _ (funext fun a => ?_)) (Hand.result_apply _ _ _ _ _ _ _ _ _ (i 0) (i 1) (i 2))
  fin_cases a <;> rfl

end

section
open Cert.OutFfnFirstRefIdeal

/-- The reference of the first layer's second half, as one array: at every element the row formula of layer 0. -/
theorem outFfnFirstRef_eq (m : (ℓ : Loc nD τ sig) → Buf (Elt Ideal) ℓ) (c : Dev nD) : Value.res_main_v58 m c = fun i =>
    Cert.Rows.G 0 (Cert.Rows.joined (m (c.tc.loc main_arg0)) (m (c.tc.loc main_arg1))) (m (c.tc.loc main_arg2)) (m (c.tc.loc main_arg3))
      (m (c.tc.loc main_arg4)) (m (c.tc.loc main_arg5)) (m (c.tc.loc main_arg6)) (m (c.tc.loc main_arg7)) (m (c.tc.loc main_arg8))
      (m (c.tc.loc main_arg9)) (i 0) (i 1) (i 2) := by
  rw [Read.val_main_v58_eq]
  funext i
  refine Eq.trans (congrArg _ (funext fun a => ?_)) (Hand.result_apply _ _ _ _ _ _ _ _ _ _ (i 0) (i 1) (i 2))
  fin_cases a <;> rfl

end

section
open Cert.OutFfnLastRefIdeal

/-- The reference of the last layer's second half, as one array: at every element the normalised row formula of layer 3. -/
theorem outFfnLastRef_eq (m : (ℓ : Loc nD τ sig) → Buf (Elt Ideal) ℓ) (c : Dev nD) : Value.res_main_v78 m c = fun i =>
    Cert.Rows.lastRow (Cert.Rows.G 3 (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8))
      (i 0) (Hand.lat (i 1))) (fun k => m (c.tc.loc main_arg9) (ix2 0 k)) (i 2) := by
  rw [Read.val_main_v78_eq]
  funext i
  refine Eq.trans (congrArg _ (funext fun a => ?_)) (Hand.result_apply _ _ _ _ _ _ _ _ _ _ (i 0) (i 1) (i 2))
  fin_cases a <;> rfl

end

/-- A middle layer's second half: the kernel and the reference end with one array. -/
theorem algebraic_outFfn : Cert.algebraic_OutFfnIdeal_OutFfnRefIdeal := by
  intro m ρ m' ρ' _ hag
  refine ⟨_, (θ_run Cert.OutFfnIdeal.defs _ _).mono (fun r h c => ⟨(h c).1.trans (Cert.OutFfnIdeal.Hand.arr_eq m c), (h c).2⟩)
      (Cert.OutFfnIdeal.Value.run_blocks m ρ),
    (θ_run Cert.OutFfnRefIdeal.defs _ _).mono (fun r h c => ⟨(h c).1.trans ?_, (h c).2⟩) (Cert.OutFfnRefIdeal.Value.run m' ρ')⟩
  obtain ⟨h0, h1, h2, h3, h4, h5, h6, h7, h8, -⟩ := hag c
  rw [outFfnRef_eq, h0, h1, h2, h3, h4, h5, h6, h7, h8]
  rfl

/-- The first layer's second half: the kernel and the reference end with one array. -/
theorem algebraic_outFfnFirst : Cert.algebraic_OutFfnFirstIdeal_OutFfnFirstRefIdeal := by
  intro m ρ m' ρ' _ hag
  refine ⟨_, (θ_run Cert.OutFfnFirstIdeal.defs _ _).mono (fun r h c => ⟨(h c).1.trans (Cert.OutFfnFirstIdeal.Hand.arr_eq m c), (h c).2⟩)
      (Cert.OutFfnFirstIdeal.Value.run_blocks m ρ),
    (θ_run Cert.OutFfnFirstRefIdeal.defs _ _).mono (fun r h c => ⟨(h c).1.trans ?_, (h c).2⟩) (Cert.OutFfnFirstRefIdeal.Value.run m' ρ')⟩
  obtain ⟨h0, h1, h2, h3, h4, h5, h6, h7, h8, h9, -⟩ := hag c
  rw [outFfnFirstRef_eq, h0, h1, h2, h3, h4, h5, h6, h7, h8, h9]
  rfl

/-- The last layer's second half and the model's final normalisation: the kernel and the reference end with one array. -/
theorem algebraic_outFfnLast : Cert.algebraic_OutFfnLastIdeal_OutFfnLastRefIdeal := by
  intro m ρ m' ρ' _ hag
  refine ⟨_, (θ_run Cert.OutFfnLastIdeal.defs _ _).mono (fun r h c => ⟨(h c).1.trans (Cert.OutFfnLastIdeal.Hand.arr_eq m c), (h c).2⟩)
      (Cert.OutFfnLastIdeal.Value.run_blocks m ρ),
    (θ_run Cert.OutFfnLastRefIdeal.defs _ _).mono (fun r h c => ⟨(h c).1.trans ?_, (h c).2⟩) (Cert.OutFfnLastRefIdeal.Value.run m' ρ')⟩
  obtain ⟨h0, h1, h2, h3, h4, h5, h6, h7, h8, h9⟩ := hag c
  rw [outFfnLastRef_eq, h0, h1, h2, h3, h4, h5, h6, h7, h8, h9]
  rfl

/-- The input projection: the kernel and the reference end with the same five arrays. -/
theorem algebraic_inProj : Cert.algebraic_InProjIdeal_InProjRefIdeal := by
  intro m ρ m' ρ' _ hag
  refine ⟨_, _, _, _, _, (θ_run Cert.InProjIdeal.defs _ _).mono (fun r h c => by
      obtain ⟨e0, e1, e2, e3, e4, e⟩ := h c
      exact ⟨e0.trans (Cert.InProjIdeal.Hand.arr13 m c), e1.trans (Cert.InProjIdeal.Hand.arr14 m c), e2.trans (Cert.InProjIdeal.Hand.arr15 m c),
        e3.trans (Cert.InProjIdeal.Hand.arr16 m c), e4.trans (Cert.InProjIdeal.Hand.arr17 m c), e⟩) (Cert.InProjIdeal.Value.run_blocks m ρ),
    (θ_run Cert.InProjRefIdeal.defs _ _).mono (fun r h c => ?_) (Cert.InProjRefIdeal.Value.run m' ρ')⟩
  obtain ⟨e0, e1, e2, e3, e4, e⟩ := h c
  obtain ⟨h0, h1, h2, h3, h4, h5, h6, h7, h8⟩ := hag c
  rw [Cert.InProjRefIdeal.Read.val_main_v105_eq, Cert.InProjRefIdeal.Hand.pml_eq, h0, h1, h2, h3] at e0
  rw [Cert.InProjRefIdeal.Read.val_main_v106_eq, Cert.InProjRefIdeal.Hand.mix_eq, h0, h1, h2, h3, h5, h6, h7, h8] at e1
  rw [Cert.InProjRefIdeal.Read.val_main_v107_eq, Cert.InProjRefIdeal.Hand.kt_eq, h0, h1, h2, h4] at e2
  rw [Cert.InProjRefIdeal.Read.val_main_v47_eq, Cert.InProjRefIdeal.Hand.gi_eq, h0, h1, h2, h4] at e3
  rw [Cert.InProjRefIdeal.Read.val_main_v49_eq, Cert.InProjRefIdeal.Hand.gf_eq, h0, h1, h2, h4] at e4
  exact ⟨e0, e1, e2, e3, e4, e⟩

/-- The first layer's input projection: the kernel and the reference end with the same five arrays. -/
theorem algebraic_inProjFirst : Cert.algebraic_InProjFirstIdeal_InProjFirstRefIdeal := by
  intro m ρ m' ρ' _ hag
  refine ⟨_, _, _, _, _, (θ_run Cert.InProjFirstIdeal.defs _ _).mono (fun r h c => by
      obtain ⟨e0, e1, e2, e3, e4, e⟩ := h c
      exact ⟨e0.trans (Cert.InProjFirstIdeal.Hand.arr13 m c), e1.trans (Cert.InProjFirstIdeal.Hand.arr14 m c), e2.trans (Cert.InProjFirstIdeal.Hand.arr15 m c),
        e3.trans (Cert.InProjFirstIdeal.Hand.arr16 m c), e4.trans (Cert.InProjFirstIdeal.Hand.arr17 m c), e⟩) (Cert.InProjFirstIdeal.Value.run_blocks m ρ),
    (θ_run Cert.InProjFirstRefIdeal.defs _ _).mono (fun r h c => ?_) (Cert.InProjFirstRefIdeal.Value.run m' ρ')⟩
  obtain ⟨e0, e1, e2, e3, e4, e⟩ := h c
  obtain ⟨h0, h1, h2, h3, h4, h5, h6, h7, h8, h9⟩ := hag c
  rw [Cert.InProjFirstRefIdeal.Read.val_main_v106_eq, Cert.InProjFirstRefIdeal.Hand.pml_eq, h0, h1, h2, h3, h4] at e0
  rw [Cert.InProjFirstRefIdeal.Read.val_main_v107_eq, Cert.InProjFirstRefIdeal.Hand.mix_eq, h0, h1, h2, h3, h4, h6, h7, h8, h9] at e1
  rw [Cert.InProjFirstRefIdeal.Read.val_main_v108_eq, Cert.InProjFirstRefIdeal.Hand.kt_eq, h0, h1, h2, h3, h5] at e2
  rw [Cert.InProjFirstRefIdeal.Read.val_main_v48_eq, Cert.InProjFirstRefIdeal.Hand.gi_eq, h0, h1, h2, h3, h5] at e3
  rw [Cert.InProjFirstRefIdeal.Read.val_main_v50_eq, Cert.InProjFirstRefIdeal.Hand.gf_eq, h0, h1, h2, h3, h5] at e4
  exact ⟨e0, e1, e2, e3, e4, e⟩

/-- The table of modulations: the kernel and the reference end with one array. -/
theorem algebraic_ada : Cert.algebraic_AdaIdeal_AdaRefIdeal := by
  intro m ρ m' ρ' _ hag
  refine ⟨_, (θ_run Cert.AdaIdeal.defs _ _).mono (fun r h c => ⟨(h c).1.trans (Cert.AdaIdeal.Hand.arr_eq m c), (h c).2⟩)
      (Cert.AdaIdeal.Value.run_blocks m ρ),
    (θ_run Cert.AdaRefIdeal.defs _ _).mono (fun r h c => ⟨(h c).1.trans ?_, (h c).2⟩) (Cert.AdaRefIdeal.Value.run m' ρ')⟩
  obtain ⟨h0, h1, h2⟩ := hag c
  rw [Cert.AdaRefIdeal.Read.val_main_v5_eq, Cert.AdaRefIdeal.Hand.table_eq, h0, h1, h2]

/-- The claims together, after the programs' facts. Neither ideal program rewrites an operation, so the ledgers are empty. -/
theorem claim : Cert.Claim :=
  ⟨Cert.Mlstm.Gen.facts, Cert.MlstmIdeal.Gen.facts, Cert.OutFfn.Gen.facts, Cert.OutFfnIdeal.Gen.facts, Cert.OutFfnRefIdeal.Gen.facts,
    Cert.OutFfnLast.Gen.facts, Cert.OutFfnLastIdeal.Gen.facts, Cert.OutFfnLastRefIdeal.Gen.facts,
    Cert.InProj.Gen.facts, Cert.InProjIdeal.Gen.facts, Cert.InProjRefIdeal.Gen.facts,
    Cert.Ada.Gen.facts, Cert.AdaIdeal.Gen.facts, Cert.AdaRefIdeal.Gen.facts,
    Cert.OutFfnFirst.Gen.facts, Cert.OutFfnFirstIdeal.Gen.facts, Cert.OutFfnFirstRefIdeal.Gen.facts,
    Cert.InProjFirst.Gen.facts, Cert.InProjFirstIdeal.Gen.facts, Cert.InProjFirstRefIdeal.Gen.facts,
    fun m ρ _ => Cert.Mlstm.Hand.frame m ρ, fun m ρ _ => Cert.MlstmIdeal.Hand.frame m ρ,
    fun m ρ _ => Cert.OutFfn.Gen.frame m ρ, fun m ρ _ => Cert.OutFfnIdeal.Gen.frame m ρ, frame_outFfnRef,
    fun m ρ _ => Cert.OutFfnLast.Gen.frame m ρ, fun m ρ _ => Cert.OutFfnLastIdeal.Gen.frame m ρ, frame_outFfnLastRef,
    fun m ρ _ => Cert.InProj.Gen.frame m ρ, fun m ρ _ => Cert.InProjIdeal.Gen.frame m ρ, frame_inProjRef,
    fun m ρ _ => Cert.Ada.Gen.frame m ρ, fun m ρ _ => Cert.AdaIdeal.Gen.frame m ρ, frame_adaRef,
    fun m ρ _ => Cert.OutFfnFirst.Gen.frame m ρ, fun m ρ _ => Cert.OutFfnFirstIdeal.Gen.frame m ρ, frame_outFfnFirstRef,
    fun m ρ _ => Cert.InProjFirst.Gen.frame m ρ, fun m ρ _ => Cert.InProjFirstIdeal.Gen.frame m ρ, frame_inProjFirstRef,
    trivial, trivial, algebraic_outFfn, trivial, algebraic_outFfnLast, trivial, algebraic_inProj, trivial, algebraic_ada, trivial, algebraic_outFfnFirst,
    trivial, algebraic_inProjFirst⟩

end Cert.Proof

end
